-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_inputs [hPre_finite_inputs : Cert.Pre_finite_inputs.Facts] (m : (ℓ : Loc Cert.TailIdeal.nD Cert.TailIdeal.τ Cert.TailIdeal.sig) → Buf (Elt Ideal) ℓ) : Prop :=
  ∀ c : Dev Cert.TailIdeal.nD,
    (Cert.Pre_finite_inputs.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10)) (m ((c.tc : Thread Cert.TailIdeal.nD Cert.TailIdeal.τ).loc Cert.TailIdeal.main_arg11)) (m ((c.tc : Thread Cert.TailIdeal.nD Cert.TailIdeal.τ).loc Cert.TailIdeal.main_arg12)) (m ((c.tc : Thread Cert.TailIdeal.nD Cert.TailIdeal.τ).loc Cert.TailIdeal.main_arg13))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_inputs [hPre_finite_inputs : Cert.Pre_finite_inputs.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_inputs.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10)) (m ((c.tc : Thread Cert.TailRefIdeal.nD Cert.TailRefIdeal.τ).loc Cert.TailRefIdeal.main_arg11)) (m ((c.tc : Thread Cert.TailRefIdeal.nD Cert.TailRefIdeal.τ).loc Cert.TailRefIdeal.main_arg12)) (m ((c.tc : Thread Cert.TailRefIdeal.nD Cert.TailRefIdeal.τ).loc Cert.TailRefIdeal.main_arg13))) = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_scores [hPre_finite_scores : Cert.Pre_finite_scores.Facts] (m : (ℓ : Loc Cert.XattnIdeal.nD Cert.XattnIdeal.τ Cert.XattnIdeal.sig) → Buf (Elt Ideal) ℓ) : Prop :=
  ∀ c : Dev Cert.XattnIdeal.nD,
    (Cert.Pre_finite_scores.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_finite_scores [hPre_finite_scores : Cert.Pre_finite_scores.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_finite_scores.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4)) (m ((c.tc : Thread Cert.XattnRefIdeal.nD Cert.XattnRefIdeal.τ).loc Cert.XattnRefIdeal.main_arg5)) (m ((c.tc : Thread Cert.XattnRefIdeal.nD Cert.XattnRefIdeal.τ).loc Cert.XattnRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_gates [hPre_finite_gates : Cert.Pre_finite_gates.Facts] (m : (ℓ : Loc Cert.MixerIdeal.nD Cert.MixerIdeal.τ Cert.MixerIdeal.sig) → Buf (Elt Ideal) ℓ) : Prop :=
  ∀ c : Dev Cert.MixerIdeal.nD,
    (Cert.Pre_finite_gates.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_gates [hPre_finite_gates : Cert.Pre_finite_gates.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_gates.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13))) = (fun _ => 1#1)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailIdeal_pre_finite_inputs [hTailIdeal : Cert.TailIdeal.Facts] [hPre_finite_inputs : Cert.Pre_finite_inputs.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_inputs m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_TailRefIdeal_pre_finite_inputs [hTailRefIdeal : Cert.TailRefIdeal.Facts] [hPre_finite_inputs : Cert.Pre_finite_inputs.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_inputs m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnIdeal_pre_finite_scores [hXattnIdeal : Cert.XattnIdeal.Facts] [hPre_finite_scores : Cert.Pre_finite_scores.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_scores m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_XattnRefIdeal_pre_finite_scores [hXattnRefIdeal : Cert.XattnRefIdeal.Facts] [hPre_finite_scores : Cert.Pre_finite_scores.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_finite_scores m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerIdeal_pre_finite_gates [hMixerIdeal : Cert.MixerIdeal.Facts] [hPre_finite_gates : Cert.Pre_finite_gates.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_gates m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13))
      ∧ r.2.sem = fun _ => 0)

def quiescent_MixerRefIdeal_pre_finite_gates [hMixerRefIdeal : Cert.MixerRefIdeal.Facts] [hPre_finite_gates : Cert.Pre_finite_gates.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_gates m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13))
      ∧ r.2.sem = fun _ => 0)

def preserves_Tail_TailIdeal : Prop :=
  True

def algebraic_TailIdeal_TailRefIdeal_pre_finite_inputs [hTailIdeal : Cert.TailIdeal.Facts] [hTailRefIdeal : Cert.TailRefIdeal.Facts] [hPre_finite_inputs : Cert.Pre_finite_inputs.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_inputs m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)) →
    ∃ (v0 : (c : Dev Cert.TailIdeal.nD) → Buf (Elt Ideal) ((c.tc : Thread Cert.TailIdeal.nD Cert.TailIdeal.τ).loc Cert.TailIdeal.main_v27)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v27) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v110) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13))

def preserves_Xattn_XattnIdeal : Prop :=
  True

def algebraic_XattnIdeal_XattnRefIdeal_pre_finite_scores [hXattnIdeal : Cert.XattnIdeal.Facts] [hXattnRefIdeal : Cert.XattnRefIdeal.Facts] [hPre_finite_scores : Cert.Pre_finite_scores.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_finite_scores m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)) →
    ∃ (v0 : (c : Dev Cert.XattnIdeal.nD) → Buf (Elt Ideal) ((c.tc : Thread Cert.XattnIdeal.nD Cert.XattnIdeal.τ).loc Cert.XattnIdeal.main_v8)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v8) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v53) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v39) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v6_0)) (v1 : (c : Dev Cert.MemkvIdeal.nD) → Buf (Elt Ideal) ((c.tc : Thread Cert.MemkvIdeal.nD Cert.MemkvIdeal.τ).loc Cert.MemkvIdeal.main_v6_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v6_0) = v0 c
          ∧ r.2.mem ((c.tc : Thread Cert.MemkvIdeal.nD Cert.MemkvIdeal.τ).loc Cert.MemkvIdeal.main_v6_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v21) = v0 c
          ∧ r.2.mem ((c.tc : Thread Cert.MemkvRefIdeal.nD Cert.MemkvRefIdeal.τ).loc Cert.MemkvRefIdeal.main_v22) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Mixer_MixerIdeal : Prop :=
  True

def algebraic_MixerIdeal_MixerRefIdeal_pre_finite_gates [hMixerIdeal : Cert.MixerIdeal.Facts] [hMixerRefIdeal : Cert.MixerRefIdeal.Facts] [hPre_finite_gates : Cert.Pre_finite_gates.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_gates m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)) →
    ∃ (v0 : (c : Dev Cert.MixerIdeal.nD) → Buf (Elt Ideal) ((c.tc : Thread Cert.MixerIdeal.nD Cert.MixerIdeal.τ).loc Cert.MixerIdeal.main_v44)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v44) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v409) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13))

def Claim : Prop :=
  ∃ (hTail : Cert.Tail.Facts) (hTailIdeal : Cert.TailIdeal.Facts) (hTailRefIdeal : Cert.TailRefIdeal.Facts) (hXattn : Cert.Xattn.Facts) (hXattnIdeal : Cert.XattnIdeal.Facts) (hXattnRefIdeal : Cert.XattnRefIdeal.Facts) (hFfn : Cert.Ffn.Facts) (hFfnIdeal : Cert.FfnIdeal.Facts) (hFfnRefIdeal : Cert.FfnRefIdeal.Facts) (hMemkv : Cert.Memkv.Facts) (hMemkvIdeal : Cert.MemkvIdeal.Facts) (hMemkvRefIdeal : Cert.MemkvRefIdeal.Facts) (hMixer : Cert.Mixer.Facts) (hMixerIdeal : Cert.MixerIdeal.Facts) (hMixerRefIdeal : Cert.MixerRefIdeal.Facts) (hPre_finite_inputs : Cert.Pre_finite_inputs.Facts) (hPre_finite_scores : Cert.Pre_finite_scores.Facts) (hPre_finite_gates : Cert.Pre_finite_gates.Facts),
    quiescent_Tail (hTail := hTail)
    ∧ quiescent_TailIdeal (hTailIdeal := hTailIdeal)
    ∧ quiescent_TailIdeal_pre_finite_inputs (hTailIdeal := hTailIdeal) (hPre_finite_inputs := hPre_finite_inputs)
    ∧ quiescent_TailRefIdeal (hTailRefIdeal := hTailRefIdeal)
    ∧ quiescent_TailRefIdeal_pre_finite_inputs (hTailRefIdeal := hTailRefIdeal) (hPre_finite_inputs := hPre_finite_inputs)
    ∧ quiescent_Xattn (hXattn := hXattn)
    ∧ quiescent_XattnIdeal (hXattnIdeal := hXattnIdeal)
    ∧ quiescent_XattnIdeal_pre_finite_scores (hXattnIdeal := hXattnIdeal) (hPre_finite_scores := hPre_finite_scores)
    ∧ quiescent_XattnRefIdeal (hXattnRefIdeal := hXattnRefIdeal)
    ∧ quiescent_XattnRefIdeal_pre_finite_scores (hXattnRefIdeal := hXattnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Mixer (hMixer := hMixer)
    ∧ quiescent_MixerIdeal (hMixerIdeal := hMixerIdeal)
    ∧ quiescent_MixerIdeal_pre_finite_gates (hMixerIdeal := hMixerIdeal) (hPre_finite_gates := hPre_finite_gates)
    ∧ quiescent_MixerRefIdeal (hMixerRefIdeal := hMixerRefIdeal)
    ∧ quiescent_MixerRefIdeal_pre_finite_gates (hMixerRefIdeal := hMixerRefIdeal) (hPre_finite_gates := hPre_finite_gates)
    ∧ preserves_Tail_TailIdeal
    ∧ algebraic_TailIdeal_TailRefIdeal_pre_finite_inputs (hTailIdeal := hTailIdeal) (hTailRefIdeal := hTailRefIdeal) (hPre_finite_inputs := hPre_finite_inputs)
    ∧ preserves_Xattn_XattnIdeal
    ∧ algebraic_XattnIdeal_XattnRefIdeal_pre_finite_scores (hXattnIdeal := hXattnIdeal) (hXattnRefIdeal := hXattnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Memkv_MemkvIdeal
    ∧ algebraic_MemkvIdeal_MemkvRefIdeal (hMemkvIdeal := hMemkvIdeal) (hMemkvRefIdeal := hMemkvRefIdeal)
    ∧ preserves_Mixer_MixerIdeal
    ∧ algebraic_MixerIdeal_MixerRefIdeal_pre_finite_gates (hMixerIdeal := hMixerIdeal) (hMixerRefIdeal := hMixerRefIdeal) (hPre_finite_gates := hPre_finite_gates)
-- ==== Pre_finite_gates.lean ====
abbrev S8x8192x1024 : Shape := ⟨3, ![8, 8192, 1024]⟩
abbrev S1x1024 : Shape := ⟨2, ![1, 1024]⟩
abbrev S1x1024x3080 : Shape := ⟨3, ![1, 1024, 3080]⟩
abbrev S1x31x512 : Shape := ⟨3, ![1, 31, 512]⟩
abbrev S1x512 : Shape := ⟨2, ![1, 512]⟩
abbrev S1x4x1024 : Shape := ⟨3, ![1, 4, 1024]⟩
abbrev S1x4 : Shape := ⟨2, ![1, 4]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3080 : S_.BroadcastsInDim S1x1024x3080 (![] : Fin 0 → Fin S1x1024x3080.rank)
  reducesTo_S1x1024x3080_S_d0_1_2 : S1x1024x3080.ReducesTo [0, 1, 2] S_
  bcast_S_S1x4x1024 : S_.BroadcastsInDim S1x4x1024 (![] : Fin 0 → Fin S1x4x1024.rank)
  reducesTo_S1x4x1024_S_d0_1_2 : S1x4x1024.ReducesTo [0, 1, 2] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg9 : FVec F S1x4 .f32) (main_arg10 : FVec F S1x4 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x4 .f32 := Host.absf main_arg9
  let main_cst_6 : FVec F S_ .f32 := constant S_ .f32 0x7F800000#32
  let main_v20 : FVec F S1x4 .f32 := broadcastInDim S1x4 ![] bcast_S_S1x4 main_cst_6
  let main_v21 : IVec S1x4 1 := cmpf .olt main_v19 main_v20
  let main_c_7 : IVec S_ 1 := constantI S_ 1 1#1
  let main_v22 : IVec S_ 1 := (fun x v => Host.reduce IntOp.andi x v reducesTo_S1x4_S_d0_1 h_S_) main_v21 main_c_7
  let main_v23 : IVec S_ 1 := andi main_v18 main_v22
  let main_v24 : FVec F S1x4 .f32 := Host.absf main_arg10
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  main_v28

def fn {F : FTy → Type} [FloatOps F] (main_arg0 : FVec F S8x8192x1024 .f32) (main_arg1 : FVec F S1x1024 .f32) (main_arg2 : FVec F S1x1024x3080 .f32) (main_arg3 : FVec F S1x31x512 .f32) (main_arg4 : FVec F S1x512 .f32) (main_arg5 : FVec F S1x512 .f32) (main_arg6 : FVec F S1x512 .f32) (main_arg7 : FVec F S1x4x1024 .f32) (main_arg8 : FVec F S1x1024 .f32) (main_arg9 : FVec F S1x4 .f32) (main_arg10 : FVec F S1x4 .f32) (main_arg11 : FVec F S1x512 .f32) (main_arg12 : FVec F S1x1024x1024 .f32) (main_arg13 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3080 .f32 := Host.absf main_arg2
  let main_cst_0 : FVec F S_ .f32 := constant S_ .f32 0x7F800000#32
  let main_v5 : FVec F S1x1024x3080 .f32 := broadcastInDim S1x1024x3080 ![] bcast_S_S1x1024x3080 main_cst_0
  let main_v6 : IVec S1x1024x3080 1 := cmpf .olt main_v4 main_v5
  let main_c_1 : IVec S_ 1 := constantI S_ 1 1#1
  let main_v7 : IVec S_ 1 := (fun x v => Host.reduce IntOp.andi x v reducesTo_S1x1024x3080_S_d0_1_2 h_S_) main_v6 main_c_1
  let main_v8 : IVec S_ 1 := andi main_v3 main_v7
  let main_v9 : FVec F S1x4x1024 .f32 := Host.absf main_arg7
  let main_cst_2 : FVec F S_ .f32 := constant S_ .f32 0x7F800000#32
  let main_v10 : FVec F S1x4x1024 .f32 := broadcastInDim S1x4x1024 ![] bcast_S_S1x4x1024 main_cst_2
  let main_v11 : IVec S1x4x1024 1 := cmpf .olt main_v9 main_v10
  let main_c_3 : IVec S_ 1 := constantI S_ 1 1#1
  let main_v12 : IVec S_ 1 := (fun x v => Host.reduce IntOp.andi x v reducesTo_S1x4x1024_S_d0_1_2 h_S_) main_v11 main_c_3
  let main_v13 : IVec S_ 1 := andi main_v8 main_v12
  let main_v14 : FVec F S1x1024 .f32 := Host.absf main_arg8
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg9 main_arg10 main_v13 main_v16
-- ==== Pre_finite_inputs.lean ====
abbrev S8x8192x1024 : Shape := ⟨3, ![8, 8192, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  main_v18

def fn {F : FTy → Type} [FloatOps F] (main_arg0 : FVec F S8x8192x1024 .f32) (main_arg1 : FVec F S8x256x1024 .f32) (main_arg2 : FVec F S1x1024 .f32) (main_arg3 : FVec F S1x1024 .f32) (main_arg4 : FVec F S1x1024x1024 .f32) (main_arg5 : FVec F S1x1024x1024 .f32) (main_arg6 : FVec F S1x1024x1024 .f32) (main_arg7 : FVec F S1x1024x1024 .f32) (main_arg8 : FVec F S1x1024 .f32) (main_arg9 : FVec F S1x1024 .f32) (main_arg10 : FVec F S1x1024x2816 .f32) (main_arg11 : FVec F S1x1024x2816 .f32) (main_arg12 : FVec F S1x2816x1024 .f32) (main_arg13 : FVec F S1x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg4
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024x1024 .f32 := Host.absf main_arg5
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_v13 main_v16
-- ==== Pre_finite_scores.lean ====
abbrev S8x8192x1024 : Shape := ⟨3, ![8, 8192, 1024]⟩
abbrev S1x1024 : Shape := ⟨2, ![1, 1024]⟩
abbrev S1x1024x1024 : Shape := ⟨3, ![1, 1024, 1024]⟩
abbrev S8x1024x256 : Shape := ⟨3, ![8, 1024, 256]⟩
abbrev S8x256x1024 : Shape := ⟨3, ![8, 256, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bitsLt_bf16_f32 : FTy.bits .bf16 < FTy.bits .f32
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn {F : FTy → Type} [FloatOps F] (main_arg0 : FVec F S8x8192x1024 .f32) (main_arg1 : FVec F S1x1024 .f32) (main_arg2 : FVec F S1x1024x1024 .f32) (main_arg3 : FVec F S8x1024x256 .bf16) (main_arg4 : FVec F S8x256x1024 .bf16) (main_arg5 : FVec F S1x1024x1024 .f32) (main_arg6 : FVec F S1x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x1024 .f32 := Host.absf main_arg2
  let main_cst_0 : FVec F S_ .f32 := constant S_ .f32 0x7F800000#32
  let main_v5 : FVec F S1x1024x1024 .f32 := broadcastInDim S1x1024x1024 ![] bcast_S_S1x1024x1024 main_cst_0
  let main_v6 : IVec S1x1024x1024 1 := cmpf .olt main_v4 main_v5
  let main_c_1 : IVec S_ 1 := constantI S_ 1 1#1
  let main_v7 : IVec S_ 1 := (fun x v => Host.reduce IntOp.andi x v reducesTo_S1x1024x1024_S_d0_1_2 h_S_) main_v6 main_c_1
  let main_v8 : IVec S_ 1 := andi main_v3 main_v7
  let main_v9 : FVec F S8x1024x256 .f32 := (extf .f32 · bitsLt_bf16_f32) main_arg3
  let main_v10 : FVec F S8x1024x256 .f32 := Host.absf main_v9
  let main_cst_2 : FVec F S_ .f32 := constant S_ .f32 0x7F800000#32
  let main_v11 : FVec F S8x1024x256 .f32 := broadcastInDim S8x1024x256 ![] bcast_S_S8x1024x256 main_cst_2
  let main_v12 : IVec S8x1024x256 1 := cmpf .olt main_v10 main_v11
  let main_c_3 : IVec S_ 1 := constantI S_ 1 1#1
  let main_v13 : IVec S_ 1 := (fun x v => Host.reduce IntOp.andi x v reducesTo_S8x1024x256_S_d0_1_2 h_S_) main_v12 main_c_3
  let main_v14 : IVec S_ 1 := andi main_v8 main_v13
  main_v14
-- ==== Tail.lean ====
abbrev S8x8192x1024 : Shape := ⟨3, ![8, 8192, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S8x1024x256 : Shape := ⟨3, ![8, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1024x1 : Shape := ⟨2, ![1024, 1]⟩
abbrev S1x256x256 : Shape := ⟨3, ![1, 256, 256]⟩
abbrev S256x256 : Shape := ⟨2, ![256, 256]⟩
abbrev S65536x1024 : Shape := ⟨2, ![65536, 1024]⟩
abbrev S1024x2816 : Shape := ⟨2, ![1024, 2816]⟩
abbrev S2816x1024 : Shape := ⟨2, ![2816, 1024]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 43
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .f32⟩
  | .hbm, ⟨2, _⟩ => ⟨S1x1024, .f32⟩
  | .hbm, ⟨3, _⟩ => ⟨S1x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S8x1024x256, .bf16⟩
  | .hbm, ⟨21, _⟩ => ⟨S8x256x1024, .bf16⟩
  | .hbm, ⟨22, _⟩ => ⟨S1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S8x8192x1024, .f32⟩
  | .hbm, ⟨31, _⟩ => ⟨S65536x1024, .f32⟩
  | .hbm, ⟨32, _⟩ => ⟨S1024, .f32⟩
  | .hbm, ⟨33, _⟩ => ⟨S1x1024, .f32⟩
  | .hbm, ⟨34, _⟩ => ⟨S1024x2816, .f32⟩
  | .hbm, ⟨35, _⟩ => ⟨S1024x2816, .bf16⟩
  | .hbm, ⟨36, _⟩ => ⟨S1024x2816, .f32⟩
  | .hbm, ⟨37, _⟩ => ⟨S1024x2816, .bf16⟩
  | .hbm, ⟨38, _⟩ => ⟨S2816x1024, .f32⟩
  | .hbm, ⟨39, _⟩ => ⟨S2816x1024, .bf16⟩
  | .hbm, ⟨40, _⟩ => ⟨S1024, .f32⟩
  | .hbm, ⟨41, _⟩ => ⟨S1x1024, .f32⟩
  | .hbm, ⟨42, _⟩ => ⟨S65536x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1024x1024, .f32⟩
  | .local _ .vmem, ⟨22, _⟩ => ⟨S1024x1024, .f32⟩
  | .local _ .vmem, ⟨23, _⟩ => ⟨S1x1024, .f32⟩
  | .local _ .vmem, ⟨24, _⟩ => ⟨S1024x2816, .bf16⟩
  | .local _ .vmem, ⟨25, _⟩ => ⟨S1024x2816, .bf16⟩
  | .local _ .vmem, ⟨26, _⟩ => ⟨S2816x1024, .bf16⟩
  | .local _ .vmem, ⟨27, _⟩ => ⟨S1x1024, .f32⟩
  | .local _ .vmem, ⟨28, _⟩ => ⟨S1024x1024, .f32⟩
  | .local _ .vmem, ⟨29, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x2816 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2816x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== TailRefIdeal.lean ====
abbrev S8x8192x1024 : Shape := ⟨3, ![8, 8192, 1024]⟩
abbrev S8x256x1024 : Shape := ⟨3, ![8, 256, 1024]⟩
abbrev S1x1024 : Shape := ⟨2, ![1, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x256 : Shape := ⟨2, ![8, 256]⟩
abbrev S8x256x1 : Shape := ⟨3, ![8, 256, 1]⟩
abbrev S1024x1024 : Shape := ⟨2, ![1024, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩
abbrev S1024x2816 : Shape := ⟨2, ![1024, 2816]⟩
abbrev S2816x1024 : Shape := ⟨2, ![2816, 1024]⟩
abbrev S8x8192x2816 : Shape := ⟨3, ![8, 8192, 2816]⟩
abbrev S65536x1024 : Shape := ⟨2, ![65536, 1024]⟩

abbrev nBuf : Space → Nat
  | .hbm => 153
  | .vmem => 0
  | .smem => 0
  | _ => 0

abbrev hbmTy0_0 (i : Nat) : BufTy := match i % 128 with
  | 0 => ⟨S8x8192x1024, .f32⟩
  | 1 => ⟨S8x256x1024, .f32⟩
  | 2 => ⟨S1x1024, .f32⟩
  | 3 => ⟨S1x1024, .f32⟩
  | 4 => ⟨S1x1024x1024, .f32⟩
  | 5 => ⟨S1x1024x1024, .f32⟩
  | 6 => ⟨S1x1024x1024, .f32⟩
  | 7 => ⟨S1x1024x1024, .f32⟩
  | 8 => ⟨S1x1024, .f32⟩
  | 9 => ⟨S1x1024, .f32⟩
  | 10 => ⟨S1x1024x2816, .f32⟩
  | 11 => ⟨S1x1024x2816, .f32⟩
  | 12 => ⟨S1x2816x1024, .f32⟩
  | 13 => ⟨S1x1024, .f32⟩
  | 14 => ⟨S1024, .f32⟩
  | 15 => ⟨S8x8192x1024, .f32⟩
  | 16 => ⟨S_, .f32⟩
  | 17 => ⟨S8x8192, .f32⟩
  | 18 => ⟨S8x8192x1, .f32⟩
  | 19 => ⟨S_, .f32⟩
  | 20 => ⟨S8x8192x1, .f32⟩
  | 21 => ⟨S8x8192x1, .f32⟩
  | 22 => ⟨S_, .f32⟩
  | 23 => ⟨S8x8192x1, .f32⟩
  | 24 => ⟨S8x8192x1, .f32⟩
  | 25 => ⟨S8x8192x1, .f32⟩
  | 26 => ⟨S8x8192x1024, .f32⟩
  | 27 => ⟨S8x8192x1024, .f32⟩
  | 28 => ⟨S1x1x1024, .f32⟩
  | 29 => ⟨S8x8192x1024, .f32⟩
  | 30 => ⟨S8x8192x1024, .f32⟩
  | 31 => ⟨S1024, .f32⟩
  | 32 => ⟨S8x256x1024, .f32⟩
  | 33 => ⟨S_, .f32⟩
  | 34 => ⟨S8x256, .f32⟩
  | 35 => ⟨S8x256x1, .f32⟩
  | 36 => ⟨S_, .f32⟩
  | 37 => ⟨S8x256x1, .f32⟩
  | 38 => ⟨S8x256x1, .f32⟩
  | 39 => ⟨S_, .f32⟩
  | 40 => ⟨S8x256x1, .f32⟩
  | 41 => ⟨S8x256x1, .f32⟩
  | 42 => ⟨S8x256x1, .f32⟩
  | 43 => ⟨S8x256x1024, .f32⟩
  | 44 => ⟨S8x256x1024, .f32⟩
  | 45 => ⟨S1x1x1024, .f32⟩
  | 46 => ⟨S8x256x1024, .f32⟩
  | 47 => ⟨S8x256x1024, .f32⟩
  | 48 => ⟨S1024x1024, .f32⟩
  | 49 => ⟨S8x8192x1024, .f32⟩
  | 50 => ⟨S8x8192x4x256, .f32⟩
  | 51 => ⟨S1024x1024, .f32⟩
  | 52 => ⟨S8x256x1024, .f32⟩
  | 53 => ⟨S8x256x4x256, .f32⟩
  | 54 => ⟨S1024x1024, .f32⟩
  | 55 => ⟨S8x256x1024, .f32⟩
  | 56 => ⟨S8x256x4x256, .f32⟩
  | 57 => ⟨S8x4x8192x256, .f32⟩
  | 58 => ⟨S_, .f32⟩
  | 59 => ⟨S8x4x8192x256, .f32⟩
  | 60 => ⟨S8x4x8192x256, .f32⟩
  | 61 => ⟨S_, .f32⟩
  | 62 => ⟨S8x4x8192, .f32⟩
  | 63 => ⟨S_, .f32⟩
  | 64 => ⟨S8x4x8192, .f32⟩
  | 65 => ⟨S8x4x8192, .f32⟩
  | 66 => ⟨S8x4x8192x1, .f32⟩
  | 67 => ⟨S8x4x8192x256, .f32⟩
  | 68 => ⟨S8x4x8192x256, .f32⟩
  | 69 => ⟨S8x4x8192x256, .f32⟩
  | 70 => ⟨S_, .f32⟩
  | 71 => ⟨S8x4x8192, .f32⟩
  | 72 => ⟨S8x4x8192x1, .f32⟩
  | 73 => ⟨S8x4x8192x256, .f32⟩
  | 74 => ⟨S8x4x8192x256, .f32⟩
  | 75 => ⟨S8x4x256x8192, .f32⟩
  | 76 => ⟨S8x8192x4x256, .f32⟩
  | 77 => ⟨S8x8192x1024, .f32⟩
  | 78 => ⟨S1024x1024, .f32⟩
  | 79 => ⟨S8x8192x1024, .f32⟩
  | 80 => ⟨S1024, .f32⟩
  | 81 => ⟨S8x8192x1024, .f32⟩
  | 82 => ⟨S_, .f32⟩
  | 83 => ⟨S8x8192, .f32⟩
  | 84 => ⟨S8x8192x1, .f32⟩
  | 85 => ⟨S_, .f32⟩
  | 86 => ⟨S8x8192x1, .f32⟩
  | 87 => ⟨S8x8192x1, .f32⟩
  | 88 => ⟨S_, .f32⟩
  | 89 => ⟨S8x8192x1, .f32⟩
  | 90 => ⟨S8x8192x1, .f32⟩
  | 91 => ⟨S8x8192x1, .f32⟩
  | 92 => ⟨S8x8192x1024, .f32⟩
  | 93 => ⟨S8x8192x1024, .f32⟩
  | 94 => ⟨S1x1x1024, .f32⟩
  | 95 => ⟨S8x8192x1024, .f32⟩
  | 96 => ⟨S8x8192x1024, .f32⟩
  | 97 => ⟨S8x8192x1024, .f32⟩
  | 98 => ⟨S1024, .f32⟩
  | 99 => ⟨S8x8192x1024, .f32⟩
  | 100 => ⟨S_, .f32⟩
  | 101 => ⟨S8x8192, .f32⟩
  | 102 => ⟨S8x8192x1, .f32⟩
  | 103 => ⟨S_, .f32⟩
  | 104 => ⟨S8x8192x1, .f32⟩
  | 105 => ⟨S8x8192x1, .f32⟩
  | 106 => ⟨S_, .f32⟩
  | 107 => ⟨S8x8192x1, .f32⟩
  | 108 => ⟨S8x8192x1, .f32⟩
  | 109 => ⟨S8x8192x1, .f32⟩
  | 110 => ⟨S8x8192x1024, .f32⟩
  | 111 => ⟨S8x8192x1024, .f32⟩
  | 112 => ⟨S1x1x1024, .f32⟩
  | 113 => ⟨S8x8192x1024, .f32⟩
  | 114 => ⟨S8x8192x1024, .f32⟩
  | 115 => ⟨S1024x2816, .f32⟩
  | 116 => ⟨S1024x2816, .f32⟩
  | 117 => ⟨S2816x1024, .f32⟩
  | 118 => ⟨S8x8192x2816, .f32⟩
  | 119 => ⟨S8x8192x2816, .f32⟩
  | 120 => ⟨S8x8192x2816, .f32⟩
  | 121 => ⟨S_, .f32⟩
  | 122 => ⟨S8x8192x2816, .f32⟩
  | 123 => ⟨S8x8192x2816, .f32⟩
  | 124 => ⟨S_, .f32⟩
  | 125 => ⟨S8x8192x2816, .f32⟩
  | 126 => ⟨S8x8192x2816, .f32⟩
  | 127 => ⟨S8x8192x2816, .f32⟩
  | _ => ⟨S8x8192x1024, .f32⟩

abbrev hbmTy0_1 (i : Nat) : BufTy := match i % 128 with
  | 0 => ⟨S8x8192x2816, .f32⟩
  | 1 => ⟨S8x8192x2816, .f32⟩
  | 2 => ⟨S8x8192x1024, .f32⟩
  | 3 => ⟨S1024, .f32⟩
  | 4 => ⟨S8x8192x1024, .f32⟩
  | 5 => ⟨S_, .f32⟩
  | 6 => ⟨S8x8192, .f32⟩
  | 7 => ⟨S8x8192x1, .f32⟩
  | 8 => ⟨S_, .f32⟩
  | 9 => ⟨S8x8192x1, .f32⟩
  | 10 => ⟨S8x8192x1, .f32⟩
  | 11 => ⟨S_, .f32⟩
  | 12 => ⟨S8x8192x1, .f32⟩
  | 13 => ⟨S8x8192x1, .f32⟩
  | 14 => ⟨S8x8192x1, .f32⟩
  | 15 => ⟨S8x8192x1024, .f32⟩
  | 16 => ⟨S8x8192x1024, .f32⟩
  | 17 => ⟨S1x1x1024, .f32⟩
  | 18 => ⟨S8x8192x1024, .f32⟩
  | 19 => ⟨S8x8192x1024, .f32⟩
  | 20 => ⟨S_, .f32⟩
  | 21 => ⟨S8x8192x1024, .f32⟩
  | 22 => ⟨S8x8192x1024, .f32⟩
  | 23 => ⟨S8x8192x1024, .f32⟩
  | 24 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_15 : Ref sig .tc := ⟨.hbm, 133, rfl⟩
abbrev main_v95 : Ref sig .tc := ⟨.hbm, 134, rfl⟩
abbrev main_v96 : Ref sig .tc := ⟨.hbm, 135, rfl⟩
abbrev main_cst_16 : Ref sig .tc := ⟨.hbm, 136, rfl⟩
abbrev main_v97 : Ref sig .tc := ⟨.hbm, 137, rfl⟩
abbrev main_v98 : Ref sig .tc := ⟨.hbm, 138, rfl⟩
abbrev main_cst_17 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_18 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]
-- ==== Xattn.lean ====
abbrev S8x8192x1024 : Shape := ⟨3, ![8, 8192, 1024]⟩
abbrev S1x1024 : Shape := ⟨2, ![1, 1024]⟩
abbrev S1x1024x1024 : Shape := ⟨3, ![1, 1024, 1024]⟩
abbrev S8x1024x256 : Shape := ⟨3, ![8, 1024, 256]⟩
abbrev S8x256x1024 : Shape := ⟨3, ![8, 256, 1024]⟩
abbrev S1024 : Shape := ⟨1, ![1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 16
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x1024, .f32⟩
  | .hbm, ⟨3, _⟩ => ⟨S8x1024x256, .bf16⟩
  | .hbm, ⟨4, _⟩ => ⟨S8x256x1024, .bf16⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== XattnRefIdeal.lean ====
abbrev S8x8192x1024 : Shape := ⟨3, ![8, 8192, 1024]⟩
abbrev S1x1024 : Shape := ⟨2, ![1, 1024]⟩
abbrev S1x1024x1024 : Shape := ⟨3, ![1, 1024, 1024]⟩
abbrev S8x1024x256 : Shape := ⟨3, ![8, 1024, 256]⟩
abbrev S8x256x1024 : Shape := ⟨3, ![8, 256, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x1024 : Shape := ⟨2, ![1024, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩

abbrev nBuf : Space → Nat
  | .hbm => 70
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x1024, .f32⟩
  | .hbm, ⟨3, _⟩ => ⟨S8x1024x256, .bf16⟩
  | .hbm, ⟨4, _⟩ => ⟨S8x256x1024, .bf16⟩
  | .hbm, ⟨5, _⟩ => ⟨S1x1024x1024, .f32⟩
  | .hbm, ⟨6, _⟩ => ⟨S1x1024, .f32⟩
  | .hbm, ⟨7, _⟩ => ⟨S1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S1024x1024, .f32⟩
  | .hbm, ⟨25, _⟩ => ⟨S8x8192x1024, .f32⟩
  | .hbm, ⟨26, _⟩ => ⟨S8x8192x4x256, .f32⟩
  | .hbm, ⟨27, _⟩ => ⟨S8x1024x256, .f32⟩
  | .hbm, ⟨28, _⟩ => ⟨S8x256x1024, .f32⟩
  | .hbm, ⟨29, _⟩ => ⟨S8x256x4x256, .f32⟩
  | .hbm, ⟨30, _⟩ => ⟨S8x256x1024, .f32⟩
  | .hbm, ⟨31, _⟩ => ⟨S8x256x4x256, .f32⟩
  | .hbm, ⟨32, _⟩ => ⟨S8x4x8192x256, .f32⟩
  | .hbm, ⟨33, _⟩ => ⟨S_, .f32⟩
  | .hbm, ⟨34, _⟩ => ⟨S8x4x8192, .f32⟩
  | .hbm, ⟨35, _⟩ => ⟨S_, .f32⟩
  | .hbm, ⟨36, _⟩ => ⟨S8x4x8192, .f32⟩
  | .hbm, ⟨37, _⟩ => ⟨S8x4x8192, .f32⟩
  | .hbm, ⟨38, _⟩ => ⟨S8x4x8192x1, .f32⟩
  | .hbm, ⟨39, _⟩ => ⟨S8x4x8192x256, .f32⟩
  | .hbm, ⟨40, _⟩ => ⟨S8x4x8192x256, .f32⟩
  | .hbm, ⟨41, _⟩ => ⟨S8x4x8192x256, .f32⟩
  | .hbm, ⟨42, _⟩ => ⟨S_, .f32⟩
  | .hbm, ⟨43, _⟩ => ⟨S8x4x8192, .f32⟩
  | .hbm, ⟨44, _⟩ => ⟨S8x4x8192x1, .f32⟩
  | .hbm, ⟨45, _⟩ => ⟨S8x4x8192x256, .f32⟩
  | .hbm, ⟨46, _⟩ => ⟨S8x4x8192x256, .f32⟩
  | .hbm, ⟨47, _⟩ => ⟨S8x4x256x8192, .f32⟩
  | .hbm, ⟨48, _⟩ => ⟨S8x8192x4x256, .f32⟩
  | .hbm, ⟨49, _⟩ => ⟨S8x8192x1024, .f32⟩
  | .hbm, ⟨50, _⟩ => ⟨S1024x1024, .f32⟩
  | .hbm, ⟨51, _⟩ => ⟨S8x8192x1024, .f32⟩
  | .hbm, ⟨52, _⟩ => ⟨S1024, .f32⟩
  | .hbm, ⟨53, _⟩ => ⟨S8x8192x1024, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x8192x1, .f32⟩
  | .hbm, ⟨64, _⟩ => ⟨S8x8192x1024, .f32⟩
  | .hbm, ⟨65, _⟩ => ⟨S8x8192x1024, .f32⟩
  | .hbm, ⟨66, _⟩ => ⟨S1x1x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== Ffn.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x1 : Shape := ⟨2, ![1024, 1]⟩
abbrev S1024x1536 : Shape := ⟨2, ![1024, 1536]⟩
abbrev S1536x1024 : Shape := ⟨2, ![1536, 1024]⟩
abbrev S1024x1280 : Shape := ⟨2, ![1024, 1280]⟩
abbrev S1280x1024 : Shape := ⟨2, ![1280, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S8x8192x2816 : Shape := ⟨3, ![8, 8192, 2816]⟩
abbrev S65536x1024 : Shape := ⟨2, ![65536, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x8192x2816, .f32⟩
  | .hbm, ⟨27, _⟩ => ⟨S8x8192x2816, .f32⟩
  | .hbm, ⟨28, _⟩ => ⟨S8x8192x2816, .f32⟩
  | .hbm, ⟨29, _⟩ => ⟨S_, .f32⟩
  | .hbm, ⟨30, _⟩ => ⟨S8x8192x2816, .f32⟩
  | .hbm, ⟨31, _⟩ => ⟨S8x8192x2816, .f32⟩
  | .hbm, ⟨32, _⟩ => ⟨S_, .f32⟩
  | .hbm, ⟨33, _⟩ => ⟨S8x8192x2816, .f32⟩
  | .hbm, ⟨34, _⟩ => ⟨S8x8192x2816, .f32⟩
  | .hbm, ⟨35, _⟩ => ⟨S8x8192x2816, .f32⟩
  | .hbm, ⟨36, _⟩ => ⟨S8x8192x2816, .f32⟩
  | .hbm, ⟨37, _⟩ => ⟨S8x8192x2816, .f32⟩
  | .hbm, ⟨38, _⟩ => ⟨S8x8192x1024, .f32⟩
  | .hbm, ⟨39, _⟩ => ⟨S1024, .f32⟩
  | .hbm, ⟨40, _⟩ => ⟨S8x8192x1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S_, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Memkv.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S8x1024x256 : Shape := ⟨3, ![8, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 12
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S8x1024x256, .bf16⟩
  | .hbm, ⟨11, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x1024 : Shape := ⟨2, ![1024, 1024]⟩
abbrev S8x1024x256 : Shape := ⟨3, ![8, 1024, 256]⟩

abbrev nBuf : Space → Nat
  | .hbm => 31
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S_, .f32⟩
  | .hbm, ⟨26, _⟩ => ⟨S8x256x1024, .f32⟩
  | .hbm, ⟨27, _⟩ => ⟨S8x256x1024, .f32⟩
  | .hbm, ⟨28, _⟩ => ⟨S8x1024x256, .f32⟩
  | .hbm, ⟨29, _⟩ => ⟨S8x1024x256, .bf16⟩
  | .hbm, ⟨30, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Mixer.lean ====
abbrev S8x8192x1024 : Shape := ⟨3, ![8, 8192, 1024]⟩
abbrev S1x1024 : Shape := ⟨2, ![1, 1024]⟩
abbrev S1x1024x3080 : Shape := ⟨3, ![1, 1024, 3080]⟩
abbrev S1x31x512 : Shape := ⟨3, ![1, 31, 512]⟩
abbrev S1x512 : Shape := ⟨2, ![1, 512]⟩
abbrev S1x4x1024 : Shape := ⟨3, ![1, 4, 1024]⟩
abbrev S1x4 : Shape := ⟨2, ![1, 4]⟩
abbrev S1x1024x1024 : Shape := ⟨3, ![1, 1024, 1024]⟩
abbrev S_ : Shape := ⟨0, ![]⟩
abbrev S1024x128 : Shape := ⟨2, ![1024, 128]⟩
abbrev S1024x3080 : Shape := ⟨2, ![1024, 3080]⟩
abbrev S1024x4 : Shape := ⟨2, ![1024, 4]⟩
abbrev S1 : Shape := ⟨1, ![1]⟩
abbrev S1x128 : Shape := ⟨2, ![1, 128]⟩
abbrev S4 : Shape := ⟨1, ![4]⟩
abbrev S2 : Shape := ⟨1, ![2]⟩
abbrev S1024 : Shape := ⟨1, ![1024]⟩
abbrev S1024x3072 : Shape := ⟨2, ![1024, 3072]⟩
abbrev S31x512 : Shape := ⟨2, ![31, 512]⟩
abbrev S32x512 : Shape := ⟨2, ![32, 512]⟩
abbrev S512 : Shape := ⟨1, ![512]⟩
abbrev S4x1024 : Shape := ⟨2, ![4, 1024]⟩
abbrev S8x1024 : Shape := ⟨2, ![8, 1024]⟩
abbrev S1024x1024 : Shape := ⟨2, ![1024, 1024]⟩
abbrev S4x1056x128 : Shape := ⟨3, ![4, 1056, 128]⟩
abbrev S8x1032x128 : Shape := ⟨3, ![8, 1032, 128]⟩
abbrev S4x128x256 : Shape := ⟨3, ![4, 128, 256]⟩
abbrev S8x128 : Shape := ⟨2, ![8, 128]⟩
abbrev S4x32x128 : Shape := ⟨3, ![4, 32, 128]⟩
abbrev S8x8x128 : Shape := ⟨3, ![8, 8, 128]⟩
abbrev S1024x1 : Shape := ⟨2, ![1024, 1]⟩
abbrev S1024x512 : Shape := ⟨2, ![1024, 512]⟩
abbrev S1x1024x128 : Shape := ⟨3, ![1, 1024, 128]⟩
abbrev S1x32x128 : Shape := ⟨3, ![1, 32, 128]⟩
abbrev S32x128 : Shape := ⟨2, ![32, 128]⟩
abbrev S1x8x128 : Shape := ⟨3, ![1, 8, 128]⟩
abbrev S128x1024 : Shape := ⟨2, ![128, 1024]⟩
abbrev S128x128 : Shape := ⟨2, ![128, 128]⟩
abbrev S8 : Shape := ⟨1, ![8]⟩
abbrev S8x1 : Shape := ⟨2, ![8, 1]⟩
abbrev S128 : Shape := ⟨1, ![128]⟩
abbrev S128x1 : Shape := ⟨2, ![128, 1]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 71
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x3080, .f32⟩
  | .hbm, ⟨3, _⟩ => ⟨S1x31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x4x1024, .f32⟩
  | .hbm, ⟨8, _⟩ => ⟨S1x1024, .f32⟩
  | .hbm, ⟨9, _⟩ => ⟨S1x4, .f32⟩
  | .hbm, ⟨10, _⟩ => ⟨S1x4, .f32⟩
  | .hbm, ⟨11, _⟩ => ⟨S1x512, .f32⟩
  | .hbm, ⟨12, _⟩ => ⟨S1x1024x1024, .f32⟩
  | .hbm, ⟨13, _⟩ => ⟨S1x1024, .f32⟩
  | .hbm, ⟨14, _⟩ => ⟨S_, .f32⟩
  | .hbm, ⟨15, _⟩ => ⟨S1024x128, .f32⟩
  | .hbm, ⟨16, _⟩ => ⟨S1024x3080, .f32⟩
  | .hbm, ⟨17, _⟩ => ⟨S1024x4, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x3080, .f32⟩
  | .hbm, ⟨22, _⟩ => ⟨S1024x4, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S_, .f32⟩
  | .hbm, ⟨27, _⟩ => ⟨S1x128, .f32⟩
  | .hbm, ⟨28, _⟩ => ⟨S4, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S4, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x128, .f32⟩
  | .hbm, ⟨42, _⟩ => ⟨S1024, .f32⟩
  | .hbm, ⟨43, _⟩ => ⟨S1x1024, .f32⟩
  | .hbm, ⟨44, _⟩ => ⟨S1024x3080, .f32⟩
  | .hbm, ⟨45, _⟩ => ⟨S1024x3072, .f32⟩
  | .hbm, ⟨46, _⟩ => ⟨S1024x3072, .bf16⟩
  | .hbm, ⟨47, _⟩ => ⟨S1024x128, .bf16⟩
  | .hbm, ⟨48, _⟩ => ⟨S31x512, .f32⟩
  | .hbm, ⟨49, _⟩ => ⟨S_, .i32⟩
  | .hbm, ⟨50, _⟩ => ⟨S_, .f32⟩
  | .hbm, ⟨51, _⟩ => ⟨S32x512, .f32⟩
  | .hbm, ⟨52, _⟩ => ⟨S512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S512, .f32⟩
  | .hbm, ⟨57, _⟩ => ⟨S1x512, .f32⟩
  | .hbm, ⟨58, _⟩ => ⟨S4x1024, .f32⟩
  | .hbm, ⟨59, _⟩ => ⟨S_, .i32⟩
  | .hbm, ⟨60, _⟩ => ⟨S_, .f32⟩
  | .hbm, ⟨61, _⟩ => ⟨S8x1024, .f32⟩
  | .hbm, ⟨62, _⟩ => ⟨S1024, .f32⟩
  | .hbm, ⟨63, _⟩ => ⟨S1x1024, .f32⟩
  | .hbm, ⟨64, _⟩ => ⟨S512, .f32⟩
  | .hbm, ⟨65, _⟩ => ⟨S1x512, .f32⟩
  | .hbm, ⟨66, _⟩ => ⟨S1024x1024, .f32⟩
  | .hbm, ⟨67, _⟩ => ⟨S1024x1024, .bf16⟩
  | .hbm, ⟨68, _⟩ => ⟨S1024, .f32⟩
  | .hbm, ⟨69, _⟩ => ⟨S1x1024, .f32⟩
  | .hbm, ⟨70, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S32x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S8x1024, .f32⟩
  | .local _ .vmem, ⟨10, _⟩ => ⟨S1x1024, .f32⟩
  | .local _ .vmem, ⟨11, _⟩ => ⟨S1x128, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S4x1056x128, .f32⟩
  | .local _ .vmem, ⟨18, _⟩ => ⟨S8x1032x128, .f32⟩
  | .local _ .vmem, ⟨19, _⟩ => ⟨S4x128x256, .f32⟩
  | .local _ .vmem, ⟨20, _⟩ => ⟨S8x128, .f32⟩
  | .local _ .vmem, ⟨21, _⟩ => ⟨S1024x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_c_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixerRefIdeal.lean ====
abbrev S8x8192x1024 : Shape := ⟨3, ![8, 8192, 1024]⟩
abbrev S1x1024 : Shape := ⟨2, ![1, 1024]⟩
abbrev S1x1024x3080 : Shape := ⟨3, ![1, 1024, 3080]⟩
abbrev S1x31x512 : Shape := ⟨3, ![1, 31, 512]⟩
abbrev S1x512 : Shape := ⟨2, ![1, 512]⟩
abbrev S1x4x1024 : Shape := ⟨3, ![1, 4, 1024]⟩
abbrev S1x4 : Shape := ⟨2, ![1, 4]⟩
abbrev S1x1024x1024 : Shape := ⟨3, ![1, 1024, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x3080 : Shape := ⟨2, ![1024, 3080]⟩
abbrev S31x512 : Shape := ⟨2, ![31, 512]⟩
abbrev S512 : Shape := ⟨1, ![512]⟩
abbrev S4x1024 : Shape := ⟨2, ![4, 1024]⟩
abbrev S4 : Shape := ⟨1, ![4]⟩
abbrev S1024x1024 : Shape := ⟨2, ![1024, 1024]⟩
abbrev S8x8192x3080 : Shape := ⟨3, ![8, 8192, 3080]⟩
abbrev S8x8192x512 : Shape := ⟨3, ![8, 8192, 512]⟩
abbrev S8x8192x4 : Shape := ⟨3, ![8, 8192, 4]⟩
abbrev S8x8222x512 : Shape := ⟨3, ![8, 8222, 512]⟩
abbrev S1x1x512 : Shape := ⟨3, ![1, 1, 512]⟩
abbrev S8x8195x1024 : Shape := ⟨3, ![8, 8195, 1024]⟩
abbrev S1x1x4 : Shape := ⟨3, ![1, 1, 4]⟩
abbrev S8x4x8192 : Shape := ⟨3, ![8, 4, 8192]⟩
abbrev S8x8192x4x128 : Shape := ⟨4, ![8, 8192, 4, 128]⟩
abbrev S8x4x8192x128 : Shape := ⟨4, ![8, 4, 8192, 128]⟩
abbrev S8x4x8192x1 : Shape := ⟨4, ![8, 4, 8192, 1]⟩
abbrev S8x4x1x8192 : Shape := ⟨4, ![8, 4, 1, 8192]⟩
abbrev S8x4x8192x8192 : Shape := ⟨4, ![8, 4, 8192, 8192]⟩
abbrev S8192x8192 : Shape := ⟨2, ![8192, 8192]⟩

abbrev nBuf : Space → Nat
  | .hbm => 497
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x3080, .f32⟩
  | 3 => ⟨S1x31x512, .f32⟩
  | 4 => ⟨S1x512, .f32⟩
  | 5 => ⟨S1x512, .f32⟩
  | 6 => ⟨S1x512, .f32⟩
  | 7 => ⟨S1x4x1024, .f32⟩
  | 8 => ⟨S1x1024, .f32⟩
  | 9 => ⟨S1x4, .f32⟩
  | 10 => ⟨S1x4, .f32⟩
  | 11 => ⟨S1x512, .f32⟩
  | 12 => ⟨S1x1024x1024, .f32⟩
  | 13 => ⟨S1x1024, .f32⟩
  | 14 => ⟨S1024, .f32⟩
  | 15 => ⟨S8x8192x1024, .f32⟩
  | 16 => ⟨S_, .f32⟩
  | 17 => ⟨S8x8192, .f32⟩
  | 18 => ⟨S8x8192x1, .f32⟩
  | 19 => ⟨S_, .f32⟩
  | 20 => ⟨S8x8192x1, .f32⟩
  | 21 => ⟨S8x8192x1, .f32⟩
  | 22 => ⟨S_, .f32⟩
  | 23 => ⟨S8x8192x1, .f32⟩
  | 24 => ⟨S8x8192x1, .f32⟩
  | 25 => ⟨S8x8192x1, .f32⟩
  | 26 => ⟨S8x8192x1024, .f32⟩
  | 27 => ⟨S8x8192x1024, .f32⟩
  | 28 => ⟨S1x1x1024, .f32⟩
  | 29 => ⟨S8x8192x1024, .f32⟩
  | 30 => ⟨S8x8192x1024, .f32⟩
  | 31 => ⟨S1024x3080, .f32⟩
  | 32 => ⟨S31x512, .f32⟩
  | 33 => ⟨S512, .f32⟩
  | 34 => ⟨S512, .f32⟩
  | 35 => ⟨S512, .f32⟩
  | 36 => ⟨S4x1024, .f32⟩
  | 37 => ⟨S1024, .f32⟩
  | 38 => ⟨S4, .f32⟩
  | 39 => ⟨S4, .f32⟩
  | 40 => ⟨S512, .f32⟩
  | 41 => ⟨S1024x1024, .f32⟩
  | 42 => ⟨S8x8192x3080, .f32⟩
  | 43 => ⟨S8x8192x512, .f32⟩
  | 44 => ⟨S8x8192x512, .f32⟩
  | 45 => ⟨S8x8192x512, .f32⟩
  | 46 => ⟨S8x8192x512, .f32⟩
  | 47 => ⟨S8x8192x512, .f32⟩
  | 48 => ⟨S8x8192x512, .f32⟩
  | 49 => ⟨S8x8192x4, .f32⟩
  | 50 => ⟨S8x8192x4, .f32⟩
  | 51 => ⟨S8x8192x512, .f32⟩
  | 52 => ⟨S8x8192x512, .f32⟩
  | 53 => ⟨S_, .f32⟩
  | 54 => ⟨S8x8192x512, .f32⟩
  | 55 => ⟨S8x8192x512, .f32⟩
  | 56 => ⟨S_, .f32⟩
  | 57 => ⟨S8x8192x512, .f32⟩
  | 58 => ⟨S8x8192x512, .f32⟩
  | 59 => ⟨S8x8192x512, .f32⟩
  | 60 => ⟨S_, .i32⟩
  | 61 => ⟨S_, .f32⟩
  | 62 => ⟨S8x8222x512, .f32⟩
  | 63 => ⟨S8x8192x512, .f32⟩
  | 64 => ⟨S1x512, .f32⟩
  | 65 => ⟨S512, .f32⟩
  | 66 => ⟨S1x1x512, .f32⟩
  | 67 => ⟨S8x8192x512, .f32⟩
  | 68 => ⟨S8x8192x512, .f32⟩
  | 69 => ⟨S_, .f32⟩
  | 70 => ⟨S8x8192x512, .f32⟩
  | 71 => ⟨S8x8192x512, .f32⟩
  | 72 => ⟨S8x8192x512, .f32⟩
  | 73 => ⟨S1x512, .f32⟩
  | 74 => ⟨S512, .f32⟩
  | 75 => ⟨S1x1x512, .f32⟩
  | 76 => ⟨S8x8192x512, .f32⟩
  | 77 => ⟨S8x8192x512, .f32⟩
  | 78 => ⟨S8x8192x512, .f32⟩
  | 79 => ⟨S8x8192x512, .f32⟩
  | 80 => ⟨S1x512, .f32⟩
  | 81 => ⟨S512, .f32⟩
  | 82 => ⟨S1x1x512, .f32⟩
  | 83 => ⟨S8x8192x512, .f32⟩
  | 84 => ⟨S8x8192x512, .f32⟩
  | 85 => ⟨S8x8192x512, .f32⟩
  | 86 => ⟨S8x8192x512, .f32⟩
  | 87 => ⟨S1x512, .f32⟩
  | 88 => ⟨S512, .f32⟩
  | 89 => ⟨S1x1x512, .f32⟩
  | 90 => ⟨S8x8192x512, .f32⟩
  | 91 => ⟨S8x8192x512, .f32⟩
  | 92 => ⟨S8x8192x512, .f32⟩
  | 93 => ⟨S8x8192x512, .f32⟩
  | 94 => ⟨S1x512, .f32⟩
  | 95 => ⟨S512, .f32⟩
  | 96 => ⟨S1x1x512, .f32⟩
  | 97 => ⟨S8x8192x512, .f32⟩
  | 98 => ⟨S8x8192x512, .f32⟩
  | 99 => ⟨S8x8192x512, .f32⟩
  | 100 => ⟨S8x8192x512, .f32⟩
  | 101 => ⟨S1x512, .f32⟩
  | 102 => ⟨S512, .f32⟩
  | 103 => ⟨S1x1x512, .f32⟩
  | 104 => ⟨S8x8192x512, .f32⟩
  | 105 => ⟨S8x8192x512, .f32⟩
  | 106 => ⟨S8x8192x512, .f32⟩
  | 107 => ⟨S8x8192x512, .f32⟩
  | 108 => ⟨S1x512, .f32⟩
  | 109 => ⟨S512, .f32⟩
  | 110 => ⟨S1x1x512, .f32⟩
  | 111 => ⟨S8x8192x512, .f32⟩
  | 112 => ⟨S8x8192x512, .f32⟩
  | 113 => ⟨S8x8192x512, .f32⟩
  | 114 => ⟨S8x8192x512, .f32⟩
  | 115 => ⟨S1x512, .f32⟩
  | 116 => ⟨S512, .f32⟩
  | 117 => ⟨S1x1x512, .f32⟩
  | 118 => ⟨S8x8192x512, .f32⟩
  | 119 => ⟨S8x8192x512, .f32⟩
  | 120 => ⟨S8x8192x512, .f32⟩
  | 121 => ⟨S8x8192x512, .f32⟩
  | 122 => ⟨S1x512, .f32⟩
  | 123 => ⟨S512, .f32⟩
  | 124 => ⟨S1x1x512, .f32⟩
  | 125 => ⟨S8x8192x512, .f32⟩
  | 126 => ⟨S8x8192x512, .f32⟩
  | 127 => ⟨S8x8192x512, .f32⟩
  | _ => ⟨S8x8192x1024, .f32⟩

abbrev hbmTy0_1 (i : Nat) : BufTy := match i % 128 with
  | 0 => ⟨S8x8192x512, .f32⟩
  | 1 => ⟨S1x512, .f32⟩
  | 2 => ⟨S512, .f32⟩
  | 3 => ⟨S1x1x512, .f32⟩
  | 4 => ⟨S8x8192x512, .f32⟩
  | 5 => ⟨S8x8192x512, .f32⟩
  | 6 => ⟨S8x8192x512, .f32⟩
  | 7 => ⟨S8x8192x512, .f32⟩
  | 8 => ⟨S1x512, .f32⟩
  | 9 => ⟨S512, .f32⟩
  | 10 => ⟨S1x1x512, .f32⟩
  | 11 => ⟨S8x8192x512, .f32⟩
  | 12 => ⟨S8x8192x512, .f32⟩
  | 13 => ⟨S8x8192x512, .f32⟩
  | 14 => ⟨S8x8192x512, .f32⟩
  | 15 => ⟨S1x512, .f32⟩
  | 16 => ⟨S512, .f32⟩
  | 17 => ⟨S1x1x512, .f32⟩
  | 18 => ⟨S8x8192x512, .f32⟩
  | 19 => ⟨S8x8192x512, .f32⟩
  | 20 => ⟨S8x8192x512, .f32⟩
  | 21 => ⟨S8x8192x512, .f32⟩
  | 22 => ⟨S1x512, .f32⟩
  | 23 => ⟨S512, .f32⟩
  | 24 => ⟨S1x1x512, .f32⟩
  | 25 => ⟨S8x8192x512, .f32⟩
  | 26 => ⟨S8x8192x512, .f32⟩
  | 27 => ⟨S8x8192x512, .f32⟩
  | 28 => ⟨S8x8192x512, .f32⟩
  | 29 => ⟨S1x512, .f32⟩
  | 30 => ⟨S512, .f32⟩
  | 31 => ⟨S1x1x512, .f32⟩
  | 32 => ⟨S8x8192x512, .f32⟩
  | 33 => ⟨S8x8192x512, .f32⟩
  | 34 => ⟨S8x8192x512, .f32⟩
  | 35 => ⟨S8x8192x512, .f32⟩
  | 36 => ⟨S1x512, .f32⟩
  | 37 => ⟨S512, .f32⟩
  | 38 => ⟨S1x1x512, .f32⟩
  | 39 => ⟨S8x8192x512, .f32⟩
  | 40 => ⟨S8x8192x512, .f32⟩
  | 41 => ⟨S8x8192x512, .f32⟩
  | 42 => ⟨S8x8192x512, .f32⟩
  | 43 => ⟨S1x512, .f32⟩
  | 44 => ⟨S512, .f32⟩
  | 45 => ⟨S1x1x512, .f32⟩
  | 46 => ⟨S8x8192x512, .f32⟩
  | 47 => ⟨S8x8192x512, .f32⟩
  | 48 => ⟨S8x8192x512, .f32⟩
  | 49 => ⟨S8x8192x512, .f32⟩
  | 50 => ⟨S1x512, .f32⟩
  | 51 => ⟨S512, .f32⟩
  | 52 => ⟨S1x1x512, .f32⟩
  | 53 => ⟨S8x8192x512, .f32⟩
  | 54 => ⟨S8x8192x512, .f32⟩
  | 55 => ⟨S8x8192x512, .f32⟩
  | 56 => ⟨S8x8192x512, .f32⟩
  | 57 => ⟨S1x512, .f32⟩
  | 58 => ⟨S512, .f32⟩
  | 59 => ⟨S1x1x512, .f32⟩
  | 60 => ⟨S8x8192x512, .f32⟩
  | 61 => ⟨S8x8192x512, .f32⟩
  | 62 => ⟨S8x8192x512, .f32⟩
  | 63 => ⟨S8x8192x512, .f32⟩
  | 64 => ⟨S1x512, .f32⟩
  | 65 => ⟨S512, .f32⟩
  | 66 => ⟨S1x1x512, .f32⟩
  | 67 => ⟨S8x8192x512, .f32⟩
  | 68 => ⟨S8x8192x512, .f32⟩
  | 69 => ⟨S8x8192x512, .f32⟩
  | 70 => ⟨S8x8192x512, .f32⟩
  | 71 => ⟨S1x512, .f32⟩
  | 72 => ⟨S512, .f32⟩
  | 73 => ⟨S1x1x512, .f32⟩
  | 74 => ⟨S8x8192x512, .f32⟩
  | 75 => ⟨S8x8192x512, .f32⟩
  | 76 => ⟨S8x8192x512, .f32⟩
  | 77 => ⟨S8x8192x512, .f32⟩
  | 78 => ⟨S1x512, .f32⟩
  | 79 => ⟨S512, .f32⟩
  | 80 => ⟨S1x1x512, .f32⟩
  | 81 => ⟨S8x8192x512, .f32⟩
  | 82 => ⟨S8x8192x512, .f32⟩
  | 83 => ⟨S8x8192x512, .f32⟩
  | 84 => ⟨S8x8192x512, .f32⟩
  | 85 => ⟨S1x512, .f32⟩
  | 86 => ⟨S512, .f32⟩
  | 87 => ⟨S1x1x512, .f32⟩
  | 88 => ⟨S8x8192x512, .f32⟩
  | 89 => ⟨S8x8192x512, .f32⟩
  | 90 => ⟨S8x8192x512, .f32⟩
  | 91 => ⟨S8x8192x512, .f32⟩
  | 92 => ⟨S1x512, .f32⟩
  | 93 => ⟨S512, .f32⟩
  | 94 => ⟨S1x1x512, .f32⟩
  | 95 => ⟨S8x8192x512, .f32⟩
  | 96 => ⟨S8x8192x512, .f32⟩
  | 97 => ⟨S8x8192x512, .f32⟩
  | 98 => ⟨S8x8192x512, .f32⟩
  | 99 => ⟨S1x512, .f32⟩
  | 100 => ⟨S512, .f32⟩
  | 101 => ⟨S1x1x512, .f32⟩
  | 102 => ⟨S8x8192x512, .f32⟩
  | 103 => ⟨S8x8192x512, .f32⟩
  | 104 => ⟨S8x8192x512, .f32⟩
  | 105 => ⟨S8x8192x512, .f32⟩
  | 106 => ⟨S1x512, .f32⟩
  | 107 => ⟨S512, .f32⟩
  | 108 => ⟨S1x1x512, .f32⟩
  | 109 => ⟨S8x8192x512, .f32⟩
  | 110 => ⟨S8x8192x512, .f32⟩
  | 111 => ⟨S8x8192x512, .f32⟩
  | 112 => ⟨S8x8192x512, .f32⟩
  | 113 => ⟨S1x512, .f32⟩
  | 114 => ⟨S512, .f32⟩
  | 115 => ⟨S1x1x512, .f32⟩
  | 116 => ⟨S8x8192x512, .f32⟩
  | 117 => ⟨S8x8192x512, .f32⟩
  | 118 => ⟨S8x8192x512, .f32⟩
  | 119 => ⟨S8x8192x512, .f32⟩
  | 120 => ⟨S1x512, .f32⟩
  | 121 => ⟨S512, .f32⟩
  | 122 => ⟨S1x1x512, .f32⟩
  | 123 => ⟨S8x8192x512, .f32⟩
  | 124 => ⟨S8x8192x512, .f32⟩
  | 125 => ⟨S8x8192x512, .f32⟩
  | 126 => ⟨S8x8192x512, .f32⟩
  | 127 => ⟨S1x512, .f32⟩
  | _ => ⟨S8x8192x1024, .f32⟩

abbrev hbmTy0_2 (i : Nat) : BufTy := match i % 128 with
  | 0 => ⟨S512, .f32⟩
  | 1 => ⟨S1x1x512, .f32⟩
  | 2 => ⟨S8x8192x512, .f32⟩
  | 3 => ⟨S8x8192x512, .f32⟩
  | 4 => ⟨S8x8192x512, .f32⟩
  | 5 => ⟨S8x8192x512, .f32⟩
  | 6 => ⟨S1x512, .f32⟩
  | 7 => ⟨S512, .f32⟩
  | 8 => ⟨S1x1x512, .f32⟩
  | 9 => ⟨S8x8192x512, .f32⟩
  | 10 => ⟨S8x8192x512, .f32⟩
  | 11 => ⟨S8x8192x512, .f32⟩
  | 12 => ⟨S8x8192x512, .f32⟩
  | 13 => ⟨S1x512, .f32⟩
  | 14 => ⟨S512, .f32⟩
  | 15 => ⟨S1x1x512, .f32⟩
  | 16 => ⟨S8x8192x512, .f32⟩
  | 17 => ⟨S8x8192x512, .f32⟩
  | 18 => ⟨S8x8192x512, .f32⟩
  | 19 => ⟨S8x8192x512, .f32⟩
  | 20 => ⟨S1x512, .f32⟩
  | 21 => ⟨S512, .f32⟩
  | 22 => ⟨S1x1x512, .f32⟩
  | 23 => ⟨S8x8192x512, .f32⟩
  | 24 => ⟨S8x8192x512, .f32⟩
  | 25 => ⟨S8x8192x512, .f32⟩
  | 26 => ⟨S1x1x512, .f32⟩
  | 27 => ⟨S8x8192x512, .f32⟩
  | 28 => ⟨S8x8192x512, .f32⟩
  | 29 => ⟨S_, .f32⟩
  | 30 => ⟨S8x8192, .f32⟩
  | 31 => ⟨S8x8192x1, .f32⟩
  | 32 => ⟨S_, .f32⟩
  | 33 => ⟨S8x8192x1, .f32⟩
  | 34 => ⟨S8x8192x1, .f32⟩
  | 35 => ⟨S8x8192x512, .f32⟩
  | 36 => ⟨S8x8192x512, .f32⟩
  | 37 => ⟨S8x8192x512, .f32⟩
  | 38 => ⟨S_, .f32⟩
  | 39 => ⟨S8x8192, .f32⟩
  | 40 => ⟨S8x8192x1, .f32⟩
  | 41 => ⟨S_, .f32⟩
  | 42 => ⟨S8x8192x1, .f32⟩
  | 43 => ⟨S8x8192x1, .f32⟩
  | 44 => ⟨S8x8192x512, .f32⟩
  | 45 => ⟨S8x8192x512, .f32⟩
  | 46 => ⟨S_, .f32⟩
  | 47 => ⟨S8x8192x1, .f32⟩
  | 48 => ⟨S8x8192x1, .f32⟩
  | 49 => ⟨S8x8192x1, .f32⟩
  | 50 => ⟨S8x8192x512, .f32⟩
  | 51 => ⟨S8x8192x512, .f32⟩
  | 52 => ⟨S1x1x512, .f32⟩
  | 53 => ⟨S8x8192x512, .f32⟩
  | 54 => ⟨S8x8192x512, .f32⟩
  | 55 => ⟨S1x1x512, .f32⟩
  | 56 => ⟨S8x8192x512, .f32⟩
  | 57 => ⟨S8x8192x512, .f32⟩
  | 58 => ⟨S8x8192x512, .f32⟩
  | 59 => ⟨S8x8192x512, .f32⟩
  | 60 => ⟨S_, .f32⟩
  | 61 => ⟨S8x8192x512, .f32⟩
  | 62 => ⟨S8x8192x512, .f32⟩
  | 63 => ⟨S_, .f32⟩
  | 64 => ⟨S8x8192x512, .f32⟩
  | 65 => ⟨S8x8192x512, .f32⟩
  | 66 => ⟨S8x8192x512, .f32⟩
  | 67 => ⟨S8x8192x1024, .f32⟩
  | 68 => ⟨S_, .i32⟩
  | 69 => ⟨S_, .f32⟩
  | 70 => ⟨S8x8195x1024, .f32⟩
  | 71 => ⟨S8x8192x1024, .f32⟩
  | 72 => ⟨S1x1024, .f32⟩
  | 73 => ⟨S1024, .f32⟩
  | 74 => ⟨S1x1x1024, .f32⟩
  | 75 => ⟨S8x8192x1024, .f32⟩
  | 76 => ⟨S8x8192x1024, .f32⟩
  | 77 => ⟨S_, .f32⟩
  | 78 => ⟨S8x8192x1024, .f32⟩
  | 79 => ⟨S8x8192x1024, .f32⟩
  | 80 => ⟨S8x8192x1024, .f32⟩
  | 81 => ⟨S1x1024, .f32⟩
  | 82 => ⟨S1024, .f32⟩
  | 83 => ⟨S1x1x1024, .f32⟩
  | 84 => ⟨S8x8192x1024, .f32⟩
  | 85 => ⟨S8x8192x1024, .f32⟩
  | 86 => ⟨S8x8192x1024, .f32⟩
  | 87 => ⟨S8x8192x1024, .f32⟩
  | 88 => ⟨S1x1024, .f32⟩
  | 89 => ⟨S1024, .f32⟩
  | 90 => ⟨S1x1x1024, .f32⟩
  | 91 => ⟨S8x8192x1024, .f32⟩
  | 92 => ⟨S8x8192x1024, .f32⟩
  | 93 => ⟨S8x8192x1024, .f32⟩
  | 94 => ⟨S8x8192x1024, .f32⟩
  | 95 => ⟨S1x1024, .f32⟩
  | 96 => ⟨S1024, .f32⟩
  | 97 => ⟨S1x1x1024, .f32⟩
  | 98 => ⟨S8x8192x1024, .f32⟩
  | 99 => ⟨S8x8192x1024, .f32⟩
  | 100 => ⟨S8x8192x1024, .f32⟩
  | 101 => ⟨S1x1x1024, .f32⟩
  | 102 => ⟨S8x8192x1024, .f32⟩
  | 103 => ⟨S8x8192x1024, .f32⟩
  | 104 => ⟨S8x8192x1024, .f32⟩
  | 105 => ⟨S8x8192x1024, .f32⟩
  | 106 => ⟨S_, .f32⟩
  | 107 => ⟨S8x8192x1024, .f32⟩
  | 108 => ⟨S8x8192x1024, .f32⟩
  | 109 => ⟨S_, .f32⟩
  | 110 => ⟨S8x8192x1024, .f32⟩
  | 111 => ⟨S8x8192x1024, .f32⟩
  | 112 => ⟨S8x8192x1024, .f32⟩
  | 113 => ⟨S8x8192x512, .f32⟩
  | 114 => ⟨S8x8192x512, .f32⟩
  | 115 => ⟨S1x1x4, .f32⟩
  | 116 => ⟨S8x8192x4, .f32⟩
  | 117 => ⟨S8x8192x4, .f32⟩
  | 118 => ⟨S8x4x8192, .f32⟩
  | 119 => ⟨S1x1x4, .f32⟩
  | 120 => ⟨S8x8192x4, .f32⟩
  | 121 => ⟨S8x8192x4, .f32⟩
  | 122 => ⟨S8x8192x4, .f32⟩
  | 123 => ⟨S_, .f32⟩
  | 124 => ⟨S8x8192x4, .f32⟩
  | 125 => ⟨S8x8192x4, .f32⟩
  | 126 => ⟨S8x8192x4, .f32⟩
  | 127 => ⟨S8x8192x4, .f32⟩
  | _ => ⟨S8x8192x1024, .f32⟩

abbrev hbmTy0_3 (i : Nat) : BufTy := match i % 128 with
  | 0 => ⟨S8x8192x4, .i1⟩
  | 1 => ⟨S8x8192x4, .f32⟩
  | 2 => ⟨S8x8192x4, .f32⟩
  | 3 => ⟨S8x8192x4, .f32⟩
  | 4 => ⟨S8x8192x4, .f32⟩
  | 5 => ⟨S8x8192x4, .f32⟩
  | 6 => ⟨S8x8192x4, .f32⟩
  | 7 => ⟨S8x8192x4, .f32⟩
  | 8 => ⟨S8x8192x4, .f32⟩
  | 9 => ⟨S8x8192x4, .f32⟩
  | 10 => ⟨S8x4x8192, .f32⟩
  | 11 => ⟨S8x8192x4x128, .f32⟩
  | 12 => ⟨S8x4x8192x128, .f32⟩
  | 13 => ⟨S8x8192x4x128, .f32⟩
  | 14 => ⟨S8x4x8192x128, .f32⟩
  | 15 => ⟨S_, .f32⟩
  | 16 => ⟨S8x4x8192x128, .f32⟩
  | 17 => ⟨S8x4x8192x128, .f32⟩
  | 18 => ⟨S8x8192x4x128, .f32⟩
  | 19 => ⟨S8x4x8192x128, .f32⟩
  | 20 => ⟨S_, .f32⟩
  | 21 => ⟨S_, .f32⟩
  | 22 => ⟨S8x4x8192, .f32⟩
  | 23 => ⟨S8x4x8192x1, .f32⟩
  | 24 => ⟨S8x4x1x8192, .f32⟩
  | 25 => ⟨S8x4x8192x8192, .f32⟩
  | 26 => ⟨S8x4x8192x8192, .f32⟩
  | 27 => ⟨S8x4x8192x8192, .f32⟩
  | 28 => ⟨S8x4x1x8192, .f32⟩
  | 29 => ⟨S8x4x8192x8192, .f32⟩
  | 30 => ⟨S8x4x8192x8192, .f32⟩
  | 31 => ⟨S_, .i1⟩
  | 32 => ⟨S8192x8192, .i1⟩
  | 33 => ⟨S8192x8192, .i32⟩
  | 34 => ⟨S_, .i32⟩
  | 35 => ⟨S8192x8192, .i32⟩
  | 36 => ⟨S8192x8192, .i32⟩
  | 37 => ⟨S8192x8192, .i32⟩
  | 38 => ⟨S8192x8192, .i1⟩
  | 39 => ⟨S_, .i1⟩
  | 40 => ⟨S8192x8192, .i1⟩
  | 41 => ⟨S8192x8192, .i1⟩
  | 42 => ⟨S_, .f32⟩
  | 43 => ⟨S_, .f32⟩
  | 44 => ⟨S8x4x8192x8192, .i1⟩
  | 45 => ⟨S8x4x8192x8192, .f32⟩
  | 46 => ⟨S8x4x8192x8192, .f32⟩
  | 47 => ⟨S_, .f32⟩
  | 48 => ⟨S8x4x8192, .f32⟩
  | 49 => ⟨S8x4x8192, .f32⟩
  | 50 => ⟨S8x4x8192x1, .f32⟩
  | 51 => ⟨S8x4x8192x8192, .f32⟩
  | 52 => ⟨S8x4x8192x8192, .f32⟩
  | 53 => ⟨S8x4x8192x8192, .f32⟩
  | 54 => ⟨S8x4x8192x8192, .f32⟩
  | 55 => ⟨S8x4x8192x8192, .f32⟩
  | 56 => ⟨S8x4x8192x128, .f32⟩
  | 57 => ⟨S_, .f32⟩
  | 58 => ⟨S8x4x8192, .f32⟩
  | 59 => ⟨S8x4x8192, .f32⟩
  | 60 => ⟨S8x4x8192, .f32⟩
  | 61 => ⟨S8x4x8192, .f32⟩
  | 62 => ⟨S8x4x8192, .f32⟩
  | 63 => ⟨S8x4x8192x1, .f32⟩
  | 64 => ⟨S8x4x8192x128, .f32⟩
  | 65 => ⟨S8x4x8192x128, .f32⟩
  | 66 => ⟨S8x4x8192x128, .f32⟩
  | 67 => ⟨S_, .f32⟩
  | 68 => ⟨S8x4x8192, .f32⟩
  | 69 => ⟨S8x4x8192x1, .f32⟩
  | 70 => ⟨S_, .f32⟩
  | 71 => ⟨S8x4x8192x1, .f32⟩
  | 72 => ⟨S8x4x8192x1, .f32⟩
  | 73 => ⟨S_, .f32⟩
  | 74 => ⟨S8x4x8192x1, .f32⟩
  | 75 => ⟨S8x4x8192x1, .f32⟩
  | 76 => ⟨S8x4x8192x1, .f32⟩
  | 77 => ⟨S8x4x8192x128, .f32⟩
  | 78 => ⟨S8x4x8192x128, .f32⟩
  | 79 => ⟨S8x8192x4x128, .f32⟩
  | 80 => ⟨S8x8192x512, .f32⟩
  | 81 => ⟨S1x1x512, .f32⟩
  | 82 => ⟨S8x8192x512, .f32⟩
  | 83 => ⟨S8x8192x512, .f32⟩
  | 84 => ⟨S8x8192x512, .f32⟩
  | 85 => ⟨S8x8192x512, .f32⟩
  | 86 => ⟨S_, .f32⟩
  | 87 => ⟨S8x8192x512, .f32⟩
  | 88 => ⟨S8x8192x512, .f32⟩
  | 89 => ⟨S_, .f32⟩
  | 90 => ⟨S8x8192x512, .f32⟩
  | 91 => ⟨S8x8192x512, .f32⟩
  | 92 => ⟨S8x8192x512, .f32⟩
  | 93 => ⟨S8x8192x1024, .f32⟩
  | 94 => ⟨S8x8192x1024, .f32⟩
  | 95 => ⟨S1024, .f32⟩
  | 96 => ⟨S8x8192x1024, .f32⟩
  | 97 => ⟨S_, .f32⟩
  | 98 => ⟨S8x8192, .f32⟩
  | 99 => ⟨S8x8192x1, .f32⟩
  | 100 => ⟨S_, .f32⟩
  | 101 => ⟨S8x8192x1, .f32⟩
  | 102 => ⟨S8x8192x1, .f32⟩
  | 103 => ⟨S_, .f32⟩
  | 104 => ⟨S8x8192x1, .f32⟩
  | 105 => ⟨S8x8192x1, .f32⟩
  | 106 => ⟨S8x8192x1, .f32⟩
  | 107 => ⟨S8x8192x1024, .f32⟩
  | 108 => ⟨S8x8192x1024, .f32⟩
  | 109 => ⟨S1x1x1024, .f32⟩
  | 110 => ⟨S8x8192x1024, .f32⟩
  | 111 => ⟨S8x8192x1024, .f32⟩
  | 112 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | 3 => hbmTy0_3 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_cst_3 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_v249 : Ref sig .tc := ⟨.hbm, 271, rfl⟩
abbrev main_v250 : Ref sig .tc := ⟨.hbm, 272, rfl⟩
abbrev main_v251 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩
abbrev main_v256 : Ref sig .tc := ⟨.hbm, 278, rfl⟩
abbrev main_v257 : Ref sig .tc := ⟨.hbm, 279, rfl⟩
abbrev main_v258 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_cst_5 : Ref sig .tc := ⟨.hbm, 285, rfl⟩
abbrev main_v263 : Ref sig .tc := ⟨.hbm, 286, rfl⟩
abbrev main_v264 : Ref sig .tc := ⟨.hbm, 287, rfl⟩
abbrev main_cst_6 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_cst_7 : Ref sig .tc := ⟨.hbm, 294, rfl⟩
abbrev main_v270 : Ref sig .tc := ⟨.hbm, 295, rfl⟩
abbrev main_v271 : Ref sig .tc := ⟨.hbm, 296, rfl⟩
abbrev main_cst_8 : Ref sig .tc := ⟨.hbm, 297, rfl⟩
abbrev main_v272 : Ref sig .tc := ⟨.hbm, 298, rfl⟩
abbrev main_v273 : Ref sig .tc := ⟨.hbm, 299, rfl⟩
abbrev main_v274 : Ref sig .tc := ⟨.hbm, 300, rfl⟩
abbrev main_v275 : Ref sig .tc := ⟨.hbm, 301, rfl⟩
abbrev main_cst_9 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_call1_v0 : Ref sig .tc := ⟨.hbm, 314, rfl⟩
abbrev main_call1_v1 : Ref sig .tc := ⟨.hbm, 315, rfl⟩
abbrev main_call1_cst : Ref sig .tc := ⟨.hbm, 316, rfl⟩
abbrev main_call1_v2 : Ref sig .tc := ⟨.hbm, 317, rfl⟩
abbrev main_call1_v3 : Ref sig .tc := ⟨.hbm, 318, rfl⟩
abbrev main_call1_cst_0 : Ref sig .tc := ⟨.hbm, 319, rfl⟩
abbrev main_call1_v4 : Ref sig .tc := ⟨.hbm, 320, rfl⟩
abbrev main_call1_v5 : Ref sig .tc := ⟨.hbm, 321, rfl⟩
abbrev main_v287 : Ref sig .tc := ⟨.hbm, 322, rfl⟩
abbrev main_v288 : Ref sig .tc := ⟨.hbm, 323, rfl⟩
abbrev main_c_10 : Ref sig .tc := ⟨.hbm, 324, rfl⟩
abbrev main_call2_v0 : Ref sig .tc := ⟨.hbm, 325, rfl⟩
abbrev main_v289 : Ref sig .tc := ⟨.hbm, 326, rfl⟩
abbrev main_v290 : Ref sig .tc := ⟨.hbm, 327, rfl⟩
abbrev main_v291 : Ref sig .tc := ⟨.hbm, 328, rfl⟩
abbrev main_v292 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_cst_11 : Ref sig .tc := ⟨.hbm, 333, rfl⟩
abbrev main_v296 : Ref sig .tc := ⟨.hbm, 334, rfl⟩
abbrev main_v297 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_v316 : Ref sig .tc := ⟨.hbm, 354, rfl⟩
abbrev main_v317 : Ref sig .tc := ⟨.hbm, 355, rfl⟩
abbrev main_v318 : Ref sig .tc := ⟨.hbm, 356, rfl⟩
abbrev main_v319 : Ref sig .tc := ⟨.hbm, 357, rfl⟩
abbrev main_v320 : Ref sig .tc := ⟨.hbm, 358, rfl⟩
abbrev main_v321 : Ref sig .tc := ⟨.hbm, 359, rfl⟩
abbrev main_call3_v0 : Ref sig .tc := ⟨.hbm, 360, rfl⟩
abbrev main_call3_v1 : Ref sig .tc := ⟨.hbm, 361, rfl⟩
abbrev main_call3_cst : Ref sig .tc := ⟨.hbm, 362, rfl⟩
abbrev main_call3_v2 : Ref sig .tc := ⟨.hbm, 363, rfl⟩
abbrev main_call3_v3 : Ref sig .tc := ⟨.hbm, 364, rfl⟩
abbrev main_call3_cst_0 : Ref sig .tc := ⟨.hbm, 365, rfl⟩
abbrev main_call3_v4 : Ref sig .tc := ⟨.hbm, 366, rfl⟩
abbrev main_call3_v5 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_call4_v0 : Ref sig .tc := ⟨.hbm, 378, rfl⟩
abbrev main_call4_call0_cst : Ref sig .tc := ⟨.hbm, 379, rfl⟩
abbrev main_call4_call0_v0 : Ref sig .tc := ⟨.hbm, 380, rfl⟩
abbrev main_call4_call0_v1 : Ref sig .tc := ⟨.hbm, 381, rfl⟩
abbrev main_call4_call0_v2 : Ref sig .tc := ⟨.hbm, 382, rfl⟩
abbrev main_call4_call0_v3 : Ref sig .tc := ⟨.hbm, 383, rfl⟩
abbrev main_call4_call0_v4 : Ref sig .tc := ⟨.hbm, 384, rfl⟩
abbrev main_call4_call0_v5 : Ref sig .tc := ⟨.hbm, 385, rfl⟩
abbrev main_call4_call0_v6 : Ref sig .tc := ⟨.hbm, 386, rfl⟩
abbrev main_call4_call0_v7 : Ref sig .tc := ⟨.hbm, 387, rfl⟩
abbrev main_call4_call0_v8 : Ref sig .tc := ⟨.hbm, 388, rfl⟩
abbrev main_call4_call0_v9 : Ref sig .tc := ⟨.hbm, 389, rfl⟩
abbrev main_call4_call0_v10 : Ref sig .tc := ⟨.hbm, 390, rfl⟩
abbrev main_call4_call0_v11 : Ref sig .tc := ⟨.hbm, 391, rfl⟩
abbrev main_call4_v1 : Ref sig .tc := ⟨.hbm, 392, rfl⟩
abbrev main_v332 : Ref sig .tc := ⟨.hbm, 393, rfl⟩
abbrev main_v333 : Ref sig .tc := ⟨.hbm, 394, rfl⟩
abbrev main_v334 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_cst_12 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_call5_call0_cst : Ref sig .tc := ⟨.hbm, 404, rfl⟩
abbrev main_call5_call0_v0 : Ref sig .tc := ⟨.hbm, 405, rfl⟩
abbrev main_v342 : Ref sig .tc := ⟨.hbm, 406, rfl⟩
abbrev main_v343 : Ref sig .tc := ⟨.hbm, 407, rfl⟩
abbrev main_v344 : Ref sig .tc := ⟨.hbm, 408, rfl⟩
abbrev main_v345 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_c_13 : Ref sig .tc := ⟨.hbm, 415, rfl⟩
abbrev main_v351 : Ref sig .tc := ⟨.hbm, 416, rfl⟩
abbrev main_call6_v0 : Ref sig .tc := ⟨.hbm, 417, rfl⟩
abbrev main_call6_c : Ref sig .tc := ⟨.hbm, 418, rfl⟩
abbrev main_call6_v1 : Ref sig .tc := ⟨.hbm, 419, rfl⟩
abbrev main_call6_v2 : Ref sig .tc := ⟨.hbm, 420, rfl⟩
abbrev main_call6_v3 : Ref sig .tc := ⟨.hbm, 421, rfl⟩
abbrev main_call6_v4 : Ref sig .tc := ⟨.hbm, 422, rfl⟩
abbrev main_call6_c_0 : Ref sig .tc := ⟨.hbm, 423, rfl⟩
abbrev main_call6_v5 : Ref sig .tc := ⟨.hbm, 424, rfl⟩
abbrev main_v352 : Ref sig .tc := ⟨.hbm, 425, rfl⟩
abbrev main_cst_14 : Ref sig .tc := ⟨.hbm, 426, rfl⟩
abbrev main_call7_v0 : Ref sig .tc := ⟨.hbm, 427, rfl⟩
abbrev main_call7_v1 : Ref sig .tc := ⟨.hbm, 428, rfl⟩
abbrev main_call7_v2 : Ref sig .tc := ⟨.hbm, 429, rfl⟩
abbrev main_v353 : Ref sig .tc := ⟨.hbm, 430, rfl⟩
abbrev main_cst_15 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_cst_16 : Ref sig .tc := ⟨.hbm, 441, rfl⟩
abbrev main_v363 : Ref sig .tc := ⟨.hbm, 442, rfl⟩
abbrev main_v364 : Ref sig .tc := ⟨.hbm, 443, rfl⟩
abbrev main_v365 : Ref sig .tc := ⟨.hbm, 444, rfl⟩
abbrev main_v366 : Ref sig .tc := ⟨.hbm, 445, rfl⟩
abbrev main_v367 : Ref sig .tc := ⟨.hbm, 446, rfl⟩
abbrev main_v368 : Ref sig .tc := ⟨.hbm, 447, rfl⟩
abbrev main_v369 : Ref sig .tc := ⟨.hbm, 448, rfl⟩
abbrev main_v370 : Ref sig .tc := ⟨.hbm, 449, rfl⟩
abbrev main_v371 : Ref sig .tc := ⟨.hbm, 450, rfl⟩
abbrev main_cst_17 : Ref sig .tc := ⟨.hbm, 451, rfl⟩
abbrev main_v372 : Ref sig .tc := ⟨.hbm, 452, rfl⟩
abbrev main_v373 : Ref sig .tc := ⟨.hbm, 453, rfl⟩
abbrev main_cst_18 : Ref sig .tc := ⟨.hbm, 454, rfl⟩
abbrev main_v374 : Ref sig .tc := ⟨.hbm, 455, rfl⟩
abbrev main_v375 : Ref sig .tc := ⟨.hbm, 456, rfl⟩
abbrev main_cst_19 : Ref sig .tc := ⟨.hbm, 457, rfl⟩
abbrev main_v376 : Ref sig .tc := ⟨.hbm, 458, rfl⟩
abbrev main_v377 : Ref sig .tc := ⟨.hbm, 459, rfl⟩
abbrev main_v378 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_v386 : Ref sig .tc := ⟨.hbm, 468, rfl⟩
abbrev main_v387 : Ref sig .tc := ⟨.hbm, 469, rfl⟩
abbrev main_cst_20 : Ref sig .tc := ⟨.hbm, 470, rfl⟩
abbrev main_v388 : Ref sig .tc := ⟨.hbm, 471, rfl⟩
abbrev main_v389 : Ref sig .tc := ⟨.hbm, 472, rfl⟩
abbrev main_cst_21 : Ref sig .tc := ⟨.hbm, 473, rfl⟩
abbrev main_v390 : Ref sig .tc := ⟨.hbm, 474, rfl⟩
abbrev main_v391 : Ref sig .tc := ⟨.hbm, 475, rfl⟩
abbrev main_v392 : Ref sig .tc := ⟨.hbm, 476, rfl⟩
abbrev main_v393 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_cst_22 : Ref sig .tc := ⟨.hbm, 481, rfl⟩
abbrev main_v397 : Ref sig .tc := ⟨.hbm, 482, rfl⟩
abbrev main_v398 : Ref sig .tc := ⟨.hbm, 483, rfl⟩
abbrev main_cst_23 : Ref sig .tc := ⟨.hbm, 484, rfl⟩
abbrev main_v399 : Ref sig .tc := ⟨.hbm, 485, rfl⟩
abbrev main_v400 : Ref sig .tc := ⟨.hbm, 486, rfl⟩
abbrev main_cst_24 : Ref sig .tc := ⟨.hbm, 487, rfl⟩
abbrev main_v401 : Ref sig .tc := ⟨.hbm, 488, rfl⟩
abbrev main_v402 : Ref sig .tc := ⟨.hbm, 489, rfl⟩
abbrev main_v403 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_v408 : Ref sig .tc := ⟨.hbm, 495, rfl⟩
abbrev main_v409 : Ref sig .tc := ⟨.hbm, 496, rfl⟩

abbrev nD : Nat := 1
abbrev τ : Topo := Topo.v7x

variable {F : FTy → Type} [FloatOps F]
-- ==== Proof.MemkvValue.lean ====
/- The value of the memory key/value projection: what each result array of `memkv` holds after the run is the
   reference's term of the arguments. -/
module

public import proofs.«01_k».proof.Proof.Gen.MemkvIdeal.Frame
public import proofs.«01_k».proof.Proof.Gen.MemkvIdeal.Value
public import proofs.«01_k».proof.Proof.Gen.MemkvRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemkvIdeal.Mem

open Cert.MemkvIdeal Cert.MemkvIdeal.Gen
open Cert.MemkvRefIdeal.Read (val_main_v0 val_main_v1 val_main_cst val_main_v2 val_main_v3 val_main_cst_0 val_main_v4
  val_main_v5 val_main_cst_1 val_main_v6 val_main_v7 val_main_v8 val_main_v9 val_main_v10 val_main_v11 val_main_v12
  val_main_v13 val_main_v14 val_main_v15 val_main_v16 val_main_v17 val_main_cst_2 val_main_v18 val_main_v19 val_main_v20
  val_main_v21 val_main_v22)

variable (X0 : FVec Ideal S8x256x1024 .f32) (X1 : FVec Ideal S1x1024 .f32) (X2 : FVec Ideal S1x1024x1024 .f32)
  (x0 : Vec Ideal S1x256x1024 .f32) (x1 : Vec Ideal S1x1024 .f32) (x2 x3 : Vec Ideal S1024x1024 .bf16) (b : Fin 8)

/-- A grid point's block of the transposed keys, from its blocks of the arguments: the reference's keys of batch `b`. -/
theorem kt_at (h0 : ∀ n l, x0 (ix3 0 n l) = X0 (ix3 b n l)) (h1 : ∀ l, x1 (ix2 0 l) = X1 (ix2 0 l))
    (h2 : ∀ k l, x2 (ix2 k l) = X2 (ix3 0 k l)) (d : Fin 1024) (n : Fin 256) :
    out0_4 x0 x1 x2 x3 (ix3 0 d n) = val_main_v21 (F := Ideal) X0 X1 X2 (ix3 b d n) := by
  frame_out
  pointwise [k0_pay2, k0_pay1, val_main_v21, val_main_v20, val_main_v19, val_main_v18, val_main_cst_2, val_main_v15,
    val_main_v14, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  simp only [h0, h1, h2]

/-- A grid point's block of the values, from its blocks of the arguments: the reference's values of batch `b`. -/
theorem v_at (h0 : ∀ n l, x0 (ix3 0 n l) = X0 (ix3 b n l)) (h1 : ∀ l, x1 (ix2 0 l) = X1 (ix2 0 l))
    (h3 : ∀ k l, x3 (ix2 k l) = X2 (ix3 0 k l)) (n : Fin 256) (d : Fin 1024) :
    out0_5 x0 x1 x2 x3 (ix3 0 n d) = val_main_v22 (F := Ideal) X0 X1 X2 (ix3 b n d) := by
  frame_out
  pointwise [k0_pay3, k0_pay1, val_main_v22, val_main_v17,
    val_main_v16, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  simp only [h0, h1, h3]

variable (m : (ℓ : Loc nD τ sig) → Buf (Elt Ideal) ℓ)

/-- Each window's block at each grid point: batch `t` of the memory and of the two results, the whole of the gain and
    of the two weights. -/
theorem idx : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- What the body stores of the transposed keys at a block index is the reference's value at the array index it sits at. -/
theorem point_kt (c : Dev nD) (t : Fin cfg0.N) (y) :
    k0_pay2 (iblk m c 0 t) (iblk m c 1 t) (iblk m c 2 t) y
      = val_main_v21 (F := Ideal) (m ((c : Thread nD τ).loc main_arg0)) (m ((c : Thread nD τ).loc main_arg1))
          (m ((c : Thread nD τ).loc main_arg2)) (((cfg0.win 4).blk t).view.emb y) := by
  pointwise [k0_pay2, k0_pay1, val_main_v21, val_main_v20, val_main_v19, val_main_v18, val_main_cst_2, val_main_v15,
    val_main_v14, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  blk_point [iblk, V, idx t]

/-- What the body stores of the values at a block index is the reference's value at the array index it sits at. -/
theorem point_v (c : Dev nD) (t : Fin cfg0.N) (y) :
    k0_pay3 (iblk m c 0 t) (iblk m c 1 t) (iblk m c 3 t) y
      = val_main_v22 (F := Ideal) (m ((c : Thread nD τ).loc main_arg0)) (m ((c : Thread nD τ).loc main_arg1))
          (m ((c : Thread nD τ).loc main_arg3)) (((cfg0.win 5).blk t).view.emb y) := by
  pointwise [k0_pay3, k0_pay1, val_main_v22, val_main_v17,
    val_main_v16, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  blk_point [iblk, V, idx t]

/-- The array of transposed keys after the run is the reference's term of the arguments. -/
theorem final_kt (c : Dev nD) : (dats m 0 c).arrAt 4 (cfgs 0).N
    = val_main_v21 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp; rw [after0_4]; frame_out
  exact point_kt m c t y

/-- The array of values after the run is the reference's term of the arguments. -/
theorem final_v (c : Dev nD) : (dats m 0 c).arrAt 5 (cfgs 0).N
    = val_main_v22 (F := Ideal) (m ((c : Thread nD τ).loc main_arg0)) (m ((c : Thread nD τ).loc main_arg1))
        (m ((c : Thread nD τ).loc main_arg3)) := by
  refine (dats m 0 c).arrAt_eq_of_covers 5 _ (by decide +kernel) fun t _ y => ?_
  blk_simp; rw [after0_5]; frame_out
  exact point_v m c t y

/-- The idealized kernel and the idealized reference of the memory projection end with the same two arrays. -/
theorem algebraic : Cert.algebraic_MemkvIdeal_MemkvRefIdeal := by
  pair_intro
  · run_from Cert.MemkvIdeal.Gen.run_main m g
  · run_from Cert.MemkvRefIdeal.Value.run m' g'
    · exact (final_kt m c).symm
    · exact (final_v m c).symm

end Cert.MemkvIdeal.Mem

end
-- ==== Proof.Scalars.lean ====
/- Scalar facts about the extended reals that the value proofs share. -/
module

public import Idealize.ShloMosaic.Lib.Pointwise
public import Idealize.ShloMosaic.Lib.IdealHost

@[expose] public section

noncomputable section

open Idealize.ShloMosaic

namespace Cert.Scalars

/-- The pattern of 0.5 is the real number one half. -/
theorem half_eq : Ideal.ofBits .f32 0x3F000000#32 = ((1 / 2 : ℝ) : EReal) := by
  simp [Ideal.ofBits, Ideal.ieee]
  norm_cast
  norm_num

/-- Half a hyperbolic tangent of half the argument, plus one half, is the logistic function: at every extended real. -/
theorem logistic_of_tanh (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half_eq]
  induction x with
  | bot =>
    have h : ((1 / 2 : ℝ) : EReal) * ⊥ = ⊥ := EReal.coe_mul_bot_of_pos (by norm_num)
    rw [h, EReal.neg_bot]
    show ((1 / 2 : ℝ) : EReal) * (-1) + ((1 / 2 : ℝ) : EReal) = Ideal.div 1 (1 + ⊤)
    have h1 : (1 : EReal) + ⊤ = ⊤ := rfl
    rw [h1, Ideal.div, if_neg EReal.top_ne_zero, EReal.inv_top, mul_zero, mul_neg, mul_one, ← EReal.coe_neg,
      ← EReal.coe_add, neg_add_cancel, EReal.coe_zero]
  | top =>
    have h : ((1 / 2 : ℝ) : EReal) * ⊤ = ⊤ := EReal.coe_mul_top_of_pos (by norm_num)
    rw [h, EReal.neg_top]
    show ((1 / 2 : ℝ) : EReal) * 1 + ((1 / 2 : ℝ) : EReal) = Ideal.div 1 (1 + 0)
    rw [add_zero, Ideal.div, if_neg one_ne_zero]
    norm_cast
    norm_num
  | coe r =>
    rw [← EReal.coe_mul, ← EReal.coe_neg]
    show ((1 / 2 : ℝ) : EReal) * ((Real.tanh (1 / 2 * r) : ℝ) : EReal) + ((1 / 2 : ℝ) : EReal)
      = Ideal.div 1 (1 + ((Real.exp (-r) : ℝ) : EReal))
    have hp : 0 < 1 + Real.exp (-r) := by positivity
    have h1 : (1 : EReal) + ((Real.exp (-r) : ℝ) : EReal) = ((1 + Real.exp (-r) : ℝ) : EReal) := by norm_cast
    rw [h1, Ideal.div, if_neg (by exact_mod_cast hp.ne')]
    rw [one_mul, ← EReal.coe_inv, ← EReal.coe_mul, ← EReal.coe_add]
    congr 1
    rw [Real.tanh_eq_sinh_div_cosh, Real.sinh_eq, Real.cosh_eq]
    have e1 : Real.exp (-r) = Real.exp (-(1 / 2 * r)) * Real.exp (-(1 / 2 * r)) := by
      rw [← Real.exp_add]; congr 1; ring
    have e2 : Real.exp (1 / 2 * r) * Real.exp (-(1 / 2 * r)) = 1 := by
      rw [← Real.exp_add]; simp
    rw [e1]
    have ha := Real.exp_pos (1 / 2 * r)
    have hb := Real.exp_pos (-(1 / 2 * r))
    generalize Real.exp (1 / 2 * r) = a at *
    generalize Real.exp (-(1 / 2 * r)) = b at *
    field_simp
    nlinarith

/-- A sum over 2816 terms is the sum over the first 1536 plus the sum over the last 1280. -/
theorem sum_2816 (f : Fin 2816 → EReal) :
    ∑ k, f k = ∑ k : Fin 1536, f ⟨k.val, by omega⟩ + ∑ k : Fin 1280, f ⟨1536 + k.val, by omega⟩ :=
  Fin.sum_univ_add (a := 1536) (b := 1280) f

end Cert.Scalars

end
-- ==== Proof.FfnValue.lean ====
/- The value of the feed-forward half step: what the result array of `ffn` holds after the run is the
   reference's term of the arguments. -/
module

public import proofs.«01_k».proof.Proof.Gen.FfnIdeal.Frame
public import proofs.«01_k».proof.Proof.Gen.FfnIdeal.Value
public import proofs.«01_k».proof.Proof.Gen.FfnRefIdeal.Read
public import proofs.«01_k».proof.Defs
public import proofs.«01_k».proof.Proof.Scalars
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Half

open Cert.FfnIdeal Cert.FfnIdeal.Gen
open Cert.FfnRefIdeal.Read (val_main_cst val_main_cst_0 val_main_cst_1 val_main_cst_2 val_main_cst_3 val_main_cst_4 val_main_cst_5
  val_main_v0 val_main_v1 val_main_v2 val_main_v3 val_main_v4 val_main_v5 val_main_v6 val_main_v7 val_main_v8
  val_main_v9 val_main_v10 val_main_v11 val_main_v12 val_main_v13 val_main_v14 val_main_v15 val_main_v16
  val_main_v17 val_main_v18 val_main_v19 val_main_v20 val_main_v21 val_main_v22 val_main_v23 val_main_v24
  val_main_v25 val_main_v26 val_main_v27 val_main_v28 val_main_v29 val_main_v30 val_main_v31 val_main_v32
  val_main_v33 val_main_v34 val_main_v35 val_main_v36 val_main_v37 val_main_v38 val_main_v39 val_main_call0_v0
  val_main_call0_v1 val_main_call0_v2 val_main_call0_v3 val_main_call0_v4 val_main_call0_v5 val_main_call0_cst
  val_main_call0_cst_0)

variable (X0 : FVec Ideal S8x8192x1024 .f32) (X1 : FVec Ideal S1x1024 .f32) (X2 X3 : FVec Ideal S1x1024x2816 .f32)
  (X4 : FVec Ideal S1x2816x1024 .f32) (X5 : FVec Ideal S1x1024 .f32)
  (x0 : Vec Ideal S1024x1024 .f32) (x1 : Vec Ideal S1x1024 .f32) (x2 x3 : Vec Ideal S1024x2816 .bf16)
  (x4 : Vec Ideal S2816x1024 .bf16) (x5 : Vec Ideal S1x1024 .f32) (r : Fin 1024) (b : Fin 8) (s : Fin 8192)

/-- The normalized row `r` of the block is the reference's normalized token `s` of batch `b`. -/
theorem norm_at (h0 : ∀ l, x0 (ix2 r l) = X0 (ix3 b s l)) (h1 : ∀ l, x1 (ix2 0 l) = X1 (ix2 0 l)) (l : Fin 1024) :
    k0_pay3 x0 x1 (ix2 r l) = val_main_v13 (F := Ideal) X0 X1 (ix3 b s l) := by
  pointwise [k0_pay3, k0_pay2, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  simp only [h0, h1]

/-- The two partial down projections of the block, added, are the reference's down projection of the whole hidden width. -/
theorem down_at (h0 : ∀ l, x0 (ix2 r l) = X0 (ix3 b s l)) (h1 : ∀ l, x1 (ix2 0 l) = X1 (ix2 0 l))
    (h2 : ∀ k l, x2 (ix2 k l) = X2 (ix3 0 k l)) (h3 : ∀ k l, x3 (ix2 k l) = X3 (ix3 0 k l))
    (h4 : ∀ k l, x4 (ix2 k l) = X4 (ix3 0 k l)) (j : Fin 1024) :
    k0_pay4 x0 x1 (View.ld x2 r0_2) (View.ld x3 r0_2) (View.ld x4 r0_3) (ix2 r j)
      + (∑ x : Fin 1280, ((∑ l, k0_pay3 x0 x1 (ix2 r l) * (show EReal from x2 (ix2 l ⟨1536 + x.val, by omega⟩)))
            * Ideal.div 1 (1 + Ideal.exp (-∑ l, k0_pay3 x0 x1 (ix2 r l)
                * (show EReal from x2 (ix2 l ⟨1536 + x.val, by omega⟩))))
            * (∑ l, k0_pay3 x0 x1 (ix2 r l) * (show EReal from x3 (ix2 l ⟨1536 + x.val, by omega⟩))))
          * (show EReal from x4 (ix2 ⟨1536 + x.val, by omega⟩ j)))
      = val_main_v21 (F := Ideal) X0 X1 X2 X3 X4 (ix3 b s j) := by
  pointwise [k0_pay4, val_main_v21, val_main_v20, val_main_v19, val_main_v18, val_main_v17,
    val_main_v16, val_main_v15, val_main_v14, val_main_call0_v0, val_main_call0_v1,
    val_main_call0_v2, val_main_call0_v3, val_main_call0_v4, val_main_call0_v5, val_main_call0_cst, val_main_call0_cst_0]
  simp only [Scalars.logistic_of_tanh, Scalars.sum_2816, norm_at X0 X1 x0 x1 r b s h0 h1]
  blk_point [h2, h3, h4]

/-- What the body stores of row `r` is the reference's result at token `s` of batch `b`. -/
theorem point (h0 : ∀ l, x0 (ix2 r l) = X0 (ix3 b s l)) (h1 : ∀ l, x1 (ix2 0 l) = X1 (ix2 0 l))
    (h2 : ∀ k l, x2 (ix2 k l) = X2 (ix3 0 k l)) (h3 : ∀ k l, x3 (ix2 k l) = X3 (ix3 0 k l))
    (h4 : ∀ k l, x4 (ix2 k l) = X4 (ix3 0 k l)) (h5 : ∀ l, x5 (ix2 0 l) = X5 (ix2 0 l)) (j : Fin 1024) :
    k0_pay1 (k0_pay2 x0) (k0_pay3 x0 x1) (k0_pay4 x0 x1 (View.ld x2 r0_2) (View.ld x3 r0_2) (View.ld x4 r0_3))
        (k0_pay5 (View.ld x2 r0_4)) (View.ld x3 r0_4) (View.ld x4 r0_5) x5 (ix2 r j)
      = val_main_v38 (F := Ideal) X0 X1 X2 X3 X4 X5 (ix3 b s j) := by
  pointwise [k0_pay1, k0_pay2, k0_pay5, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_cst_2, val_main_cst_3,
    val_main_cst_4, val_main_cst_5]
  simp only [Scalars.logistic_of_tanh, down_at X0 X1 X2 X3 X4 x0 x1 x2 x3 x4 r b s h0 h1 h2 h3 h4, h0, h5]

/-- A grid point's block of the result, from its blocks of the arguments: row `r` is the reference's token `s` of batch
    `b`. -/
theorem block_at (h0 : ∀ l, x0 (ix2 r l) = X0 (ix3 b s l)) (h1 : ∀ l, x1 (ix2 0 l) = X1 (ix2 0 l))
    (h2 : ∀ k l, x2 (ix2 k l) = X2 (ix3 0 k l)) (h3 : ∀ k l, x3 (ix2 k l) = X3 (ix3 0 k l))
    (h4 : ∀ k l, x4 (ix2 k l) = X4 (ix3 0 k l)) (h5 : ∀ l, x5 (ix2 0 l) = X5 (ix2 0 l)) (j : Fin 1024) :
    out0_6 x0 x1 x2 x3 x4 x5 (ix2 r j) = val_main_v38 (F := Ideal) X0 X1 X2 X3 X4 X5 (ix3 b s j) := by
  frame_out
  exact point X0 X1 X2 X3 X4 X5 x0 x1 x2 x3 x4 x5 r b s h0 h1 h2 h3 h4 h5 j

/-- The result as one matrix: row `b * 8192 + s` is token `s` of batch `b`. -/
theorem rows_at (i : Fin 65536) (hi : i.val = b.val * 8192 + s.val) (j : Fin 1024) :
    val_main_v39 (F := Ideal) X0 X1 X2 X3 X4 X5 (ix2 i j) = val_main_v38 (F := Ideal) X0 X1 X2 X3 X4 X5 (ix3 b s j) := by
  pointwise [val_main_v39]
  blk_ext

variable (m : (ℓ : Loc nD τ sig) → Buf (Elt Ideal) ℓ)

/-- Each window's block at each grid point: 1024 rows of the tokens and of the result, the whole of the gains and of the
    weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's result over the arguments. -/
abbrev REF (c : Dev nD) : FVec Ideal S65536x1024 .f32 :=
  val_main_v39 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The rows of the tokens that grid point `t` stages: row `r` of the block is row `t * 1024 + r` of the tokens taken as one
    matrix, which is row `s` of batch `b`. -/
theorem tok_at (c : Dev nD) (t : Fin cfg0.N) (r : Fin 1024) (b : Fin 8) (s : Fin 8192)
    (h : b.val * 8192 + s.val = t.val * 1024 + r.val) (l : Fin 1024) :
    iblk m c 0 t (ix2 r l) = m ((c : Thread nD τ).loc main_arg0) (ix3 b s l) := by
  blk_simp [iblk, idx t]
  entry_read
  pointwise
  blk_ext [idx t]

/-- The result array after the run is the reference's term of the arguments. -/
theorem final (c : Dev nD) : (dats m 0 c).arrAt 6 (cfgs 0).N = REF m c := by
  refine (dats m 0 c).arrAt_eq_of_covers 6 _ (by decide +kernel) fun t _ y => ?_
  blk_simp; rw [after0_6]
  have ht : t.val < 64 := t.isLt
  have hr : (y 0).val < 1024 := (y 0).isLt
  have hb : (t.val * 1024 + (y 0).val) / 8192 < 8 := by omega
  have hs : (t.val * 1024 + (y 0).val) % 8192 < 8192 := by omega
  have he : (t.val * 1024 + (y 0).val) / 8192 * 8192 + (t.val * 1024 + (y 0).val) % 8192 = t.val * 1024 + (y 0).val := by omega
  refine (congrArg _ (eq_ix2 y)).trans ((block_at (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) _ _ _ _ _ _ (y 0) ⟨_, hb⟩ ⟨_, hs⟩
    (tok_at m c t (y 0) _ _ he) ?_ ?_ ?_ ?_ ?_ (y 1)).trans ?_)
  · intro l; blk_point [iblk, V, idx t]
  · intro k l; blk_point [iblk, V, idx t]
  · intro k l; blk_point [iblk, V, idx t]
  · intro k l; blk_point [iblk, V, idx t]
  · intro l; blk_point [iblk, V, idx t]
  · refine (rows_at _ _ _ _ _ _ ⟨_, hb⟩ ⟨_, hs⟩ ⟨t.val * 1024 + (y 0).val, by omega⟩ he.symm
      (y 1)).symm.trans ?_
    refine congrArg (REF m c) ?_
    blk_ext [idx t]

/-- The idealized kernel and the idealized reference of the feed-forward half step end with the same array. -/
theorem algebraic : Cert.algebraic_FfnIdeal_FfnRefIdeal := by
  pair_intro
  · run_from Cert.FfnIdeal.Gen.run_main m g
  · run_from Cert.FfnRefIdeal.Value.run m' g'
    obtain ⟨h0, h1, h2, h3, h4, h5⟩ := hagree c
    rw [final m c, REF, Cert.FfnRefIdeal.Read.val_main_v39_eq, h0, h1, h2, h3, h4, h5]

end Cert.FfnIdeal.Half

end
-- ==== Proof.Finite.lean ====
/- Real values among the extended reals: which operations keep a value real, and the softmax step that holds for real
   scores. -/
module

public import proofs.«01_k».proof.Proof.Scalars
public import Idealize.ShloMosaic.Lib.Pointwise
public import Idealize.ShloMosaic.Lib.IdealHost
public import Idealize.ShloMosaic.Lib.ReduceAll

@[expose] public section

noncomputable section

open Idealize.ShloMosaic

namespace Cert.Finite

/-- An extended real that is a real number. -/
def IsReal (x : EReal) : Prop := ∃ r : ℝ, x = (r : EReal)

/-- A real number is real. -/
theorem isReal_coe (r : ℝ) : IsReal (r : EReal) := ⟨r, rfl⟩

/-- Sums of reals are real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- Differences of reals are real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- Products of reals are real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals, as the coercion of the sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Finite sums of reals are real. -/
theorem IsReal.sum {n : ℕ} {f : Fin n → EReal} (h : ∀ i, IsReal (f i)) : IsReal (∑ i, f i) := by
  choose g hg using h
  exact ⟨∑ i, g i, by simp only [hg, coe_sum]⟩

/-- A real factor of a sum of products of reals goes into the second factors. -/
theorem sum_mul_scale {n : ℕ} {f g : Fin n → EReal} {c : EReal} (hf : ∀ i, IsReal (f i)) (hg : ∀ i, IsReal (g i))
    (hc : IsReal c) : (∑ i, f i * g i) * c = ∑ i, f i * (g i * c) := by
  choose p hp using hf
  choose q hq using hg
  obtain ⟨e, rfl⟩ := hc
  simp only [hp, hq, ← EReal.coe_mul, coe_sum, Finset.sum_mul, mul_assoc]

/-- A value whose absolute value is below infinity is real. -/
theorem isReal_of_abs_lt {x : EReal} (h : max x (-x) < ⊤) : IsReal x := by
  induction x with
  | bot => simp at h
  | top => simp at h
  | coe r => exact ⟨r, rfl⟩

/-- The word of plus infinity. -/
theorem ofBits_inf : Ideal.ofBits .f32 0x7F800000#32 = ⊤ := by simp [Ideal.ofBits, Ideal.ieee]

/-- The word of minus infinity. -/
theorem ofBits_neg_inf : Ideal.ofBits .f32 4286578688#32 = ⊥ := by simp [Ideal.ofBits, Ideal.ieee]

/-- The word of 1024. -/
theorem ofBits_1024 : Ideal.ofBits .f32 1149239296#32 = ((1024 : ℝ) : EReal) := by
  simp [Ideal.ofBits, Ideal.ieee]
  norm_cast
  norm_num

/-- The word of the root mean square's epsilon is a positive real. -/
theorem ofBits_eps : ∃ e : ℝ, 0 < e ∧ Ideal.ofBits .f32 897988541#32 = (e : EReal) := by
  refine ⟨8796093 / 2 ^ 43, by norm_num, ?_⟩
  simp [Ideal.ofBits, Ideal.ieee]
  norm_cast

/-- The inverse root mean square of real entries is real: the mean of their squares plus a positive constant is positive. -/
theorem isReal_rms {n : ℕ} {f : Fin n → EReal} (h : ∀ i, IsReal (f i)) :
    IsReal (Ideal.rsqrt (Ideal.div (∑ i, f i * f i) (Ideal.ofBits .f32 1149239296#32) + Ideal.ofBits .f32 897988541#32)) := by
  choose g hg using h
  obtain ⟨e, he, hE⟩ := ofBits_eps
  have hs : 0 ≤ ∑ i, g i * g i := Finset.sum_nonneg fun i _ => mul_self_nonneg _
  have hp : 0 < (∑ i, g i * g i) * (1024 : ℝ)⁻¹ + e := by positivity
  refine ⟨(Real.sqrt ((∑ i, g i * g i) * (1024 : ℝ)⁻¹ + e))⁻¹, ?_⟩
  simp only [hg, hE, ofBits_1024, ← EReal.coe_mul, coe_sum]
  rw [Ideal.div, if_neg (by norm_num), ← EReal.coe_inv, ← EReal.coe_mul, ← EReal.coe_add, Ideal.rsqrt_coe,
    if_neg (not_lt.2 hp.le), if_neg hp.ne']

/-- The square of any extended real is not negative. -/
theorem mul_self_nonneg' (x : EReal) : 0 ≤ x * x := by
  induction x with
  | bot => simp
  | top => simp
  | coe r => rw [← EReal.coe_mul]; exact_mod_cast mul_self_nonneg r

/-- An entry times the inverse root mean square is real whatever the entries are: an infinite entry makes the mean
    infinite and its inverse root zero. -/
theorem isReal_normed {n : ℕ} (f : Fin n → EReal) (l : Fin n) :
    IsReal (f l * Ideal.rsqrt (Ideal.div (∑ i, f i * f i) (Ideal.ofBits .f32 1149239296#32)
      + Ideal.ofBits .f32 897988541#32)) := by
  by_cases h : ∀ i, IsReal (f i)
  · exact (h l).mul (isReal_rms h)
  · obtain ⟨i, hi⟩ := not_forall.1 h
    have ht : f i * f i = ⊤ := by
      generalize f i = x at hi
      induction x with
      | bot => simp
      | top => simp
      | coe r => exact absurd (isReal_coe r) hi
    have hr : (0 : EReal) ≤ ∑ j ∈ Finset.univ.erase i, f j * f j := Finset.sum_nonneg fun j _ => mul_self_nonneg' _
    have hs : (∑ i, f i * f i) = ⊤ := by
      rw [← Finset.add_sum_erase _ _ (Finset.mem_univ i), ht]
      exact EReal.top_add_of_ne_bot (fun e => by rw [e] at hr; simp at hr)
    obtain ⟨e, he, hE⟩ := ofBits_eps
    have hd : Ideal.div (⊤ : EReal) ((1024 : ℝ) : EReal) = ⊤ := by
      rw [Ideal.div, if_neg (by norm_num), ← EReal.coe_inv, EReal.top_mul_coe_of_pos (by norm_num)]
    rw [hs, ofBits_1024, hd, hE, EReal.top_add_coe]
    have hz : Ideal.rsqrt (⊤ : EReal) = 0 := rfl
    rw [hz, mul_zero]
    exact ⟨0, rfl⟩

/-- The largest of finitely many reals, at least one, is real. -/
theorem isReal_fold_max {n : ℕ} (hn : 0 < n) {f : Fin n → EReal} (h : ∀ i, IsReal (f i)) :
    IsReal (Finset.fold max ⊥ f Finset.univ) := by
  have e : Finset.fold max ⊥ f Finset.univ = Finset.univ.sup f := rfl
  rw [e]
  obtain ⟨i, -, hi⟩ := Finset.exists_mem_eq_sup Finset.univ ⟨⟨0, hn⟩, Finset.mem_univ _⟩ f
  rw [hi]; exact h i

/-- Multiplying by the reciprocal of a positive real is dividing by it. -/
theorem mul_div_one {x : EReal} {y : ℝ} (hy : 0 < y) : x * Ideal.div 1 (y : EReal) = Ideal.div x (y : EReal) := by
  have h : (y : EReal) ≠ 0 := by exact_mod_cast hy.ne'
  rw [Ideal.div, Ideal.div, if_neg h, if_neg h, one_mul]

/-- Weighting the values by the exponentials of real scores, less their maximum, times the reciprocal of the
    exponentials' sum, is weighting them by the softmax of the scores. -/
theorem softmax_sum {n : ℕ} (hn : 0 < n) {f : Fin n → EReal} (h : ∀ i, IsReal (f i)) (v : Fin n → EReal) :
    (∑ x, Ideal.exp (f x - Finset.fold max (Ideal.ofBits .f32 4286578688#32) f Finset.univ)
        * Ideal.div 1 (∑ x, Ideal.exp (f x - Finset.fold max (Ideal.ofBits .f32 4286578688#32) f Finset.univ)) * v x)
      = ∑ x, v x * Ideal.div
          (Ideal.exp (f x - max (Ideal.ofBits .f32 4286578688#32)
            (Finset.fold max (Ideal.ofBits .f32 4286578688#32) f Finset.univ)))
          (∑ x, Ideal.exp (f x - max (Ideal.ofBits .f32 4286578688#32)
            (Finset.fold max (Ideal.ofBits .f32 4286578688#32) f Finset.univ))) := by
  rw [ofBits_neg_inf, max_eq_right bot_le]
  obtain ⟨M, hM⟩ := isReal_fold_max hn h
  rw [hM]
  choose g hg using h
  have e : ∀ x, Ideal.exp (f x - (M : EReal)) = ((Real.exp (g x - M) : ℝ) : EReal) := fun x => by
    rw [hg x, ← EReal.coe_sub, Ideal.exp_coe]
  simp only [e, coe_sum]
  have hp : 0 < ∑ x, Real.exp (g x - M) :=
    Finset.sum_pos (fun x _ => Real.exp_pos _) ⟨⟨0, hn⟩, Finset.mem_univ _⟩
  exact Finset.sum_congr rfl fun x _ => by rw [mul_div_one hp, mul_comm]

end Cert.Finite

end
-- ==== Proof.XattnValue.lean ====
/- The value of the cross attention: what the result array of `xattn` holds after the run is the reference's term of the
   arguments, for finite gain, query weights and keys. -/
module

public import proofs.«01_k».proof.Proof.Gen.XattnIdeal.Frame
public import proofs.«01_k».proof.Proof.Gen.XattnIdeal.Value
public import proofs.«01_k».proof.Proof.Gen.XattnRefIdeal.Read
public import proofs.«01_k».proof.Defs
public import proofs.«01_k».proof.Proof.Finite
public import proofs.«01_k».proof.Proof.Gen.Pre_finite_scores
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnIdeal.Attn

open Cert.XattnIdeal Cert.XattnIdeal.Gen
open Cert.XattnRefIdeal.Read (val_main_cst val_main_cst_0 val_main_cst_1 val_main_cst_2 val_main_cst_3 val_main_cst_4 val_main_cst_5
  val_main_cst_6 val_main_cst_7
  val_main_v0 val_main_v1 val_main_v2 val_main_v3 val_main_v4 val_main_v5 val_main_v6 val_main_v7 val_main_v8
  val_main_v9 val_main_v10 val_main_v11 val_main_v12 val_main_v13 val_main_v14 val_main_v15 val_main_v16
  val_main_v17 val_main_v18 val_main_v19 val_main_v20 val_main_v21 val_main_v22 val_main_v23 val_main_v24
  val_main_v25 val_main_v26 val_main_v27 val_main_v28 val_main_v29 val_main_v30 val_main_v31 val_main_v32
  val_main_v33 val_main_v34 val_main_v35 val_main_v36 val_main_v37 val_main_v38 val_main_v39 val_main_v40
  val_main_v41 val_main_v42 val_main_v43 val_main_v44 val_main_v45 val_main_v46 val_main_v47 val_main_v48
  val_main_v49 val_main_v50 val_main_v51 val_main_v52 val_main_v53)
open Cert.Finite (IsReal)

variable (X0 : FVec Ideal S8x8192x1024 .f32) (X1 : FVec Ideal S1x1024 .f32) (X2 : FVec Ideal S1x1024x1024 .f32)
  (X3 : FVec Ideal S8x1024x256 .bf16) (X4 : FVec Ideal S8x256x1024 .bf16) (X5 : FVec Ideal S1x1024x1024 .f32)
  (X6 : FVec Ideal S1x1024 .f32)
  (x0 : Vec Ideal S1x1024x1024 .f32) (x1 : Vec Ideal S1x1024 .f32) (x2 : Vec Ideal S1024x1024 .bf16)
  (x3 : Vec Ideal S1x1024x256 .bf16) (x4 : Vec Ideal S1x256x1024 .bf16) (x5 : Vec Ideal S1024x1024 .bf16)
  (x6 : Vec Ideal S1x1024 .f32) (b : Fin 8) (s : Fin 8192) (r : Fin 1024)

/-- A row of the normalized tokens through the query weights, as the kernel forms it from its block and the reference from
    the whole arrays. -/
theorem query_at (h0 : ∀ l, x0 (ix3 0 r l) = X0 (ix3 b s l)) (h1 : ∀ l, x1 (ix2 0 l) = X1 (ix2 0 l))
    (h2 : ∀ k l, x2 (ix2 k l) = X2 (ix3 0 k l)) (l : Fin 1024) :
    k0_pay3 x0 x1 x2 (ix2 r l) = val_main_v15 (F := Ideal) X0 X1 X2 (ix3 b s l) := by
  pointwise [k0_pay3, k0_pay2, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  simp only [h0, h1, h2]

/-- The queries of a finite gain and finite weights are finite, whatever the tokens. -/
theorem query_real (h1 : ∀ i, IsReal (X1 i)) (h2 : ∀ i, IsReal (X2 i)) (l : Fin 1024) :
    IsReal (val_main_v15 (F := Ideal) X0 X1 X2 (ix3 b s l)) := by
  pointwise [val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1]
  exact IsReal.sum fun x => ((Cert.Finite.isReal_normed (fun l => X0 (ix3 b s l)) x).mul (h1 _)).mul (h2 _)

/-- A score of the reference: the query's columns of the head against the key's rows of the head. -/
theorem score_at (a : Fin 4) (n : Fin 256) :
    val_main_v22 (F := Ideal) X0 X1 X2 X3 (ix4 b a s n)
      = ∑ d : Fin 256, val_main_v15 (F := Ideal) X0 X1 X2 (ix3 b s ⟨a.val * 256 + d.val, by omega⟩)
          * X3 (ix3 b ⟨a.val * 256 + d.val, by omega⟩ n) := by
  pointwise [val_main_v22, val_main_v16, val_main_v17, val_main_v18, val_main_v19]

/-- The largest score of a row. -/
theorem max_at (a : Fin 4) :
    val_main_v23 (F := Ideal) X0 X1 X2 X3 (ix3 b a s)
      = Finset.fold max (Ideal.ofBits FTy.f32 4286578688#32)
          (fun x => val_main_v22 (F := Ideal) X0 X1 X2 X3 (ix4 b a s x)) Finset.univ := by
  pointwise [val_main_v23, val_main_cst_2]

/-- The largest score of a row, no less than minus infinity. -/
theorem cap_at (a : Fin 4) :
    val_main_v25 (F := Ideal) X0 X1 X2 X3 (ix3 b a s)
      = max (Ideal.ofBits FTy.f32 4286578688#32) (val_main_v23 (F := Ideal) X0 X1 X2 X3 (ix3 b a s)) := by
  rw [Cert.XattnRefIdeal.Read.val_main_v25_apply, Cert.XattnRefIdeal.Read.val_main_v24_apply,
    Cert.XattnRefIdeal.Read.val_main_cst_3_apply]
  generalize val_main_v23 (F := Ideal) X0 X1 X2 X3 (ix3 b a s) = y
  rfl

/-- The exponential of a score less its row's largest. -/
theorem exp_at (a : Fin 4) (n : Fin 256) :
    val_main_v29 (F := Ideal) X0 X1 X2 X3 (ix4 b a s n)
      = Ideal.exp (val_main_v22 (F := Ideal) X0 X1 X2 X3 (ix4 b a s n)
          - val_main_v25 (F := Ideal) X0 X1 X2 X3 (ix3 b a s)) := by
  pointwise [val_main_v29, val_main_v28, val_main_v27, val_main_v26]

/-- The softmax weight: an exponential over its row's sum. -/
theorem weight_at (a : Fin 4) (n : Fin 256) :
    val_main_v33 (F := Ideal) X0 X1 X2 X3 (ix4 b a s n)
      = Ideal.div (val_main_v29 (F := Ideal) X0 X1 X2 X3 (ix4 b a s n))
          (∑ n, val_main_v29 (F := Ideal) X0 X1 X2 X3 (ix4 b a s n)) := by
  pointwise [val_main_v33, val_main_v32, val_main_v31, val_main_v30, val_main_cst_4]

/-- A head's output in the reference: the values weighted by the softmax. -/
theorem out_at (a : Fin 4) (j : Fin 256) :
    val_main_v36 (F := Ideal) X0 X1 X2 X3 X4 (ix3 b s ⟨a.val * 256 + j.val, by omega⟩)
      = ∑ x : Fin 256, X4 (ix3 b x ⟨a.val * 256 + j.val, by omega⟩)
          * val_main_v33 (F := Ideal) X0 X1 X2 X3 (ix4 b a s x) := by
  pointwise [val_main_v36, val_main_v35, val_main_v34, val_main_v20, val_main_v21]

/-- One head of the kernel over its queries' columns, keys and values. -/
def head (o : ℕ) (hs : S1024x1024.Slices ![0, o] S1024x256) (q : FVec Ideal S1024x1024 .bf16)
    (kb vb : Vec Ideal S1x256x256 .bf16) : FVec Ideal S1024x256 .f32 :=
  let sc : FVec Ideal S1024x256 .f32 := matmul (F := Ideal) dot_S1024x256_S256x256_S1024x256_1_0_0_1_n_n none (extractStridedSlice S1024x256 ![0, o] q hs)
    (shapeCast S256x256 kb shapeCasts_S1x256x256_S256x256 : FVec Ideal S256x256 .bf16) (constant S1024x256 .f32 0x00000000#32)
  let e : FVec Ideal S1024x256 .f32 := exp (subf sc (broadcastTo S1024x256 (shapeCast S1024x1 (multiReduction .maximumf [1] S1024 sc 0xFF800000#32
    reduces_S1024x256_S1024 (.inl rfl) rfl) shapeCasts_S1024_S1024x1) broadcasts_S1024x1_S1024x256))
  let w : FVec Ideal S1024x256 .f32 := mulf e (broadcastTo S1024x256 (divf (broadcast S1024x1 (Scalar.ofBits .f32 0x3F800000#32 : Ideal .f32))
    (shapeCast S1024x1 (multiReduction .add [1] S1024 e 0x00000000#32 reduces_S1024x256_S1024 (.inl rfl) rfl)
      shapeCasts_S1024_S1024x1)) broadcasts_S1024x1_S1024x256)
  matmul dot_S1024x256_S256x256_S1024x256_1_0_0_1_n_n none (truncf .bf16 w bitsLt_bf16_f32)
    (shapeCast S256x256 vb shapeCasts_S1x256x256_S256x256 : FVec Ideal S256x256 .bf16) (constant S1024x256 .f32 0x00000000#32)

/-- A head of the kernel at an entry: the values weighted by the exponentials and the reciprocal of their sum. -/
theorem head_apply (o : ℕ) (ho : o + 256 ≤ 1024) (hs : S1024x1024.Slices ![0, o] S1024x256)
    (q : FVec Ideal S1024x1024 .bf16) (kb vb : Vec Ideal S1x256x256 .bf16) (j : Fin 256) (f : Fin 256 → EReal)
    (hf : ∀ n, (∑ d : Fin 256, q (ix2 r ⟨o + d.val, by omega⟩) * kb (ix3 0 d n)) = f n) :
    head o hs q kb vb (ix2 r j)
      = ∑ x, Ideal.exp (f x - Finset.fold max (Ideal.ofBits .f32 4286578688#32) f Finset.univ)
          * Ideal.div 1 (∑ x, Ideal.exp (f x - Finset.fold max (Ideal.ofBits .f32 4286578688#32) f Finset.univ))
          * vb (ix3 0 x j) := by
  pointwise [head]
  simp only [hf]

/-- A head of the kernel is the reference's head when its queries, keys and values are the reference's and the scores are
    finite. -/
theorem head_at (a : Fin 4) (hs : S1024x1024.Slices ![0, a.val * 256] S1024x256)
    (q : FVec Ideal S1024x1024 .bf16) (kb vb : Vec Ideal S1x256x256 .bf16)
    (hq : ∀ l, q (ix2 r l) = val_main_v15 (F := Ideal) X0 X1 X2 (ix3 b s l))
    (hk : ∀ d n, kb (ix3 0 d n) = X3 (ix3 b ⟨a.val * 256 + d.val, by omega⟩ n))
    (hv : ∀ x j, vb (ix3 0 x j) = X4 (ix3 b x ⟨a.val * 256 + j.val, by omega⟩))
    (h1 : ∀ i, IsReal (X1 i)) (h2 : ∀ i, IsReal (X2 i)) (h3 : ∀ i, IsReal (X3 i))
    (j : Fin 256) :
    head (a.val * 256) hs q kb vb (ix2 r j)
      = val_main_v36 (F := Ideal) X0 X1 X2 X3 X4 (ix3 b s ⟨a.val * 256 + j.val, by omega⟩) := by
  have hf : ∀ n, (∑ d : Fin 256, q (ix2 r ⟨a.val * 256 + d.val, by omega⟩) * kb (ix3 0 d n))
      = val_main_v22 (F := Ideal) X0 X1 X2 X3 (ix4 b a s n) := fun n => by
    rw [score_at]; simp only [hq, hk]
  have hr : ∀ n, IsReal (val_main_v22 (F := Ideal) X0 X1 X2 X3 (ix4 b a s n)) := fun n => by
    rw [score_at]; exact IsReal.sum fun d => (query_real X0 X1 X2 b s h1 h2 _).mul (h3 _)
  rw [head_apply r (a.val * 256) (by omega) hs q kb vb j _ hf, Cert.Finite.softmax_sum (by norm_num) hr, out_at]
  simp only [weight_at, exp_at, cap_at, max_at, hv]

/-- The merged heads through the output weights, scaled to unit root mean square. -/
def proj (o : FVec Ideal S1024x1024 .f32) (w : Vec Ideal S1024x1024 .bf16) : FVec Ideal S1024x1024 .f32 :=
  let y : FVec Ideal S1024x1024 .f32 := matmul (F := Ideal) dot_S1024x1024_S1024x1024_S1024x1024_1_0_0_1_n_n none (truncf .bf16 o bitsLt_bf16_f32)
    (shapeCast S1024x1024 w shapeCasts_S1024x1024_S1024x1024 : FVec Ideal S1024x1024 .bf16) (constant S1024x1024 .f32 0x00000000#32)
  mulf y (broadcastTo S1024x1024 (rsqrt (addf (divf (shapeCast S1024x1 (multiReduction .add [1] S1024 (mulf y y)
    0x00000000#32 reduces_S1024x1024_S1024 (.inl rfl) rfl) shapeCasts_S1024_S1024x1)
    (broadcast S1024x1 (Scalar.ofBits .f32 0x44800000#32 : Ideal .f32))) (broadcast S1024x1 (Scalar.ofBits .f32 0x358637BD#32 : Ideal .f32))))
    broadcasts_S1024x1_S1024x1024)

/-- The four heads side by side. -/
def merged (q : FVec Ideal S1024x1024 .bf16) (k1 v1 k2 v2 k3 v3 k4 v4 : Vec Ideal S1x256x256 .bf16) :
    FVec Ideal S1024x1024 .f32 :=
  concatenate S1024x1024 1 [⟨S1024x256, head 0 slices_S1024x1024_o0_0_S1024x256 q k1 v1⟩,
    ⟨S1024x256, head 256 slices_S1024x1024_o0_256_S1024x256 q k2 v2⟩,
    ⟨S1024x256, head 512 slices_S1024x1024_o0_512_S1024x256 q k3 v3⟩,
    ⟨S1024x256, head 768 slices_S1024x1024_o0_768_S1024x256 q k4 v4⟩]
    concatenates_S1024x256_S1024x256_S1024x256_S1024x256_S1024x1024_d1

/-- The value before the output gain is the projection of the merged heads. -/
theorem pay8_eq (k1 v1 k2 v2 k3 v3 k4 v4 : Vec Ideal S1x256x256 .bf16) :
    k0_pay8 (k0_pay3 x0 x1 x2) (k0_pay5 (k0_pay4 x0 x1 x2 k1) v1) (k0_pay6 (k0_pay3 x0 x1 x2) k2 v2)
        (k0_pay7 (k0_pay3 x0 x1 x2) k3) v3 k4 v4 x5
      = proj (merged (k0_pay3 x0 x1 x2) k1 v1 k2 v2 k3 v3 k4 v4) x5 := rfl

/-- The merged heads at a column: the head that holds the column. -/
theorem merged_at (q : FVec Ideal S1024x1024 .bf16) (k1 v1 k2 v2 k3 v3 k4 v4 : Vec Ideal S1x256x256 .bf16)
    (O : Fin 1024 → EReal)
    (g1 : ∀ j : Fin 256, head 0 slices_S1024x1024_o0_0_S1024x256 q k1 v1 (ix2 r j) = O ⟨0 * 256 + j.val, by omega⟩)
    (g2 : ∀ j : Fin 256, head 256 slices_S1024x1024_o0_256_S1024x256 q k2 v2 (ix2 r j) = O ⟨1 * 256 + j.val, by omega⟩)
    (g3 : ∀ j : Fin 256, head 512 slices_S1024x1024_o0_512_S1024x256 q k3 v3 (ix2 r j) = O ⟨2 * 256 + j.val, by omega⟩)
    (g4 : ∀ j : Fin 256, head 768 slices_S1024x1024_o0_768_S1024x256 q k4 v4 (ix2 r j) = O ⟨3 * 256 + j.val, by omega⟩)
    (l : Fin 1024) : merged q k1 v1 k2 v2 k3 v3 k4 v4 (ix2 r l) = O l := by
  pointwise [merged]
  have hl : l.val < 1024 := l.isLt
  by_cases c1 : l.val < 256
  · refine (dif_pos c1).trans ((g1 _).trans (congrArg O (Fin.ext ?_)))
    show 0 * 256 + l.val = l.val; omega
  refine (dif_neg c1).trans ?_
  by_cases c2 : l.val - 256 < 256
  · refine (dif_pos c2).trans ((g2 _).trans (congrArg O (Fin.ext ?_)))
    show 1 * 256 + (l.val - 256) = l.val; omega
  refine (dif_neg c2).trans ?_
  by_cases c3 : l.val - 256 - 256 < 256
  · refine (dif_pos c3).trans ((g3 _).trans (congrArg O (Fin.ext ?_)))
    show 2 * 256 + (l.val - 256 - 256) = l.val; omega
  · refine (dif_neg c3).trans ((g4 _).trans (congrArg O (Fin.ext ?_)))
    show 3 * 256 + (l.val - 256 - 256 - 256) = l.val; omega

/-- What the kernel stores at row `r` is the reference's result at row `s` of batch `b`. -/
theorem point (h0 : ∀ l, x0 (ix3 0 r l) = X0 (ix3 b s l)) (h5 : ∀ k l, x5 (ix2 k l) = X5 (ix3 0 k l))
    (h6 : ∀ l, x6 (ix2 0 l) = X6 (ix2 0 l)) (o : FVec Ideal S1024x1024 .f32)
    (ho : ∀ l, o (ix2 r l) = val_main_v36 (F := Ideal) X0 X1 X2 X3 X4 (ix3 b s l)) (j : Fin 1024) :
    k0_pay1 (k0_pay2 x0) (proj o x5) (k0_pay9 x6) (ix3 0 r j)
      = val_main_v53 (F := Ideal) X0 X1 X2 X3 X4 X5 X6 (ix3 b s j) := by
  pointwise [k0_pay1, k0_pay2, k0_pay9, proj, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_cst_5, val_main_cst_6, val_main_cst_7]
  simp only [h0, h5, h6, ho]

/-- A value the precondition compares with infinity is real. -/
theorem real_of_cmp {S : Shape} (hb : (⟨0, ![]⟩ : Shape).BroadcastsInDim S ![]) {dims : List (Fin S.rank)}
    (hr : S.ReducesTo dims ⟨0, ![]⟩) (x : FVec Ideal S .f32)
    (h : Host.reduce IntOp.andi (cmpf .olt (Host.absf x) (broadcastInDim S ![] hb (constant ⟨0, ![]⟩ .f32 0x7F800000#32)))
      (constantI ⟨0, ![]⟩ 1 1#1) hr (by decide) ix0 = 1#1) (i : S.Idx) : IsReal (x i) := by
  have e := Host.reduce_andi_all _ _ _ _ _ h i
  apply Cert.Finite.isReal_of_abs_lt
  rw [← Cert.Finite.ofBits_inf]
  by_contra hn
  have e' : Ideal.cmp .olt (max (x i) (-(x i))) (Ideal.ofBits .f32 0x7F800000#32) = 1#1 := e
  simp [Ideal.cmp, hn] at e'

/-- The precondition, read: every token, gain, query weight and key is a real number. -/
theorem pre_real (h : Cert.Pre_finite_scores.fn (F := Ideal) X0 X1 X2 X3 X4 X5 X6 = (fun _ => 1#1)) :
    (∀ i, IsReal (X1 i)) ∧ (∀ i, IsReal (X2 i)) ∧ (∀ i, IsReal (X3 i)) := by
  have e := congrFun h ix0
  simp only [Cert.Pre_finite_scores.fn, andi, IntOp.andi_eq_one] at e
  obtain ⟨⟨e1, e2⟩, e3⟩ := e
  exact ⟨fun i => real_of_cmp _ _ X1 e1 i, fun i => real_of_cmp _ _ X2 e2 i,
    fun i => real_of_cmp _ _ _ e3 i⟩

variable (m : (ℓ : Loc nD τ sig) → Buf (Elt Ideal) ℓ)

/-- Each window's block at each grid point. -/
theorem idx : ∀ t : Fin cfg0.N, win0_0.index t = ![t.val / 8, t.val % 8, 0] ∧ win0_1.index t = ![0, 0]
    ∧ win0_2.index t = ![0, 0] ∧ win0_3.index t = ![t.val / 8, 0, 0] ∧ win0_4.index t = ![t.val / 8, 0, 0]
    ∧ win0_5.index t = ![0, 0] ∧ win0_6.index t = ![0, 0] ∧ win0_7.index t = ![t.val / 8, t.val % 8, 0] :=
  (by decide +kernel : ∀ t : Fin grid0.N, _)

/-- The reference's result over the arguments. -/
abbrev REF (c : Dev nD) : FVec Ideal S8x8192x1024 .f32 :=
  val_main_v53 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- What grid point `t` stages of the tokens. -/
theorem tok_at (c : Dev nD) (t : Fin cfg0.N) (r : Fin 1024) (b : Fin 8) (s : Fin 8192) (hb : b.val = t.val / 8)
    (hs : s.val = t.val % 8 * 1024 + r.val) (l : Fin 1024) :
    iblk m c 0 t (ix3 0 r l) = m ((c : Thread nD τ).loc main_arg0) (ix3 b s l) := by
  blk_point [iblk, V, idx t]

/-- What a grid point stages of the first gain, -/
theorem gain_at (c : Dev nD) (t : Fin cfg0.N) (l : Fin 1024) :
    iblk m c 1 t (ix2 0 l) = m ((c : Thread nD τ).loc main_arg1) (ix2 0 l) := by
  blk_point [iblk, V, idx t]

/-- of the query weights, -/
theorem wq_at (c : Dev nD) (t : Fin cfg0.N) (k l : Fin 1024) :
    iblk m c 2 t (ix2 k l) = m ((c : Thread nD τ).loc main_arg2) (ix3 0 k l) := by
  blk_point [iblk, V, idx t]

/-- of a head's keys, -/
theorem key_at (c : Dev nD) (t : Fin cfg0.N) (b : Fin 8) (hb : b.val = t.val / 8) (d : Fin 1024) (n : Fin 256) :
    iblk m c 3 t (ix3 0 d n) = m ((c : Thread nD τ).loc main_arg3) (ix3 b d n) := by
  blk_point [iblk, V, idx t]

/-- of a head's values, -/
theorem val_at (c : Dev nD) (t : Fin cfg0.N) (b : Fin 8) (hb : b.val = t.val / 8) (n : Fin 256) (d : Fin 1024) :
    iblk m c 4 t (ix3 0 n d) = m ((c : Thread nD τ).loc main_arg4) (ix3 b n d) := by
  blk_point [iblk, V, idx t]

/-- of the output weights, -/
theorem wo_at (c : Dev nD) (t : Fin cfg0.N) (k l : Fin 1024) :
    iblk m c 5 t (ix2 k l) = m ((c : Thread nD τ).loc main_arg5) (ix3 0 k l) := by
  blk_point [iblk, V, idx t]

/-- and of the output gain. -/
theorem post_at (c : Dev nD) (t : Fin cfg0.N) (l : Fin 1024) :
    iblk m c 6 t (ix2 0 l) = m ((c : Thread nD τ).loc main_arg6) (ix2 0 l) := by
  blk_point [iblk, V, idx t]

/-- A head's keys and values as the body loads them. -/
theorem ld_key (x3 : Vec Ideal S1x1024x256 .bf16) (d n : Fin 256) :
    View.ld x3 r0_3 (ix3 0 d n) = x3 (ix3 0 ⟨0 * 256 + d.val, by omega⟩ n)
    ∧ View.ld x3 r0_5 (ix3 0 d n) = x3 (ix3 0 ⟨1 * 256 + d.val, by omega⟩ n)
    ∧ View.ld x3 r0_7 (ix3 0 d n) = x3 (ix3 0 ⟨2 * 256 + d.val, by omega⟩ n)
    ∧ View.ld x3 r0_9 (ix3 0 d n) = x3 (ix3 0 ⟨3 * 256 + d.val, by omega⟩ n) := by
  refine ⟨?_, ?_, ?_, ?_⟩ <;>
    refine View.ld_unit_apply_of _ _ _ _ _ _ (Fin.forall_fin_succ.2 ⟨?_, Fin.forall_fin_succ.2 ⟨?_, fun a => ?_⟩⟩) <;>
    first | (obtain rfl : a = 0 := Subsingleton.elim _ _; simp) | simp

/-- A head's values as the body loads them. -/
theorem ld_val (x4 : Vec Ideal S1x256x1024 .bf16) (n d : Fin 256) :
    View.ld x4 r0_4 (ix3 0 n d) = x4 (ix3 0 n ⟨0 * 256 + d.val, by omega⟩)
    ∧ View.ld x4 r0_6 (ix3 0 n d) = x4 (ix3 0 n ⟨1 * 256 + d.val, by omega⟩)
    ∧ View.ld x4 r0_8 (ix3 0 n d) = x4 (ix3 0 n ⟨2 * 256 + d.val, by omega⟩)
    ∧ View.ld x4 r0_10 (ix3 0 n d) = x4 (ix3 0 n ⟨3 * 256 + d.val, by omega⟩) := by
  refine ⟨?_, ?_, ?_, ?_⟩ <;>
    refine View.ld_unit_apply_of _ _ _ _ _ _ (Fin.forall_fin_succ.2 ⟨?_, Fin.forall_fin_succ.2 ⟨?_, fun a => ?_⟩⟩) <;>
    first | (obtain rfl : a = 0 := Subsingleton.elim _ _; simp) | simp

/-- The queries the later heads read are the block's queries. -/
theorem pay10_eq : k0_pay10 x0 x1 x2 x3 x4 x5 x6 = k0_pay3 x0 x1 x2 := by
  unfold k0_pay10
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  rw [e0, e1, e2]

/-- What a grid point leaves in its block of the result is the reference's result at the block's rows. -/
theorem block_at (h0 : ∀ l, x0 (ix3 0 r l) = X0 (ix3 b s l)) (h1 : ∀ l, x1 (ix2 0 l) = X1 (ix2 0 l))
    (h2 : ∀ k l, x2 (ix2 k l) = X2 (ix3 0 k l)) (h3 : ∀ d n, x3 (ix3 0 d n) = X3 (ix3 b d n))
    (h4 : ∀ n d, x4 (ix3 0 n d) = X4 (ix3 b n d)) (h5 : ∀ k l, x5 (ix2 k l) = X5 (ix3 0 k l))
    (h6 : ∀ l, x6 (ix2 0 l) = X6 (ix2 0 l)) (r1 : ∀ i, IsReal (X1 i))
    (r2 : ∀ i, IsReal (X2 i)) (r3 : ∀ i, IsReal (X3 i)) (j : Fin 1024) :
    k0_pay1 (k0_pay2 x0) (k0_pay8 (k0_pay10 x0 x1 x2 x3 x4 x5 x6) (k0_pay5 (k0_pay4 x0 x1 x2 (View.ld x3 r0_3)) (View.ld x4 r0_4))
        (k0_pay6 (k0_pay10 x0 x1 x2 x3 x4 x5 x6) (View.ld x3 r0_5) (View.ld x4 r0_6)) (k0_pay7 (k0_pay10 x0 x1 x2 x3 x4 x5 x6) (View.ld x3 r0_7))
        (View.ld x4 r0_8) (View.ld x3 r0_9) (View.ld x4 r0_10) x5) (k0_pay9 x6) (ix3 0 r j)
      = val_main_v53 (F := Ideal) X0 X1 X2 X3 X4 X5 X6 (ix3 b s j) := by
  rw [pay10_eq, pay8_eq]
  have hq := query_at X0 X1 X2 x0 x1 x2 b s r h0 h1 h2
  refine point X0 X1 X2 X3 X4 X5 X6 x0 x5 x6 b s r h0 h5 h6 _ (fun l => ?_) j
  refine merged_at r _ _ _ _ _ _ _ _ _ (fun l => val_main_v36 (F := Ideal) X0 X1 X2 X3 X4 (ix3 b s l)) ?_ ?_ ?_ ?_ l
  · exact head_at X0 X1 X2 X3 X4 b s r 0 slices_S1024x1024_o0_0_S1024x256 _ _ _ hq
      (fun d n => (ld_key x3 d n).1.trans (h3 _ _)) (fun n d => (ld_val x4 n d).1.trans (h4 _ _)) r1 r2 r3
  · exact head_at X0 X1 X2 X3 X4 b s r 1 slices_S1024x1024_o0_256_S1024x256 _ _ _ hq
      (fun d n => (ld_key x3 d n).2.1.trans (h3 _ _)) (fun n d => (ld_val x4 n d).2.1.trans (h4 _ _)) r1 r2 r3
  · exact head_at X0 X1 X2 X3 X4 b s r 2 slices_S1024x1024_o0_512_S1024x256 _ _ _ hq
      (fun d n => (ld_key x3 d n).2.2.1.trans (h3 _ _)) (fun n d => (ld_val x4 n d).2.2.1.trans (h4 _ _)) r1 r2 r3
  · exact head_at X0 X1 X2 X3 X4 b s r 3 slices_S1024x1024_o0_768_S1024x256 _ _ _ hq
      (fun d n => (ld_key x3 d n).2.2.2.trans (h3 _ _)) (fun n d => (ld_val x4 n d).2.2.2.trans (h4 _ _)) r1 r2 r3

/-- So does the block the body's stores make. -/
theorem out_at_block (h0 : ∀ l, x0 (ix3 0 r l) = X0 (ix3 b s l)) (h1 : ∀ l, x1 (ix2 0 l) = X1 (ix2 0 l))
    (h2 : ∀ k l, x2 (ix2 k l) = X2 (ix3 0 k l)) (h3 : ∀ d n, x3 (ix3 0 d n) = X3 (ix3 b d n))
    (h4 : ∀ n d, x4 (ix3 0 n d) = X4 (ix3 b n d)) (h5 : ∀ k l, x5 (ix2 k l) = X5 (ix3 0 k l))
    (h6 : ∀ l, x6 (ix2 0 l) = X6 (ix2 0 l)) (r1 : ∀ i, IsReal (X1 i))
    (r2 : ∀ i, IsReal (X2 i)) (r3 : ∀ i, IsReal (X3 i)) (j : Fin 1024) :
    out0_7 x0 x1 x2 x3 x4 x5 x6 (ix3 0 r j) = val_main_v53 (F := Ideal) X0 X1 X2 X3 X4 X5 X6 (ix3 b s j) := by
  frame_out
  exact block_at X0 X1 X2 X3 X4 X5 X6 x0 x1 x2 x3 x4 x5 x6 b s r h0 h1 h2 h3 h4 h5 h6 r1 r2 r3 j

/-- The result array after the run is the reference's term of the arguments. -/
theorem final (c : Dev nD) (hp : Cert.Pre_XattnIdeal_finite_scores m) : (dats m 0 c).arrAt 7 (cfgs 0).N = REF m c := by
  obtain ⟨p1, p2, p3⟩ := pre_real _ _ _ _ _ _ _ (hp c)
  refine (dats m 0 c).arrAt_eq_of_covers 7 _ (by decide +kernel) fun t _ y => ?_
  blk_simp; rw [after0_7]
  have ht : t.val < 64 := t.isLt
  have hr : (y 1).val < 1024 := (y 1).isLt
  have hy : (y 0).val = 0 := by have : (y 0).val < 1 := (y 0).isLt; omega
  refine (congrArg _ ((eq_ix3 y).trans (congrArg (fun i => ix3 i (y 1) (y 2)) (Fin.ext hy : y 0 = (0 : Fin 1))))).trans ?_
  refine (out_at_block _ _ _ _ _ _ _ _ _ _ _ _ _ _ ⟨t.val / 8, by omega⟩ ⟨t.val % 8 * 1024 + (y 1).val, by omega⟩ (y 1)
    (tok_at m c t (y 1) _ _ rfl rfl) (gain_at m c t) (wq_at m c t) (key_at m c t _ rfl) (val_at m c t _ rfl)
    (wo_at m c t) (post_at m c t) p1 p2 p3 (y 2)).trans ?_
  refine congrArg (REF m c) ?_
  blk_ext [idx t]

/-- The idealized kernel and the idealized reference of the cross attention end with the same array, where the
    gain, the query weights and the keys are finite. -/
theorem algebraic : Cert.algebraic_XattnIdeal_XattnRefIdeal_pre_finite_scores := by
  pair_intro
  · run_from Cert.XattnIdeal.Gen.run_main m g
  · run_from Cert.XattnRefIdeal.Value.run m' g'
    obtain ⟨h0, h1, h2, h3, h4, h5, h6⟩ := hagree c
    rw [final m c hpre, REF, Cert.XattnRefIdeal.Read.val_main_v53_eq, h0, h1, h2, h3, h4, h5, h6]

end Cert.XattnIdeal.Attn

end
-- ==== Proof.TailRef.lean ====
/- The reference of the tail of the layer (memory projection, cross attention, second feed forward) is the references of its
   three parts one after the other: the score scale it applies to the scores is the one the parts apply to the keys. -/
module

public import proofs.«01_k».proof.Proof.Gen.TailRefIdeal.Read
public import proofs.«01_k».proof.Proof.Gen.XattnRefIdeal.Read
public import proofs.«01_k».proof.Proof.Gen.FfnRefIdeal.Read
public import proofs.«01_k».proof.Proof.Gen.MemkvRefIdeal.Read
public import proofs.«01_k».proof.Proof.Finite
public import proofs.«01_k».proof.Proof.XattnValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Tail

open Cert.Finite (IsReal)
open Cert.TailRefIdeal (S8x8192x1024 S1x1024 S8x256x1024 S1x1024x1024 S1x1024x2816 S1x2816x1024 S65536x1024)

variable (x0 : FVec Ideal S8x8192x1024 .f32) (x1 : FVec Ideal S8x256x1024 .f32) (x2 x3 : FVec Ideal S1x1024 .f32)
  (x4 x5 x6 x7 : FVec Ideal S1x1024x1024 .f32) (x8 x9 : FVec Ideal S1x1024 .f32) (x10 x11 : FVec Ideal S1x1024x2816 .f32)
  (x12 : FVec Ideal S1x2816x1024 .f32) (x13 : FVec Ideal S1x1024 .f32)

/-- The keys the memory projection hands to the cross attention. -/
abbrev KT : FVec Ideal Cert.XattnRefIdeal.S8x1024x256 .bf16 := Cert.MemkvRefIdeal.Read.val_main_v21 (F := Ideal) x1 x3 x5

/-- The values the memory projection hands to the cross attention. -/
abbrev VV : FVec Ideal Cert.XattnRefIdeal.S8x256x1024 .bf16 := Cert.MemkvRefIdeal.Read.val_main_v22 (F := Ideal) x1 x3 x6

/-- The tail's queries are the cross attention's. -/
theorem query_eq : Cert.TailRefIdeal.Read.val_main_v29 (F := Ideal) x0 x2 x4
    = Cert.XattnRefIdeal.Read.val_main_v15 (F := Ideal) x0 x2 x4 := rfl

/-- The tail's keys are the memory projection's before it scales and transposes them. -/
theorem key_eq : Cert.TailRefIdeal.Read.val_main_v32 (F := Ideal) x1 x3 x5
    = Cert.MemkvRefIdeal.Read.val_main_v15 (F := Ideal) x1 x3 x5 := rfl

/-- The word of one sixteenth is a real number. -/
theorem isReal_scale : IsReal (Ideal.ofBits .f32 0x3D800000#32) := by
  refine ⟨1 / 16, ?_⟩
  simp [Ideal.ofBits, Ideal.ieee]
  norm_cast
  norm_num

/-- A key handed over is the tail's key times the scale. -/
theorem kt_apply (b : Fin 8) (d : Fin 1024) (n : Fin 256) : KT x1 x3 x5 (ix3 b d n)
    = Cert.TailRefIdeal.Read.val_main_v32 (F := Ideal) x1 x3 x5 (ix3 b n d) * Ideal.ofBits .f32 0x3D800000#32 := by
  rw [key_eq]
  pointwise [KT, Cert.MemkvRefIdeal.Read.val_main_v21, Cert.MemkvRefIdeal.Read.val_main_v20,
    Cert.MemkvRefIdeal.Read.val_main_v19, Cert.MemkvRefIdeal.Read.val_main_v18, Cert.MemkvRefIdeal.Read.val_main_cst_2]

/-- The keys of a finite gain and finite weights are finite, whatever the memory. -/
theorem key_real (h3 : ∀ i, IsReal (x3 i)) (h5 : ∀ i, IsReal (x5 i)) (b : Fin 8) (n : Fin 256)
    (d : Fin 1024) : IsReal (Cert.TailRefIdeal.Read.val_main_v32 (F := Ideal) x1 x3 x5 (ix3 b n d)) := by
  pointwise [Cert.TailRefIdeal.Read.val_main_v14, Cert.TailRefIdeal.Read.val_main_v15, Cert.TailRefIdeal.Read.val_main_v16,
    Cert.TailRefIdeal.Read.val_main_v17, Cert.TailRefIdeal.Read.val_main_v18, Cert.TailRefIdeal.Read.val_main_v19,
    Cert.TailRefIdeal.Read.val_main_v20, Cert.TailRefIdeal.Read.val_main_v21, Cert.TailRefIdeal.Read.val_main_v22,
    Cert.TailRefIdeal.Read.val_main_v23, Cert.TailRefIdeal.Read.val_main_v24, Cert.TailRefIdeal.Read.val_main_v25,
    Cert.TailRefIdeal.Read.val_main_v26, Cert.TailRefIdeal.Read.val_main_v27, Cert.TailRefIdeal.Read.val_main_v31,
    Cert.TailRefIdeal.Read.val_main_v32, Cert.TailRefIdeal.Read.val_main_cst_2,
    Cert.TailRefIdeal.Read.val_main_cst_3, Cert.TailRefIdeal.Read.val_main_cst_4]
  exact IsReal.sum fun x => ((Cert.Finite.isReal_normed (fun l => x1 (ix3 b n l)) x).mul (h3 _)).mul (h5 _)

/-- So are the keys handed over. -/
theorem kt_real (h3 : ∀ i, IsReal (x3 i)) (h5 : ∀ i, IsReal (x5 i)) (i) : IsReal (KT x1 x3 x5 i) := by
  rw [eq_ix3 i]
  exact (kt_apply x1 x3 x5 _ _ _).symm ▸ (key_real x1 x3 x5 h3 h5 _ _ _).mul isReal_scale

/-- A scaled score of the tail's reference. -/
theorem score_apply (b : Fin 8) (a : Fin 4) (s : Fin 8192) (n : Fin 256) :
    Cert.TailRefIdeal.Read.val_main_v39 (F := Ideal) x0 x1 x2 x3 x4 x5 (ix4 b a s n)
      = (∑ d : Fin 256, Cert.TailRefIdeal.Read.val_main_v29 (F := Ideal) x0 x2 x4 (ix3 b s ⟨a.val * 256 + d.val, by omega⟩)
          * Cert.TailRefIdeal.Read.val_main_v32 (F := Ideal) x1 x3 x5 (ix3 b n ⟨a.val * 256 + d.val, by omega⟩))
        * Ideal.ofBits .f32 0x3D800000#32 := by
  pointwise [Cert.TailRefIdeal.Read.val_main_v39, Cert.TailRefIdeal.Read.val_main_v38, Cert.TailRefIdeal.Read.val_main_v37,
    Cert.TailRefIdeal.Read.val_main_v33, Cert.TailRefIdeal.Read.val_main_v30, Cert.TailRefIdeal.Read.val_main_cst_5]

/-- The tail scales the scores, the parts scale the keys: the same for finite queries and keys. -/
theorem score_eq (h2 : ∀ i, IsReal (x2 i)) (h3 : ∀ i, IsReal (x3 i))
    (h4 : ∀ i, IsReal (x4 i)) (h5 : ∀ i, IsReal (x5 i)) :
    Cert.TailRefIdeal.Read.val_main_v39 (F := Ideal) x0 x1 x2 x3 x4 x5
      = Cert.XattnRefIdeal.Read.val_main_v22 (F := Ideal) x0 x2 x4 (KT x1 x3 x5) := by
  have key : ∀ (b : Fin 8) (a : Fin 4) (s : Fin 8192) (n : Fin 256),
      Cert.TailRefIdeal.Read.val_main_v39 (F := Ideal) x0 x1 x2 x3 x4 x5 (ix4 b a s n)
        = Cert.XattnRefIdeal.Read.val_main_v22 (F := Ideal) x0 x2 x4 (KT x1 x3 x5) (ix4 b a s n) := fun b a s n => by
    rw [score_apply, Cert.XattnIdeal.Attn.score_at, query_eq]
    have hq := fun d : Fin 256 => Cert.XattnIdeal.Attn.query_real x0 x2 x4 b s h2 h4 ⟨a.val * 256 + d.val, by omega⟩
    have hk := fun d : Fin 256 => key_real x1 x3 x5 h3 h5 b n ⟨a.val * 256 + d.val, by omega⟩
    refine (Cert.Finite.sum_mul_scale hq hk isReal_scale).trans (Finset.sum_congr rfl fun d _ => ?_)
    rw [kt_apply]
  funext i
  exact (congrArg _ (eq_ix4 i)).trans ((key (i 0) (i 1) (i 2) (i 3)).trans (congrArg _ (eq_ix4 i)).symm)

/-- The tail's values, split over the heads, are the cross attention's of the values handed over. -/
theorem value_eq : Cert.TailRefIdeal.Read.val_main_v36 (F := Ideal) x1 x3 x6
    = Cert.XattnRefIdeal.Read.val_main_v21 (F := Ideal) (VV x1 x3 x6) := rfl

/-- The exponentials agree. -/
theorem exp_eq (hs : Cert.TailRefIdeal.Read.val_main_v39 (F := Ideal) x0 x1 x2 x3 x4 x5
      = Cert.XattnRefIdeal.Read.val_main_v22 (F := Ideal) x0 x2 x4 (KT x1 x3 x5)) :
    Cert.TailRefIdeal.Read.val_main_v46 (F := Ideal) x0 x1 x2 x3 x4 x5
      = Cert.XattnRefIdeal.Read.val_main_v29 (F := Ideal) x0 x2 x4 (KT x1 x3 x5) := by
  simp only [Cert.TailRefIdeal.Read.val_main_v40, Cert.TailRefIdeal.Read.val_main_v41, Cert.TailRefIdeal.Read.val_main_v42,
    Cert.TailRefIdeal.Read.val_main_v43, Cert.TailRefIdeal.Read.val_main_v44, Cert.TailRefIdeal.Read.val_main_v45,
    Cert.TailRefIdeal.Read.val_main_v46, Cert.XattnRefIdeal.Read.val_main_v23, Cert.XattnRefIdeal.Read.val_main_v24,
    Cert.XattnRefIdeal.Read.val_main_v25, Cert.XattnRefIdeal.Read.val_main_v26,
    Cert.XattnRefIdeal.Read.val_main_v27, Cert.XattnRefIdeal.Read.val_main_v28, Cert.XattnRefIdeal.Read.val_main_v29, hs]
  rfl

/-- The merged heads agree. -/
theorem merged_eq (hs : Cert.TailRefIdeal.Read.val_main_v39 (F := Ideal) x0 x1 x2 x3 x4 x5
      = Cert.XattnRefIdeal.Read.val_main_v22 (F := Ideal) x0 x2 x4 (KT x1 x3 x5)) :
    Cert.TailRefIdeal.Read.val_main_v53 (F := Ideal) x0 x1 x2 x3 x4 x5 x6
      = Cert.XattnRefIdeal.Read.val_main_v36 (F := Ideal) x0 x2 x4 (KT x1 x3 x5) (VV x1 x3 x6) := by
  simp only [Cert.TailRefIdeal.Read.val_main_v47, Cert.TailRefIdeal.Read.val_main_v48, Cert.TailRefIdeal.Read.val_main_v49,
    Cert.TailRefIdeal.Read.val_main_v50, Cert.TailRefIdeal.Read.val_main_v51, Cert.TailRefIdeal.Read.val_main_v52,
    Cert.TailRefIdeal.Read.val_main_v53, Cert.XattnRefIdeal.Read.val_main_v30, Cert.XattnRefIdeal.Read.val_main_v31,
    Cert.XattnRefIdeal.Read.val_main_v32, Cert.XattnRefIdeal.Read.val_main_v33,
    Cert.XattnRefIdeal.Read.val_main_v34, Cert.XattnRefIdeal.Read.val_main_v35, Cert.XattnRefIdeal.Read.val_main_v36, exp_eq x0 x1 x2 x3 x4 x5 hs, value_eq]
  rfl

/-- The tokens after the cross attention agree. -/
theorem attn_eq (h2 : ∀ i, IsReal (x2 i)) (h3 : ∀ i, IsReal (x3 i))
    (h4 : ∀ i, IsReal (x4 i)) (h5 : ∀ i, IsReal (x5 i)) :
    Cert.TailRefIdeal.Read.val_main_v70 (F := Ideal) x0 x1 x2 x3 x4 x5 x6 x7 x8
      = Cert.XattnRefIdeal.Read.val_main_v53 (F := Ideal) x0 x2 x4 (KT x1 x3 x5) (VV x1 x3 x6) x7 x8 := by
  simp only [Cert.TailRefIdeal.Read.val_main_v54, Cert.TailRefIdeal.Read.val_main_v55, Cert.TailRefIdeal.Read.val_main_v56,
    Cert.TailRefIdeal.Read.val_main_v57, Cert.TailRefIdeal.Read.val_main_v58, Cert.TailRefIdeal.Read.val_main_v59,
    Cert.TailRefIdeal.Read.val_main_v60, Cert.TailRefIdeal.Read.val_main_v61, Cert.TailRefIdeal.Read.val_main_v62,
    Cert.TailRefIdeal.Read.val_main_v63, Cert.TailRefIdeal.Read.val_main_v64, Cert.TailRefIdeal.Read.val_main_v65,
    Cert.TailRefIdeal.Read.val_main_v66, Cert.TailRefIdeal.Read.val_main_v67, Cert.TailRefIdeal.Read.val_main_v68,
    Cert.TailRefIdeal.Read.val_main_v69, Cert.TailRefIdeal.Read.val_main_v70, Cert.XattnRefIdeal.Read.val_main_v37,
    Cert.XattnRefIdeal.Read.val_main_v38, Cert.XattnRefIdeal.Read.val_main_v39,
    Cert.XattnRefIdeal.Read.val_main_v40, Cert.XattnRefIdeal.Read.val_main_v41,
    Cert.XattnRefIdeal.Read.val_main_v42, Cert.XattnRefIdeal.Read.val_main_v43,
    Cert.XattnRefIdeal.Read.val_main_v44, Cert.XattnRefIdeal.Read.val_main_v45,
    Cert.XattnRefIdeal.Read.val_main_v46, Cert.XattnRefIdeal.Read.val_main_v47,
    Cert.XattnRefIdeal.Read.val_main_v48, Cert.XattnRefIdeal.Read.val_main_v49,
    Cert.XattnRefIdeal.Read.val_main_v50, Cert.XattnRefIdeal.Read.val_main_v51,
    Cert.XattnRefIdeal.Read.val_main_v52, Cert.XattnRefIdeal.Read.val_main_v53, merged_eq x0 x1 x2 x3 x4 x5 x6 (score_eq x0 x1 x2 x3 x4 x5 h2 h3 h4 h5)]
  rfl

/-- The tail's result is the feed forward of the tokens after the cross attention. -/
theorem ffn_eq : Cert.TailRefIdeal.Read.val_main_v110 (F := Ideal) x0 x1 x2 x3 x4 x5 x6 x7 x8 x9 x10 x11 x12 x13
    = Cert.FfnRefIdeal.Read.val_main_v39 (F := Ideal)
        (Cert.TailRefIdeal.Read.val_main_v70 (F := Ideal) x0 x1 x2 x3 x4 x5 x6 x7 x8) x9 x10 x11 x12 x13 := by
  rfl

/-- The tail's result is the feed forward of the cross attention over the memory projection's keys and values. -/
theorem tail_eq (h2 : ∀ i, IsReal (x2 i)) (h3 : ∀ i, IsReal (x3 i))
    (h4 : ∀ i, IsReal (x4 i)) (h5 : ∀ i, IsReal (x5 i)) :
    Cert.TailRefIdeal.Read.val_main_v110 (F := Ideal) x0 x1 x2 x3 x4 x5 x6 x7 x8 x9 x10 x11 x12 x13
      = Cert.FfnRefIdeal.Read.val_main_v39 (F := Ideal)
          (Cert.XattnRefIdeal.Read.val_main_v53 (F := Ideal) x0 x2 x4 (KT x1 x3 x5) (VV x1 x3 x6) x7 x8) x9 x10 x11 x12 x13 :=
  (ffn_eq x0 x1 x2 x3 x4 x5 x6 x7 x8 x9 x10 x11 x12 x13).trans
    (congrArg (fun h => Cert.FfnRefIdeal.Read.val_main_v39 (F := Ideal) h x9 x10 x11 x12 x13)
      (attn_eq x0 x1 x2 x3 x4 x5 x6 x7 x8 h2 h3 h4 h5))

end Cert.Tail

end
-- ==== Proof.TailValue.lean ====
/- The value of the tail of the layer: what the joined program's result array holds after the run is the reference's term of
   the arguments, for finite gains, query weights and key weights. -/
module

public import proofs.«01_k».proof.Proof.Gen.TailIdeal.Frame
public import proofs.«01_k».proof.Proof.Gen.TailRefIdeal.Run
public import proofs.«01_k».proof.Proof.Gen.Pre_finite_inputs
public import proofs.«01_k».proof.Proof.TailRef
public import proofs.«01_k».proof.Proof.MemkvValue
public import proofs.«01_k».proof.Proof.XattnValue
public import proofs.«01_k».proof.Proof.FfnValue
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.TailIdeal.Tail

open Cert.TailIdeal Cert.TailIdeal.Gen
open Cert.Tail
open Cert.Finite (IsReal)
open Idealize.ShloMosaic.Pipeline (Dat)

/-- The memory projection's body leaves the same keys as in the projection's own program, -/
theorem out_kt : @Cert.TailIdeal.Gen.out0_4 Ideal _ = @Cert.MemkvIdeal.Gen.out0_4 Ideal _ := rfl
/-- and the same values; -/
theorem out_v : @Cert.TailIdeal.Gen.out0_5 Ideal _ = @Cert.MemkvIdeal.Gen.out0_5 Ideal _ := rfl
/-- so does the cross attention's body, -/
theorem out_attn : @Cert.TailIdeal.Gen.out1_7 Ideal _ = @Cert.XattnIdeal.Gen.out0_7 Ideal _ := rfl
/-- and the feed forward's. -/
theorem out_ffn : @Cert.TailIdeal.Gen.out2_6 Ideal _ = @Cert.FfnIdeal.Gen.out0_6 Ideal _ := rfl

/-- The memory projection's blocks at each grid point. -/
theorem idx0 : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![t.val, 0, 0] :=
  (by decide +kernel : ∀ t : Fin grid0.N, _)

/-- The cross attention's blocks at each grid point. -/
theorem idx1 : ∀ t : Fin cfg1.N, win1_0.index t = ![t.val / 8, t.val % 8, 0] ∧ win1_1.index t = ![0, 0]
    ∧ win1_2.index t = ![0, 0] ∧ win1_3.index t = ![t.val / 8, 0, 0] ∧ win1_4.index t = ![t.val / 8, 0, 0]
    ∧ win1_5.index t = ![0, 0] ∧ win1_6.index t = ![0, 0] ∧ win1_7.index t = ![t.val / 8, t.val % 8, 0] :=
  (by decide +kernel : ∀ t : Fin grid1.N, _)

/-- The feed forward's blocks at each grid point. -/
theorem idx2 : ∀ t : Fin cfg2.N, win2_0.index t = ![t.val, 0] ∧ win2_1.index t = ![0, 0] ∧ win2_2.index t = ![0, 0]
    ∧ win2_3.index t = ![0, 0] ∧ win2_4.index t = ![0, 0] ∧ win2_5.index t = ![0, 0] ∧ win2_6.index t = ![t.val, 0] :=
  (by decide +kernel : ∀ t : Fin grid2.N, _)

variable (m : (ℓ : Loc nD τ sig) → Buf (Elt Ideal) ℓ) (ρ : Dev nD → PrngReg)

/-- What the memory projection stages of the memory, -/
theorem mem_at (c : Dev nD) (t : Fin cfg0.N) (b : Fin 8) (hb : b.val = t.val) (n : Fin 256) (l : Fin 1024) :
    iblk0 (V1 m ρ) c 0 t (ix3 0 n l) = m ((c : Thread nD τ).loc main_arg1) (ix3 b n l) := by
  blk_point [iblk0, V1, W1, idx0 t]

/-- of its gain, -/
theorem mgain_at (c : Dev nD) (t : Fin cfg0.N) (l : Fin 1024) :
    iblk0 (V1 m ρ) c 1 t (ix2 0 l) = m ((c : Thread nD τ).loc main_arg3) (ix2 0 l) := by
  blk_point [iblk0, V1, W1, idx0 t]

/-- of the key weights, -/
theorem wk_at (c : Dev nD) (t : Fin cfg0.N) (k l : Fin 1024) :
    iblk0 (V1 m ρ) c 2 t (ix2 k l) = m ((c : Thread nD τ).loc main_arg5) (ix3 0 k l) := by
  blk_point [iblk0, V1, W1, idx0 t]

/-- and of the value weights. -/
theorem wv_at (c : Dev nD) (t : Fin cfg0.N) (k l : Fin 1024) :
    iblk0 (V1 m ρ) c 3 t (ix2 k l) = m ((c : Thread nD τ).loc main_arg6) (ix3 0 k l) := by
  blk_point [iblk0, V1, W1, idx0 t]

/-- The array of transposed keys after the memory projection. -/
theorem final_kt (c : Dev nD) : (dat0 (V1 m ρ) c).arrAt 4 cfg0.N
    = KT (m ((c : Thread nD τ).loc main_arg1)) (m ((c : Thread nD τ).loc main_arg3)) (m ((c : Thread nD τ).loc main_arg5)) := by
  refine (dat0 (V1 m ρ) c).arrAt_eq_of_covers 4 _ (by decide +kernel) fun t _ y => ?_
  blk_simp; rw [after0_4, out_kt]
  have hy : (y 0).val = 0 := by have : (y 0).val < 1 := (y 0).isLt; omega
  have ht : t.val < 8 := t.isLt
  refine (congrArg _ ((eq_ix3 y).trans (congrArg (fun i => ix3 i (y 1) (y 2)) (Fin.ext hy : y 0 = (0 : Fin 1))))).trans ?_
  refine (Cert.MemkvIdeal.Mem.kt_at (m ((c : Thread nD τ).loc main_arg1)) (m ((c : Thread nD τ).loc main_arg3))
    (m ((c : Thread nD τ).loc main_arg5)) _ _ _ _ ⟨t.val, ht⟩ (mem_at m ρ c t _ rfl) (mgain_at m ρ c t) (wk_at m ρ c t)
    (y 1) (y 2)).trans ?_
  refine congrArg (KT _ _ _) ?_
  blk_ext [idx0 t]

/-- The array of values after the memory projection. -/
theorem final_v (c : Dev nD) : (dat0 (V1 m ρ) c).arrAt 5 cfg0.N
    = VV (m ((c : Thread nD τ).loc main_arg1)) (m ((c : Thread nD τ).loc main_arg3)) (m ((c : Thread nD τ).loc main_arg6)) := by
  refine (dat0 (V1 m ρ) c).arrAt_eq_of_covers 5 _ (by decide +kernel) fun t _ y => ?_
  blk_simp; rw [after0_5, out_v]
  have hy : (y 0).val = 0 := by have : (y 0).val < 1 := (y 0).isLt; omega
  have ht : t.val < 8 := t.isLt
  refine (congrArg _ ((eq_ix3 y).trans (congrArg (fun i => ix3 i (y 1) (y 2)) (Fin.ext hy : y 0 = (0 : Fin 1))))).trans ?_
  refine (Cert.MemkvIdeal.Mem.v_at (m ((c : Thread nD τ).loc main_arg1)) (m ((c : Thread nD τ).loc main_arg3))
    (m ((c : Thread nD τ).loc main_arg6)) _ _ _ _ ⟨t.val, ht⟩ (mem_at m ρ c t _ rfl) (mgain_at m ρ c t) (wv_at m ρ c t)
    (y 1) (y 2)).trans ?_
  refine congrArg (VV _ _ _) ?_
  blk_ext [idx0 t]

/-- The cross attention finds the keys the memory projection left, -/
theorem keys_entry (c : Dev nD) : V3 m ρ c main_v6_0
    = KT (m ((c : Thread nD τ).loc main_arg1)) (m ((c : Thread nD τ).loc main_arg3)) (m ((c : Thread nD τ).loc main_arg5)) :=
  (W3_of m ρ c main_v6_0 (by decide)).trans ((W2_arr m ρ c 4).trans (final_kt m ρ c))

/-- and the values. -/
theorem vals_entry (c : Dev nD) : V3 m ρ c main_v6_1
    = VV (m ((c : Thread nD τ).loc main_arg1)) (m ((c : Thread nD τ).loc main_arg3)) (m ((c : Thread nD τ).loc main_arg6)) :=
  (W3_of m ρ c main_v6_1 (by decide)).trans ((W2_arr m ρ c 5).trans (final_v m ρ c))

/-- What the cross attention stages of the tokens, -/
theorem tok_at (c : Dev nD) (t : Fin cfg1.N) (r : Fin 1024) (b : Fin 8) (s : Fin 8192) (hb : b.val = t.val / 8)
    (hs : s.val = t.val % 8 * 1024 + r.val) (l : Fin 1024) :
    iblk1 (V3 m ρ) c 0 t (ix3 0 r l) = m ((c : Thread nD τ).loc main_arg0) (ix3 b s l) := by
  rw [← W3_args m ρ c main_arg0 (by decide)]
  blk_point [iblk1, idx1 t]

/-- of its gain, -/
theorem again_at (c : Dev nD) (t : Fin cfg1.N) (l : Fin 1024) :
    iblk1 (V3 m ρ) c 1 t (ix2 0 l) = m ((c : Thread nD τ).loc main_arg2) (ix2 0 l) := by
  rw [← W2_args m ρ c main_arg2 (by decide)]
  blk_point [iblk1, V3, W3, idx1 t]

/-- of the query weights, -/
theorem wq_at (c : Dev nD) (t : Fin cfg1.N) (k l : Fin 1024) :
    iblk1 (V3 m ρ) c 2 t (ix2 k l) = m ((c : Thread nD τ).loc main_arg4) (ix3 0 k l) := by
  rw [← W2_args m ρ c main_arg4 (by decide)]
  blk_point [iblk1, V3, W3, idx1 t]

/-- of a batch's keys, -/
theorem key_at (c : Dev nD) (t : Fin cfg1.N) (b : Fin 8) (hb : b.val = t.val / 8) (d : Fin 1024) (n : Fin 256) :
    iblk1 (V3 m ρ) c 3 t (ix3 0 d n) = KT (m ((c : Thread nD τ).loc main_arg1)) (m ((c : Thread nD τ).loc main_arg3))
      (m ((c : Thread nD τ).loc main_arg5)) (ix3 b d n) := by
  rw [← keys_entry m ρ c]
  blk_point [iblk1, idx1 t]

/-- of a batch's values, -/
theorem val_at (c : Dev nD) (t : Fin cfg1.N) (b : Fin 8) (hb : b.val = t.val / 8) (n : Fin 256) (d : Fin 1024) :
    iblk1 (V3 m ρ) c 4 t (ix3 0 n d) = VV (m ((c : Thread nD τ).loc main_arg1)) (m ((c : Thread nD τ).loc main_arg3))
      (m ((c : Thread nD τ).loc main_arg6)) (ix3 b n d) := by
  rw [← vals_entry m ρ c]
  blk_point [iblk1, idx1 t]

/-- of the output weights, -/
theorem wo_at (c : Dev nD) (t : Fin cfg1.N) (k l : Fin 1024) :
    iblk1 (V3 m ρ) c 5 t (ix2 k l) = m ((c : Thread nD τ).loc main_arg7) (ix3 0 k l) := by
  rw [← W2_args m ρ c main_arg7 (by decide)]
  blk_point [iblk1, V3, W3, idx1 t]

/-- and of the output gain. -/
theorem apost_at (c : Dev nD) (t : Fin cfg1.N) (l : Fin 1024) :
    iblk1 (V3 m ρ) c 6 t (ix2 0 l) = m ((c : Thread nD τ).loc main_arg8) (ix2 0 l) := by
  rw [← W2_args m ρ c main_arg8 (by decide)]
  blk_point [iblk1, V3, W3, idx1 t]

/-- The precondition, read: every gain before the attention and every weight of the queries and the keys is a real number. -/
theorem pre_real (c : Dev nD) (hp : Cert.Pre_TailIdeal_finite_inputs m) :
    (∀ i, IsReal (m ((c : Thread nD τ).loc main_arg2) i)) ∧ (∀ i, IsReal (m ((c : Thread nD τ).loc main_arg3) i))
    ∧ (∀ i, IsReal (m ((c : Thread nD τ).loc main_arg4) i)) ∧ (∀ i, IsReal (m ((c : Thread nD τ).loc main_arg5) i)) := by
  have e := congrFun (hp c) ix0
  simp only [Cert.Pre_finite_inputs.fn, Cert.Pre_finite_inputs.fn_part1, andi, IntOp.andi_eq_one] at e
  obtain ⟨⟨⟨e2, e3⟩, e4⟩, e5⟩ := e
  exact ⟨fun i => Cert.XattnIdeal.Attn.real_of_cmp _ _ _ e2 i, fun i => Cert.XattnIdeal.Attn.real_of_cmp _ _ _ e3 i,
    fun i => Cert.XattnIdeal.Attn.real_of_cmp _ _ _ e4 i, fun i => Cert.XattnIdeal.Attn.real_of_cmp _ _ _ e5 i⟩

/-- The tokens after the cross attention, as the reference forms them from the arguments. -/
abbrev ATT (c : Dev nD) : FVec Ideal S8x8192x1024 .f32 :=
  Cert.XattnRefIdeal.Read.val_main_v53 (F := Ideal) (m ((c : Thread nD τ).loc main_arg0))
    (m ((c : Thread nD τ).loc main_arg2)) (m ((c : Thread nD τ).loc main_arg4))
    (KT (m ((c : Thread nD τ).loc main_arg1)) (m ((c : Thread nD τ).loc main_arg3)) (m ((c : Thread nD τ).loc main_arg5)))
    (VV (m ((c : Thread nD τ).loc main_arg1)) (m ((c : Thread nD τ).loc main_arg3)) (m ((c : Thread nD τ).loc main_arg6)))
    (m ((c : Thread nD τ).loc main_arg7)) (m ((c : Thread nD τ).loc main_arg8))

/-- The array of tokens after the cross attention. -/
theorem final_attn (c : Dev nD) (hp : Cert.Pre_TailIdeal_finite_inputs m) :
    (dat1 (V3 m ρ) c).arrAt 7 cfg1.N = ATT m c := by
  obtain ⟨p2, p3, p4, p5⟩ := pre_real m c hp
  refine (dat1 (V3 m ρ) c).arrAt_eq_of_covers 7 _ (by decide +kernel) fun t _ y => ?_
  blk_simp; rw [after1_7, out_attn]
  have ht : t.val < 64 := t.isLt
  have hr : (y 1).val < 1024 := (y 1).isLt
  have hy : (y 0).val = 0 := by have : (y 0).val < 1 := (y 0).isLt; omega
  refine (congrArg _ ((eq_ix3 y).trans (congrArg (fun i => ix3 i (y 1) (y 2)) (Fin.ext hy : y 0 = (0 : Fin 1))))).trans ?_
  refine (Cert.XattnIdeal.Attn.out_at_block _ _ _ _ _ _ _ _ _ _ _ _ _ _ ⟨t.val / 8, by omega⟩
    ⟨t.val % 8 * 1024 + (y 1).val, by omega⟩ (y 1)
    (tok_at m ρ c t (y 1) _ _ rfl rfl) (again_at m ρ c t) (wq_at m ρ c t) (key_at m ρ c t _ rfl) (val_at m ρ c t _ rfl)
    (wo_at m ρ c t) (apost_at m ρ c t) p2 p4 (kt_real _ _ _ p3 p5) (y 2)).trans ?_
  refine congrArg (ATT m c) ?_
  blk_ext [idx1 t]

/-- The feed forward finds the tokens the cross attention left. -/
theorem toks_entry (c : Dev nD) (hp : Cert.Pre_TailIdeal_finite_inputs m) : W4 m ρ c (Proc.devRef .tc main_v15) = ATT m c :=
  (W4_arr m ρ c 7).trans (final_attn m ρ c hp)

/-- What the feed forward stages of the tokens: 1024 rows of them taken as one matrix, -/
theorem row_at (c : Dev nD) (hp : Cert.Pre_TailIdeal_finite_inputs m) (t : Fin cfg2.N) (r : Fin 1024) (b : Fin 8)
    (s : Fin 8192) (h : b.val * 8192 + s.val = t.val * 1024 + r.val) (l : Fin 1024) :
    iblk2 (V5 m ρ) c 0 t (ix2 r l) = ATT m c (ix3 b s l) := by
  rw [← toks_entry m ρ c hp]
  blk_simp [iblk2, V5, W5, idx2 t]
  entry_read
  pointwise
  blk_ext [idx2 t]

/-- of its gain, -/
theorem fgain_at (c : Dev nD) (t : Fin cfg2.N) (l : Fin 1024) :
    iblk2 (V5 m ρ) c 1 t (ix2 0 l) = m ((c : Thread nD τ).loc main_arg9) (ix2 0 l) := by
  rw [← W4_args m ρ c main_arg9 (by decide)]
  blk_point [iblk2, V5, W5, idx2 t]

/-- of the gate weights, -/
theorem wgate_at (c : Dev nD) (t : Fin cfg2.N) (k : Fin 1024) (l : Fin 2816) :
    iblk2 (V5 m ρ) c 2 t (ix2 k l) = m ((c : Thread nD τ).loc main_arg10) (ix3 0 k l) := by
  rw [← W4_args m ρ c main_arg10 (by decide)]
  blk_point [iblk2, V5, W5, idx2 t]

/-- of the up weights, -/
theorem wup_at (c : Dev nD) (t : Fin cfg2.N) (k : Fin 1024) (l : Fin 2816) :
    iblk2 (V5 m ρ) c 3 t (ix2 k l) = m ((c : Thread nD τ).loc main_arg11) (ix3 0 k l) := by
  rw [← W4_args m ρ c main_arg11 (by decide)]
  blk_point [iblk2, V5, W5, idx2 t]

/-- of the down weights, -/
theorem wdown_at (c : Dev nD) (t : Fin cfg2.N) (k : Fin 2816) (l : Fin 1024) :
    iblk2 (V5 m ρ) c 4 t (ix2 k l) = m ((c : Thread nD τ).loc main_arg12) (ix3 0 k l) := by
  rw [← W4_args m ρ c main_arg12 (by decide)]
  blk_point [iblk2, V5, W5, idx2 t]

/-- and of the output gain. -/
theorem fpost_at (c : Dev nD) (t : Fin cfg2.N) (l : Fin 1024) :
    iblk2 (V5 m ρ) c 5 t (ix2 0 l) = m ((c : Thread nD τ).loc main_arg13) (ix2 0 l) := by
  rw [← W4_args m ρ c main_arg13 (by decide)]
  blk_point [iblk2, V5, W5, idx2 t]

/-- The layer's result, as the reference's feed forward forms it from the tokens after the cross attention. -/
abbrev RES (c : Dev nD) : FVec Ideal S65536x1024 .f32 :=
  Cert.FfnRefIdeal.Read.val_main_v39 (F := Ideal) (ATT m c) (m ((c : Thread nD τ).loc main_arg9))
    (m ((c : Thread nD τ).loc main_arg10)) (m ((c : Thread nD τ).loc main_arg11)) (m ((c : Thread nD τ).loc main_arg12))
    (m ((c : Thread nD τ).loc main_arg13))

/-- The result array after the feed forward. -/
theorem final (c : Dev nD) (hp : Cert.Pre_TailIdeal_finite_inputs m) : (dat2 (V5 m ρ) c).arrAt 6 cfg2.N = RES m c := by
  refine (dat2 (V5 m ρ) c).arrAt_eq_of_covers 6 _ (by decide +kernel) fun t _ y => ?_
  blk_simp; rw [after2_6, out_ffn]
  have ht : t.val < 64 := t.isLt
  have hr : (y 0).val < 1024 := (y 0).isLt
  have hb : (t.val * 1024 + (y 0).val) / 8192 < 8 := by omega
  have hs : (t.val * 1024 + (y 0).val) % 8192 < 8192 := by omega
  have he : (t.val * 1024 + (y 0).val) / 8192 * 8192 + (t.val * 1024 + (y 0).val) % 8192 = t.val * 1024 + (y 0).val := by omega
  refine (congrArg _ (eq_ix2 y)).trans ((Cert.FfnIdeal.Half.block_at (ATT m c) (m ((c : Thread nD τ).loc main_arg9))
    (m ((c : Thread nD τ).loc main_arg10)) (m ((c : Thread nD τ).loc main_arg11)) (m ((c : Thread nD τ).loc main_arg12))
    (m ((c : Thread nD τ).loc main_arg13)) _ _ _ _ _ _ (y 0) ⟨_, hb⟩ ⟨_, hs⟩ (row_at m ρ c hp t (y 0) _ _ he)
    (fgain_at m ρ c t) (wgate_at m ρ c t) (wup_at m ρ c t) (wdown_at m ρ c t) (fpost_at m ρ c t) (y 1)).trans ?_)
  refine (Cert.FfnIdeal.Half.rows_at _ _ _ _ _ _ ⟨_, hb⟩ ⟨_, hs⟩ ⟨t.val * 1024 + (y 0).val, by omega⟩ he.symm
    (y 1)).symm.trans ?_
  refine congrArg (RES m c) ?_
  blk_ext [idx2 t]

section Launch

open Idealize.SL Idealize.SL.RA Idealize.SL.BI
open scoped Idealize.SL.BI
open Idealize.SL.BI.BIBase Idealize.SL.BI.Laws Idealize.SL.ProofMode
open Idealize.ShloMosaic.Rounds

-- the launch's implicit arguments are found by unifying its conclusion with this one, which takes unfolding plain definitions
set_option backward.isDefEq.respectTransparency.types false in
/-- The joined program's run: every final state has every unscoped buffer at the contents of the last boundary. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj))
            : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD =>
          (BI.emp : sProp (MT nD τ sig Unit (Elt Ideal) ℕ (UR sig nD τ) ℕ))) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Launch

/-- The idealized joined program and its idealized reference end with the same array, where the gains
    before the attention and the weights of the queries and the keys are finite. -/
theorem algebraic : Cert.algebraic_TailIdeal_TailRefIdeal_pre_finite_inputs := by
  intro m g m' g' hp hagree
  refine ⟨fun c => RES m c, (θ_run _ _ _).mono (fun r h c => ?_) (run m g),
    (θ_run _ _ _).mono (fun r h c => ⟨(h c).1.trans ?_, (h c).2⟩) (Cert.TailRefIdeal.Value.run m' g')⟩
  · exact ⟨((h c _ (mem_uc main_v27 (by decide))).trans (W6_arr m g c 6)).trans (final m g c hp),
      (h c _ (mem_uc main_arg0 (by decide))).trans (W6_args m g c main_arg0 (by decide)),
      (h c _ (mem_uc main_arg1 (by decide))).trans (W6_args m g c main_arg1 (by decide)),
      (h c _ (mem_uc main_arg2 (by decide))).trans (W6_args m g c main_arg2 (by decide)),
      (h c _ (mem_uc main_arg3 (by decide))).trans (W6_args m g c main_arg3 (by decide)),
      (h c _ (mem_uc main_arg4 (by decide))).trans (W6_args m g c main_arg4 (by decide)),
      (h c _ (mem_uc main_arg5 (by decide))).trans (W6_args m g c main_arg5 (by decide)),
      (h c _ (mem_uc main_arg6 (by decide))).trans (W6_args m g c main_arg6 (by decide)),
      (h c _ (mem_uc main_arg7 (by decide))).trans (W6_args m g c main_arg7 (by decide)),
      (h c _ (mem_uc main_arg8 (by decide))).trans (W6_args m g c main_arg8 (by decide)),
      (h c _ (mem_uc main_arg9 (by decide))).trans (W6_args m g c main_arg9 (by decide)),
      (h c _ (mem_uc main_arg10 (by decide))).trans (W6_args m g c main_arg10 (by decide)),
      (h c _ (mem_uc main_arg11 (by decide))).trans (W6_args m g c main_arg11 (by decide)),
      (h c _ (mem_uc main_arg12 (by decide))).trans (W6_args m g c main_arg12 (by decide)),
      (h c _ (mem_uc main_arg13 (by decide))).trans (W6_args m g c main_arg13 (by decide))⟩
  · obtain ⟨p2, p3, p4, p5⟩ := pre_real m c hp
    obtain ⟨h0, h1, h2, h3, h4, h5, h6, h7, h8, h9, h10, h11, h12, h13⟩ := hagree c
    rw [Cert.TailRefIdeal.Read.val_main_v110_eq]
    change Cert.TailRefIdeal.Read.val_main_v110 (F := Ideal)
      (m' ((c : Thread Cert.TailRefIdeal.nD Cert.TailRefIdeal.τ).loc Cert.TailRefIdeal.main_arg0))
      (m' ((c : Thread Cert.TailRefIdeal.nD Cert.TailRefIdeal.τ).loc Cert.TailRefIdeal.main_arg1))
      (m' ((c : Thread Cert.TailRefIdeal.nD Cert.TailRefIdeal.τ).loc Cert.TailRefIdeal.main_arg2))
      (m' ((c : Thread Cert.TailRefIdeal.nD Cert.TailRefIdeal.τ).loc Cert.TailRefIdeal.main_arg3))
      (m' ((c : Thread Cert.TailRefIdeal.nD Cert.TailRefIdeal.τ).loc Cert.TailRefIdeal.main_arg4))
      (m' ((c : Thread Cert.TailRefIdeal.nD Cert.TailRefIdeal.τ).loc Cert.TailRefIdeal.main_arg5))
      (m' ((c : Thread Cert.TailRefIdeal.nD Cert.TailRefIdeal.τ).loc Cert.TailRefIdeal.main_arg6))
      (m' ((c : Thread Cert.TailRefIdeal.nD Cert.TailRefIdeal.τ).loc Cert.TailRefIdeal.main_arg7))
      (m' ((c : Thread Cert.TailRefIdeal.nD Cert.TailRefIdeal.τ).loc Cert.TailRefIdeal.main_arg8))
      (m' ((c : Thread Cert.TailRefIdeal.nD Cert.TailRefIdeal.τ).loc Cert.TailRefIdeal.main_arg9))
      (m' ((c : Thread Cert.TailRefIdeal.nD Cert.TailRefIdeal.τ).loc Cert.TailRefIdeal.main_arg10))
      (m' ((c : Thread Cert.TailRefIdeal.nD Cert.TailRefIdeal.τ).loc Cert.TailRefIdeal.main_arg11))
      (m' ((c : Thread Cert.TailRefIdeal.nD Cert.TailRefIdeal.τ).loc Cert.TailRefIdeal.main_arg12))
      (m' ((c : Thread Cert.TailRefIdeal.nD Cert.TailRefIdeal.τ).loc Cert.TailRefIdeal.main_arg13)) = RES m c
    rw [h0, h1, h2, h3, h4, h5, h6, h7, h8, h9, h10, h11, h12, h13]
    exact tail_eq _ _ _ _ _ _ _ _ _ _ _ _ _ _ p2 p3 p4 p5

end Cert.TailIdeal.Tail

end
-- ==== Proof.MixerStage.lean ====
/- The mixer's body as stages: the two causal convolutions over their carried halos, the gates, and one step per chunk and
   head of the recurrence, each written once over the chunk and the head, where the printed body writes them out. -/
module

public import proofs.«01_k».proof.Proof.Gen.MixerIdeal.Frame

@[expose] public section

set_option maxRecDepth 16384

noncomputable section

open Idealize.ShloMosaic Idealize.ShloMosaic.TcCoe Idealize.SL.Sem

namespace Cert.MixerIdeal.Stage

open Cert.MixerIdeal Cert.MixerIdeal.Gen

variable {F : FTy → Type} [FloatOps F]

/-- A block of a rank two array at in-range offsets is a slice. -/
theorem slices2 {a b c d o p : ℕ} (h : o + c ≤ a) (h' : p + d ≤ b) :
    (⟨2, ![a, b]⟩ : Shape).Slices ![o, p] ⟨2, ![c, d]⟩ :=
  ⟨rfl, fun i => by match i with | 0 => exact h | 1 => exact h'⟩

/-- One group's rows of a rank three buffer are in range. -/
theorem inb3 {a b c n o p q : ℕ} (h : n < a) (h' : o + p ≤ b) (h'' : q ≤ c) :
    ∀ x, (![n, o, 0] : Fin 3 → ℕ) x + (⟨3, ![1, p, q]⟩ : Shape).size x ≤ (⟨3, ![a, b, c]⟩ : Shape).size x := fun x => by
  match x with
  | 0 => exact h
  | 1 => exact h'
  | 2 => exact (Nat.zero_add q).symm ▸ h''

/-- A block of a rank two buffer is in range. -/
theorem inb2 {a b c d o p : ℕ} (h : o + c ≤ a) (h' : p + d ≤ b) :
    ∀ x, (![o, p] : Fin 2 → ℕ) x + (⟨2, ![c, d]⟩ : Shape).size x ≤ (⟨2, ![a, b]⟩ : Shape).size x := fun x => by
  match x with
  | 0 => exact h
  | 1 => exact h'

/-- What the body loads from its input blocks: the rows of the residual stream, the weights, and the rows of the
    convolution weights by lane group and tap. -/
structure Ins (F : FTy → Type) where
  h : Vec F S1x1024x1024 .f32
  gpre : Vec F S1x1024 .f32
  win : Vec F S1024x3072 .bf16
  wgate : Vec F S1024x128 .bf16
  wc : Fin 4 → Fin 31 → Vec F S1x128 .f32
  bc : Fin 4 → Vec F S1x128 .f32
  lng : Vec F S1x512 .f32
  lnb : Vec F S1x512 .f32
  wq : Fin 8 → Fin 4 → Vec F S1x128 .f32
  bq : Fin 8 → Vec F S1x128 .f32
  gb : Vec F S1x128 .f32
  gn : Fin 4 → Vec F S1x128 .f32
  wout : Vec F S1024x1024 .bf16
  gpost : Vec F S1x1024 .f32

/-- The pieces of a scratch buffer. -/
abbrev Pcs (F : FTy → Type) (s : Shape) := List (View.Piece (Elt F) s .f32)

/-- How the body reads the scratch buffers back, given the pieces stored so far: a tap of each convolution, the rows that
    become the next halo, the state of a head before a chunk, and the stabilizer before a chunk. -/
structure Rds (F : FTy → Type) where
  tapU : Pcs F S4x1056x128 → Fin 4 → Fin 31 → Vec F S1x1024x128 .f32
  haloU : Pcs F S4x1056x128 → Fin 4 → Vec F S1x32x128 .f32
  tapQ : Pcs F S8x1032x128 → Fin 8 → Fin 4 → Vec F S1x1024x128 .f32
  haloQ : Pcs F S8x1032x128 → Fin 8 → Vec F S1x8x128 .f32
  ce : ℕ → Pcs F S4x128x256 → Fin 4 → Vec F S1x128x256 .f32
  ms : ℕ → Pcs F S8x128 → Vec F S8x1 .f32
  baseU : Pcs F S4x1056x128
  baseQ : Pcs F S8x1032x128
  baseC : Pcs F S4x128x256
  baseM : Pcs F S8x128

variable (I : Ins F) (R : Rds F)

/-- The first `n` taps of a causal convolution over the bias. -/
def convAcc {K : ℕ} (bias : Vec F S1x128 .f32) (tap : Fin K → Vec F S1x1024x128 .f32) (wt : Fin K → Vec F S1x128 .f32) :
    (n : ℕ) → n ≤ K → FVec F S1024x128 .f32
  | 0, _ => broadcastTo S1024x128 (shapeCast S1x128 (shapeCast S1x128 bias shapeCasts_S1x128_S1x128 : FVec F S1x128 .f32)
      shapeCasts_S1x128_S1x128 : FVec F S1x128 .f32) broadcasts_S1x128_S1024x128
  | n + 1, h => addf (convAcc bias tap wt n (Nat.le_of_succ_le h))
      (mulf (shapeCast S1024x128 (tap ⟨n, h⟩) shapeCasts_S1x1024x128_S1024x128 : FVec F S1024x128 .f32)
        (broadcastTo S1024x128 (shapeCast S1x128 (wt ⟨n, h⟩) shapeCasts_S1x128_S1x128 : FVec F S1x128 .f32)
          broadcasts_S1x128_S1024x128))

/-- The projected rows. -/
def zrow : FVec F S1024x3072 .f32 := k0_pay9 I.h I.gpre I.win
/-- The convolution path's input. -/
def urow : FVec F S1024x512 .f32 := k0_pay11 I.h I.gpre I.win

/-- The store of a lane group of the convolution path's input under its halo. -/
def storeU (n : Fin 4) (L : Pcs F S4x1056x128) : Pcs F S4x1056x128 :=
  ⟨Rect.unit ![n.val, 32, 0] S1x1024x128.size (inb3 n.isLt (by decide) (by decide)),
    (shapeCast S1x1024x128 (extractStridedSlice S1024x128 ![0, 128 * n.val] (urow I) (slices2 (by decide) (by omega)) :
      FVec F S1024x128 .f32) shapeCasts_S1024x128_S1x1024x128 : FVec F S1x1024x128 .f32)⟩ :: L

/-- The convolution path's buffer after `n` lane groups: rows stored, last rows moved up as the next halo. -/
def piecesU : (n : ℕ) → n ≤ 4 → Pcs F S4x1056x128
  | 0, _ => R.baseU
  | n + 1, h =>
    ⟨Rect.unit ![n, 0, 0] S1x32x128.size (inb3 h (by decide) (by decide)),
      (shapeCast S1x32x128 (shapeCast S32x128 (R.haloU (storeU I ⟨n, h⟩ (piecesU n (Nat.le_of_succ_le h))) ⟨n, h⟩)
        shapeCasts_S1x32x128_S32x128 : FVec F S32x128 .f32) shapeCasts_S32x128_S1x32x128 : FVec F S1x32x128 .f32)⟩
      :: storeU I ⟨n, h⟩ (piecesU n (Nat.le_of_succ_le h))

/-- A lane group of the wide convolution. -/
def convU (n : Fin 4) : FVec F S1024x128 .f32 :=
  convAcc (I.bc n) (R.tapU (storeU I n (piecesU I R n.val n.isLt.le)) n) (I.wc n) 31 (Nat.le_refl _)

/-- The columns of the projected rows that the narrow convolution runs over. -/
def zqk : FVec F S1024x1024 .f32 := k0_pay77 (zrow I)

/-- The store of a lane group of the query and key columns under its halo. -/
def storeQ (n : Fin 8) (L : Pcs F S8x1032x128) : Pcs F S8x1032x128 :=
  ⟨Rect.unit ![n.val, 8, 0] S1x1024x128.size (inb3 n.isLt (by decide) (by decide)),
    (shapeCast S1x1024x128 (extractStridedSlice S1024x128 ![0, 128 * n.val] (zqk I) (slices2 (by decide) (by omega)) :
      FVec F S1024x128 .f32) shapeCasts_S1024x128_S1x1024x128 : FVec F S1x1024x128 .f32)⟩ :: L

/-- The query and key buffer after `n` lane groups. -/
def piecesQ : (n : ℕ) → n ≤ 8 → Pcs F S8x1032x128
  | 0, _ => R.baseQ
  | n + 1, h =>
    ⟨Rect.unit ![n, 0, 0] S1x8x128.size (inb3 h (by decide) (by decide)),
      (shapeCast S1x8x128 (shapeCast S8x128 (R.haloQ (storeQ I ⟨n, h⟩ (piecesQ n (Nat.le_of_succ_le h))) ⟨n, h⟩)
        shapeCasts_S1x8x128_S8x128 : FVec F S8x128 .f32) shapeCasts_S8x128_S1x8x128 : FVec F S1x8x128 .f32)⟩
      :: storeQ I ⟨n, h⟩ (piecesQ n (Nat.le_of_succ_le h))

/-- A lane group of the narrow convolution. -/
def convQ (n : Fin 8) : FVec F S1024x128 .f32 :=
  convAcc (I.bq n) (R.tapQ (storeQ I n (piecesQ I R n.val n.isLt.le)) n) (I.wq n) 4 (Nat.le_refl _)

/-- The logistic unit as the kernel forms it. -/
def silu {s : Shape} (x : FVec F s .f32) : FVec F s .f32 :=
  mulf x (addf (mulf (broadcast s (Scalar.ofBits .f32 0x3F000000#32 : F .f32)) (tanh (mulf (broadcast s (Scalar.ofBits .f32 0x3F000000#32 : F .f32)) x)))
    (broadcast s (Scalar.ofBits .f32 0x3F000000#32 : F .f32)))

/-- The wide convolution's lane groups side by side. -/
def catU (a : Fin 4 → FVec F S1024x128 .f32) : FVec F S1024x512 .f32 :=
  concatenate S1024x512 1 [⟨S1024x128, a 0⟩, ⟨S1024x128, a 1⟩, ⟨S1024x128, a 2⟩, ⟨S1024x128, a 3⟩]
    concatenates_S1024x128_S1024x128_S1024x128_S1024x128_S1024x512_d1

/-- The centred rows of a block. -/
def centred (x : FVec F S1024x512 .f32) : FVec F S1024x512 .f32 :=
  subf x (broadcastTo S1024x512 (divf (shapeCast S1024x1 (multiReduction .add [1] S1024 x 0x00000000#32 reduces_S1024x512_S1024 (.inl rfl) rfl)
    shapeCasts_S1024_S1024x1) (broadcast S1024x1 (Scalar.ofBits .f32 0x44000000#32 : F .f32))) broadcasts_S1024x1_S1024x512)

/-- The convolution path's rows: layer norm and logistic unit of the convolved rows. -/
def convRows : FVec F S1024x512 .bf16 :=
  let c := centred (catU (convU I R))
  let n := mulf (mulf c (broadcastTo S1024x512 (rsqrt (addf (divf (shapeCast S1024x1 (multiReduction .add [1] S1024 (mulf c c) 0x00000000#32
      reduces_S1024x512_S1024 (.inl rfl) rfl) shapeCasts_S1024_S1024x1 : FVec F S1024x1 .f32)
      (broadcast S1024x1 (Scalar.ofBits .f32 0x44000000#32 : F .f32))) (broadcast S1024x1 (Scalar.ofBits .f32 0x3727C5AC#32 : F .f32))))
      broadcasts_S1024x1_S1024x512))
    (broadcastTo S1024x512 (shapeCast S1x512 I.lng shapeCasts_S1x512_S1x512 : FVec F S1x512 .f32) broadcasts_S1x512_S1024x512)
  let y := addf n (broadcastTo S1024x512 (shapeCast S1x512 I.lnb shapeCasts_S1x512_S1x512 : FVec F S1x512 .f32) broadcasts_S1x512_S1024x512)
  shapeCast S1024x512 (truncf .bf16 (silu y) bitsLt_bf16_f32 : FVec F S1024x512 .bf16) shapeCasts_S1024x512_S1024x512

/-- The narrow convolution's lane groups side by side. -/
def catQ (a : Fin 8 → FVec F S1024x128 .f32) : FVec F S1024x1024 .f32 :=
  concatenate S1024x1024 1 [⟨S1024x128, a 0⟩, ⟨S1024x128, a 1⟩, ⟨S1024x128, a 2⟩, ⟨S1024x128, a 3⟩, ⟨S1024x128, a 4⟩,
    ⟨S1024x128, a 5⟩, ⟨S1024x128, a 6⟩, ⟨S1024x128, a 7⟩]
    concatenates_S1024x128_S1024x128_S1024x128_S1024x128_S1024x128_S1024x128_S1024x128_S1024x128_S1024x1024_d1

/-- The convolved query and key rows through the logistic unit. -/
def qkRows : FVec F S1024x1024 .f32 := silu (catQ (convQ I R))

/-- The queries. -/
def qRows : FVec F S1024x512 .bf16 := truncf .bf16 (extractStridedSlice S1024x512 ![0, 0] (qkRows I R) slices_S1024x1024_o0_0_S1024x512) bitsLt_bf16_f32
/-- The scaled keys. -/
def kRows : FVec F S1024x512 .f32 := mulf (extractStridedSlice S1024x512 ![0, 512] (qkRows I R) slices_S1024x1024_o0_512_S1024x512)
  (broadcast S1024x512 (Scalar.ofBits .f32 0x3DB504F3#32 : F .f32))
/-- The values. -/
def vRows : FVec F S1024x512 .bf16 := k0_pay118 (zrow I)
/-- The output gate. -/
def oRows : FVec F S1024x512 .f32 := k0_pay119 (zrow I)
/-- The gates' rows. -/
def gRows : FVec F S1024x128 .f32 := k0_pay10 I.h I.gpre I.wgate
/-- The input gates, a row per head. -/
def li : FVec F S8x1024 .f32 := k0_pay124 (k0_pay120 (gRows I) I.gb) (k0_pay121 (gRows I) I.gb) (k0_pay122 (gRows I) I.gb)
/-- The logarithms of the forget gates, a row per head. -/
def lf : FVec F S8x1024 .f32 := k0_pay125 (k0_pay120 (gRows I) I.gb) (k0_pay121 (gRows I) I.gb) (k0_pay122 (gRows I) I.gb)

/-- A chunk's columns of the gates. -/
def gcol (x : FVec F S8x1024 .f32) (c : Fin 8) : FVec F S8x128 .f32 :=
  extractStridedSlice S8x128 ![0, 128 * c.val] x (slices2 (by decide) (by omega))

/-- The lane numbers. -/
def lane : IVec S8x128 32 := iota .tc S8x128 32 [1] iota_S8x128_d1_w32

/-- One doubling step of the running sum along the lanes. -/
def dbl (k : BitVec 32) (x : FVec F S8x128 .f32) : FVec F S8x128 .f32 :=
  addf x (select (cmpi .sge lane (broadcast S8x128 k)) (dynamicRotate 1 k none x rotates_S8x128_d1)
    (broadcast S8x128 (Scalar.ofBits .f32 0x00000000#32 : F .f32)))

/-- The running sum along the lanes. -/
def cum (x : FVec F S8x128 .f32) : FVec F S8x128 .f32 :=
  dbl 64#32 (dbl 32#32 (dbl 16#32 (dbl 8#32 (dbl 4#32 (dbl 2#32 (dbl 1#32 x))))))

/-- The chunk's whole decay. -/
def bend (f : FVec F S8x128 .f32) : FVec F S8x1 .f32 :=
  shapeCast S8x1 (multiReduction .add [1] S8 f 0x00000000#32 reduces_S8x128_S8 (.inl rfl) rfl) shapeCasts_S8_S8x1

/-- The weight, as a logarithm, of each token in the state after the chunk. -/
def gvec (i f : FVec F S8x128 .f32) : FVec F S8x128 .f32 :=
  addf (subf (broadcastTo S8x128 (bend f) broadcasts_S8x1_S8x128) (cum f)) i

/-- The stabilizer after the chunk. -/
def mnew (i f : FVec F S8x128 .f32) (m : Vec F S8x1 .f32) : FVec F S8x1 .f32 :=
  maximumf (addf (bend f) m) (shapeCast S8x1 (multiReduction .maximumf [1] S8 (gvec i f) 0xFF800000#32 reduces_S8x128_S8 (.inl rfl) rfl)
    shapeCasts_S8_S8x1)

/-- The old state's factor. -/
def decay (i f : FVec F S8x128 .f32) (m : Vec F S8x1 .f32) : FVec F S8x1 .f32 := exp (subf (addf (bend f) m) (mnew i f m))

/-- The tokens' factors in the new state. -/
def wtok (i f : FVec F S8x128 .f32) (m : Vec F S8x1 .f32) : FVec F S8x128 .f32 :=
  exp (subf (gvec i f) (broadcastTo S8x128 (mnew i f m) broadcasts_S8x1_S8x128))

/-- The stabilizer's buffer after `n` chunks. -/
def piecesM : (n : ℕ) → n ≤ 8 → Pcs F S8x128
  | 0, _ => R.baseM
  | n + 1, h =>
    ⟨Rect.unit ![0, 0] S8x128.size inb_S8x128_S8x128_0_0,
      (shapeCast S8x128 (broadcastTo S8x128 (shapeCast S8x1 (mnew (gcol (li I) ⟨n, h⟩) (gcol (lf I) ⟨n, h⟩)
        (R.ms n (piecesM n (Nat.le_of_succ_le h)))) shapeCasts_S8x1_S8x1 : FVec F S8x1 .f32) broadcasts_S8x1_S8x128 :
        FVec F S8x128 .f32) shapeCasts_S8x128_S8x128 : FVec F S8x128 .f32)⟩ :: piecesM n (Nat.le_of_succ_le h)

/-- The stabilizer before a chunk. -/
def mOld (c : Fin 8) : Vec F S8x1 .f32 := R.ms c.val (piecesM I R c.val c.isLt.le)

/-- A chunk's rows and a head's columns. -/
def blk {e : FTy} (x : FVec F S1024x512 e) (c : Fin 8) (a : Fin 4) : FVec F S128x128 e :=
  extractStridedSlice S128x128 ![128 * c.val, 128 * a.val] x (slices2 (by omega) (by omega))

/-- The causal mask of a chunk. -/
def causal : IVec S128x128 1 := k0_pay126

/-- A head's row of the gates. -/
def grow (x : FVec F S8x128 .f32) (a : Fin 4) : FVec F S1x128 .f32 :=
  extractStridedSlice S1x128 ![a.val, 0] x (slices2 (by omega) (by decide))

/-- The decay up to each token of the chunk, down the rows. -/
def bcol (f : FVec F S8x128 .f32) (a : Fin 4) : FVec F S128x1 .f32 :=
  shapeCast S128x1 (multiReduction .add [1] S128 (select causal (broadcastTo S128x128 (shapeCast S1x128 (grow f a) shapeCasts_S1x128_S1x128 :
    FVec F S1x128 .f32) broadcasts_S1x128_S128x128) (broadcast S128x128 (Scalar.ofBits .f32 0x00000000#32 : F .f32)))
    0x00000000#32 reduces_S128x128_S128 (.inl rfl) rfl) shapeCasts_S128_S128x1

/-- The logarithms of the weights within the chunk. -/
def dmat (i f : FVec F S8x128 .f32) (a : Fin 4) : FVec F S128x128 .f32 :=
  select causal (addf (subf (broadcastTo S128x128 (bcol f a) broadcasts_S128x1_S128x128)
      (broadcastTo S128x128 (grow (cum f) a) broadcasts_S1x128_S128x128)) (broadcastTo S128x128 (grow i a) broadcasts_S1x128_S128x128))
    (broadcast S128x128 (Scalar.ofBits .f32 0xFF800000#32 : F .f32))

/-- The logarithm of the old state's weight at each token. -/
def inter (f : FVec F S8x128 .f32) (m : Vec F S8x1 .f32) (a : Fin 4) : FVec F S128x1 .f32 :=
  addf (bcol f a) (broadcastTo S128x1 (extractStridedSlice S1x1 ![a.val, 0] m (slices2 (by omega) (by decide)) : FVec F S1x1 .f32)
    broadcasts_S1x1_S128x1)

/-- The stabilizer at each token. -/
def mtok (i f : FVec F S8x128 .f32) (m : Vec F S8x1 .f32) (a : Fin 4) : FVec F S128x1 .f32 :=
  maximumf (inter f m a) (shapeCast S128x1 (multiReduction .maximumf [1] S128 (dmat i f a) 0xFF800000#32 reduces_S128x128_S128 (.inl rfl) rfl)
    shapeCasts_S128_S128x1)

/-- The weighted scores within the chunk. -/
def wmat (q : FVec F S128x128 .bf16) (kt : FVec F S128x128 .f32) (i f : FVec F S8x128 .f32) (m : Vec F S8x1 .f32) (a : Fin 4) :
    FVec F S128x128 .f32 :=
  mulf (exp (subf (dmat i f a) (broadcastTo S128x128 (mtok i f m a) broadcasts_S128x1_S128x128)))
    (matmul dot_S128x128_S128x128_S128x128_1_0_0_1_n_n none q (truncf .bf16 kt bitsLt_bf16_f32) (constant S128x128 .f32 0x00000000#32))

/-- The old state's weight at each token. -/
def aold (i f : FVec F S8x128 .f32) (m : Vec F S8x1 .f32) (a : Fin 4) : FVec F S128x1 .f32 := exp (subf (inter f m a) (mtok i f m a))

/-- The old state under the queries. -/
def qstate (q : FVec F S128x128 .bf16) (ce : Vec F S1x128x256 .f32) : FVec F S128x256 .f32 :=
  matmul dot_S128x128_S128x256_S128x256_1_0_0_1_n_n none q (truncf .bf16 (shapeCast S128x256 ce shapeCasts_S1x128x256_S128x256 :
    FVec F S128x256 .f32) bitsLt_bf16_f32) (constant S128x256 .f32 0x00000000#32)

/-- The numerator. -/
def numer (q : FVec F S128x128 .bf16) (kt : FVec F S128x128 .f32) (v : FVec F S128x128 .bf16) (i f : FVec F S8x128 .f32)
    (m : Vec F S8x1 .f32) (ce : Vec F S1x128x256 .f32) (a : Fin 4) : FVec F S128x128 .f32 :=
  addf (matmul dot_S128x128_S128x128_S128x128_1_0_0_1_n_n none (truncf .bf16 (wmat q kt i f m a) bitsLt_bf16_f32) v
      (constant S128x128 .f32 0x00000000#32))
    (mulf (broadcastTo S128x128 (aold i f m a) broadcasts_S128x1_S128x128)
      (extractStridedSlice S128x128 ![0, 0] (qstate q ce) slices_S128x256_o0_0_S128x128))

/-- The denominator. -/
def denom (q : FVec F S128x128 .bf16) (kt : FVec F S128x128 .f32) (i f : FVec F S8x128 .f32)
    (m : Vec F S8x1 .f32) (ce : Vec F S1x128x256 .f32) (a : Fin 4) : FVec F S128x1 .f32 :=
  maximumf (absf (addf (shapeCast S128x1 (multiReduction .add [1] S128 (wmat q kt i f m a) 0x00000000#32 reduces_S128x128_S128 (.inl rfl) rfl)
      shapeCasts_S128_S128x1) (mulf (aold i f m a) (extractStridedSlice S128x1 ![0, 128] (qstate q ce) slices_S128x256_o0_128_S128x1))))
    (exp (subf (broadcast S128x1 (Scalar.ofBits .f32 0x00000000#32 : F .f32)) (mtok i f m a)))

/-- A head's output rows of a chunk: the quotient, its norm and gain, and the output gate. -/
def mixBlk (o : FVec F S128x128 .f32) (nm : FVec F S128x128 .f32) (dn : FVec F S128x1 .f32) (g : Vec F S1x128 .f32) :
    FVec F S128x128 .bf16 :=
  let h := mulf nm (broadcastTo S128x128 (divf (broadcast S128x1 (Scalar.ofBits .f32 0x3F800000#32 : F .f32)) dn) broadcasts_S128x1_S128x128)
  let y := mulf (mulf h (broadcastTo S128x128 (rsqrt (addf (divf (shapeCast S128x1 (multiReduction .add [1] S128 (mulf h h) 0x00000000#32
      reduces_S128x128_S128 (.inl rfl) rfl) shapeCasts_S128_S128x1 : FVec F S128x1 .f32)
      (broadcast S128x1 (Scalar.ofBits .f32 0x43000000#32 : F .f32))) (broadcast S128x1 (Scalar.ofBits .f32 0x358637BD#32 : F .f32))))
      broadcasts_S128x1_S128x128))
    (broadcastTo S128x128 (shapeCast S1x128 g shapeCasts_S1x128_S1x128 : FVec F S1x128 .f32) broadcasts_S1x128_S128x128)
  shapeCast S128x128 (truncf .bf16 (mulf o y) bitsLt_bf16_f32 : FVec F S128x128 .bf16) shapeCasts_S128x128_S128x128

/-- A head's state after a chunk. -/
def ceNew (kt : FVec F S128x128 .f32) (v : FVec F S128x128 .bf16) (dc : FVec F S8x1 .f32) (w : FVec F S8x128 .f32)
    (ce : Vec F S1x128x256 .f32) (a : Fin 4) : FVec F S1x128x256 .f32 :=
  shapeCast S1x128x256 (addf (mulf (broadcastTo S128x256 (extractStridedSlice S1x1 ![a.val, 0] dc (slices2 (by omega) (by decide)) :
      FVec F S1x1 .f32) broadcasts_S1x1_S128x256) (shapeCast S128x256 ce shapeCasts_S1x128x256_S128x256 : FVec F S128x256 .f32))
    (matmul dot_S128x128_S128x256_S128x256_1_0_0_1_n_n none
      (truncf .bf16 (mulf kt (broadcastTo S128x128 (grow w a) broadcasts_S1x128_S128x128)) bitsLt_bf16_f32)
      (concatenate S128x256 1 [⟨S128x128, v⟩, ⟨S128x128, k0_pay127⟩] concatenates_S128x128_S128x128_S128x256_d1 : FVec F S128x256 .bf16)
      (constant S128x256 .f32 0x00000000#32)) : FVec F S128x256 .f32) shapeCasts_S128x256_S1x128x256

/-- A head's keys of a chunk, transposed. -/
def ktBlk (c : Fin 8) (a : Fin 4) : FVec F S128x128 .f32 := transpose S128x128 [1, 0] (blk (kRows I R) c a) transposes_S128x128_p1_0_S128x128

/-- A head's store into the state's buffer after a chunk. -/
def storeC (c : Fin 8) (a : Fin 4) (L : Pcs F S4x128x256) : Pcs F S4x128x256 :=
  ⟨Rect.unit ![a.val, 0, 0] S1x128x256.size (inb3 a.isLt (by decide) (by decide)),
    ceNew (ktBlk I R c a) (blk (vRows I) c a) (decay (gcol (li I) c) (gcol (lf I) c) (mOld I R c))
      (wtok (gcol (li I) c) (gcol (lf I) c) (mOld I R c)) (R.ce c.val L a) a⟩ :: L

/-- The state's buffer within a chunk, after the first `a` heads. -/
def headsC (c : Fin 8) (L : Pcs F S4x128x256) : (a : ℕ) → a ≤ 4 → Pcs F S4x128x256
  | 0, _ => L
  | a + 1, h => storeC I R c ⟨a, h⟩ (headsC c L a (Nat.le_of_succ_le h))

/-- The state's buffer after `n` chunks. -/
def piecesC : (n : ℕ) → n ≤ 8 → Pcs F S4x128x256
  | 0, _ => R.baseC
  | n + 1, h => headsC I R ⟨n, h⟩ (piecesC n (Nat.le_of_succ_le h)) 4 (Nat.le_refl _)

/-- A head's state before a chunk. -/
def ceOld (c : Fin 8) (a : Fin 4) : Vec F S1x128x256 .f32 :=
  R.ce c.val (headsC I R c (piecesC I R c.val c.isLt.le) a.val a.isLt.le) a

/-- A head's output rows of a chunk. -/
def mixOut (c : Fin 8) (a : Fin 4) : FVec F S128x128 .bf16 :=
  mixBlk (blk (oRows I) c a)
    (numer (blk (qRows I R) c a) (ktBlk I R c a) (blk (vRows I) c a) (gcol (li I) c) (gcol (lf I) c) (mOld I R c) (ceOld I R c a) a)
    (denom (blk (qRows I R) c a) (ktBlk I R c a) (gcol (li I) c) (gcol (lf I) c) (mOld I R c) (ceOld I R c a) a) (I.gn a)

/-- A head's store into the merged rows. -/
def storeX (c : Fin 8) (a : Fin 4) : View.Piece (Elt F) S1024x1024 .bf16 :=
  ⟨Rect.unit ![128 * c.val, 512 + 128 * a.val] S128x128.size (inb2 (by omega) (by omega)),
    mixOut I R c a⟩

/-- The merged rows' pieces within a chunk, after the first `a` heads. -/
def headsX (c : Fin 8) (L : List (View.Piece (Elt F) S1024x1024 .bf16)) : (a : ℕ) → a ≤ 4 → List (View.Piece (Elt F) S1024x1024 .bf16)
  | 0, _ => L
  | a + 1, h => storeX I R c ⟨a, h⟩ :: headsX c L a (Nat.le_of_succ_le h)

/-- The merged rows' pieces after `n` chunks. -/
def piecesX : (n : ℕ) → n ≤ 8 → List (View.Piece (Elt F) S1024x1024 .bf16)
  | 0, _ => [⟨Rect.unit ![0, 0] S1024x512.size inb_S1024x1024_S1024x512_0_0, convRows I R⟩]
  | n + 1, h => headsX I R ⟨n, h⟩ (piecesX n (Nat.le_of_succ_le h)) 4 (Nat.le_refl _)

/-- The body's result block, given the merged rows read back. -/
def outBlk (x : Vec F S1024x1024 .bf16) : FVec F S1x1024x1024 .f32 := k0_pay2 (k0_pay7 I.h) x I.wout I.gpost

end Cert.MixerIdeal.Stage
-- ==== Proof.MixerReal.lean ====
/- The recurrence in real numbers: the stabilizer, the state and the read-out after any number of tokens, and how a chunk of
   tokens carries each of them on. -/
module

public import proofs.«01_k».proof.Proof.Finite
public import Idealize.ShloMosaic.Lib.Pipeline.ValueKit

@[expose] public section

noncomputable section

open Idealize.ShloMosaic Finset

namespace Cert.MixerReal

variable (lf li : ℕ → ℝ)

/-- The logarithm of the decay over the first `n` tokens. -/
def B (n : ℕ) : ℝ := ∑ s ∈ range n, lf s

/-- The stabilizer after `n` tokens. -/
def M : ℕ → ℝ
  | 0 => 0
  | n + 1 => max (M n + lf n) (li n)

/-- One more token's decay. -/
theorem B_succ (n : ℕ) : B lf (n + 1) = B lf n + lf n := sum_range_succ _ _

/-- A chunk's decay is the sum over the chunk. -/
theorem B_add (T n : ℕ) : B lf (T + n) = B lf T + ∑ s ∈ range n, lf (T + s) := sum_range_add _ _ _

/-- What bounds the stabilizer after a chunk. -/
theorem M_le_iff (T L : ℕ) (x : ℝ) : M lf li (T + L) ≤ x ↔
    M lf li T + (B lf (T + L) - B lf T) ≤ x ∧ ∀ s < L, B lf (T + L) - B lf (T + s + 1) + li (T + s) ≤ x := by
  induction L generalizing x with
  | zero => simp
  | succ L ih =>
    have e : M lf li (T + (L + 1)) = max (M lf li (T + L) + lf (T + L)) (li (T + L)) := rfl
    have eb : B lf (T + (L + 1)) = B lf (T + L) + lf (T + L) := B_succ lf (T + L)
    rw [e, max_le_iff, ← le_sub_iff_add_le, ih, eb]
    constructor
    · rintro ⟨⟨h1, h2⟩, h3⟩
      refine ⟨by linarith, fun s hs => ?_⟩
      rcases Nat.lt_succ_iff_lt_or_eq.1 hs with h | rfl
      · have := h2 s h; linarith
      · rw [B_succ]; linarith
    · rintro ⟨h1, h2⟩
      refine ⟨⟨by linarith, fun s hs => ?_⟩, ?_⟩
      · have := h2 s (by omega); linarith
      · have := h2 L (by omega); rw [B_succ] at this; linarith

/-- The stabilizer after a chunk as the kernel and the reference form it: a maximum over tokens, minus infinity past the
    chunk. -/
theorem M_fold {n : ℕ} (g : Fin n → EReal) (T L : ℕ) (hL : L ≤ n)
    (h1 : ∀ s : Fin n, s.val < L → g s = ((B lf (T + L) - B lf (T + s.val + 1) + li (T + s.val) : ℝ) : EReal))
    (h2 : ∀ s : Fin n, L ≤ s.val → g s = ⊥) :
    max ((M lf li T + (B lf (T + L) - B lf T) : ℝ) : EReal) (Finset.fold max ⊥ g univ) = (M lf li (T + L) : EReal) := by
  refine eq_of_forall_ge_iff fun c => ?_
  rw [max_le_iff, Finset.fold_max_le]
  induction c with
  | bot =>
    simp only [le_bot_iff]
    exact ⟨fun h => absurd h.1 (EReal.coe_ne_bot _), fun h => absurd h (EReal.coe_ne_bot _)⟩
  | top => simp
  | coe x =>
    rw [EReal.coe_le_coe_iff, EReal.coe_le_coe_iff, M_le_iff]
    refine and_congr_right fun _ => ⟨fun h s hs => ?_, fun h => ⟨bot_le, fun s _ => ?_⟩⟩
    · have := h.2 ⟨s, by omega⟩ (mem_univ _)
      rw [h1 _ hs] at this; exact_mod_cast this
    · by_cases hs : s.val < L
      · rw [h1 s hs]; exact_mod_cast h s.val hs
      · rw [h2 s (by omega)]; exact bot_le

variable (k : ℕ → Fin 128 → ℝ) (v : ℕ → ℝ)

/-- A token's weight in the state after `T` tokens. -/
def w (T s : ℕ) : ℝ := Real.exp (B lf T - B lf (s + 1) + li s - M lf li T)

/-- The factor on the state over a chunk. -/
def dec (T L : ℕ) : ℝ := Real.exp (M lf li T + (B lf (T + L) - B lf T) - M lf li (T + L))

/-- A chunk scales the earlier tokens' weights alike. -/
theorem w_add (T L s : ℕ) : w lf li (T + L) s = dec lf li T L * w lf li T s := by
  rw [w, dec, w, ← Real.exp_add]; congr 1; ring

/-- The state after `T` tokens, at a key column, for one column of values. -/
def C (T : ℕ) (d : Fin 128) : ℝ := ∑ s ∈ range T, w lf li T s * (k s d * v s)

/-- The read-out after `T` tokens under a query, for one column of values. -/
def N (T : ℕ) (q : Fin 128 → ℝ) : ℝ := ∑ s ∈ range T, w lf li T s * (∑ d, q d * k s d) * v s

/-- The state after a chunk. -/
theorem C_add (T L : ℕ) (d : Fin 128) : C lf li k v (T + L) d
    = dec lf li T L * C lf li k v T d + ∑ s ∈ range L, w lf li (T + L) (T + s) * (k (T + s) d * v (T + s)) := by
  rw [C, sum_range_add, C, mul_sum]
  congr 1
  exact sum_congr rfl fun s _ => by rw [w_add]; ring

/-- The read-out after part of a chunk. -/
theorem N_add (T L : ℕ) (q : Fin 128 → ℝ) : N lf li k v (T + L) q
    = (∑ s ∈ range L, w lf li (T + L) (T + s) * (∑ d, q d * k (T + s) d) * v (T + s))
      + dec lf li T L * ∑ d, q d * C lf li k v T d := by
  rw [N, sum_range_add, add_comm]
  congr 1
  have e : ∑ d, q d * C lf li k v T d = ∑ s ∈ range T, w lf li T s * (∑ d, q d * k s d) * v s := by
    simp only [C, mul_sum, sum_mul]
    rw [sum_comm]
    exact sum_congr rfl fun s _ => sum_congr rfl fun d _ => by ring
  rw [e, mul_sum]
  exact sum_congr rfl fun s _ => by rw [w_add]; ring

/-- A sum over the first tokens as a sum over all, zero past them. -/
theorem sum_ite {n L : ℕ} (hL : L ≤ n) (f : ℕ → ℝ) :
    ∑ s ∈ range L, f s = ∑ s : Fin n, if s.val < L then f s.val else 0 := by
  rw [Fin.sum_univ_eq_sum_range (fun s => if s < L then f s else 0) n, ← sum_filter]
  refine sum_congr (Finset.ext fun s => ?_) fun _ _ => rfl
  simp only [mem_range, mem_filter]; omega

/-- The same over exact reals: terms that are zero past the first tokens. -/
theorem sum_masked {n L : ℕ} (hL : L ≤ n) (f : ℕ → ℝ) (g : Fin n → EReal) (h1 : ∀ s : Fin n, s.val < L → g s = (f s.val : EReal))
    (h2 : ∀ s : Fin n, L ≤ s.val → g s = 0) : ∑ s, g s = ((∑ s ∈ range L, f s : ℝ) : EReal) := by
  rw [sum_ite hL, ← Cert.Finite.coe_sum]
  refine sum_congr rfl fun s _ => ?_
  by_cases hs : s.val < L
  · rw [h1 s hs, if_pos hs]
  · rw [h2 s (by omega), if_neg hs, EReal.coe_zero]

end Cert.MixerReal
-- ==== Proof.MixerChunk.lean ====
/- One chunk of the recurrence, as the kernel forms it at the exact reals: from the state after `T` tokens to the state after
   `T + 128`, and the read-out at each token between. -/
module

public import proofs.«01_k».proof.Proof.MixerStage
public import proofs.«01_k».proof.Proof.MixerReal
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.MixerIdeal.Stage

open Cert.MixerIdeal Cert.MixerIdeal.Gen
open Cert.MixerReal (B M C N w dec)

/-- The signed value of a small word. -/
theorem toInt_small {n : ℕ} (h : n < 2 ^ 31) : (BitVec.ofNat 32 n).toInt = (n : ℤ) := by
  rw [BitVec.toInt_eq_toNat_of_lt] <;> simp [BitVec.toNat_ofNat] <;> omega

/-- A choice on one small word being at most another. -/
theorem sel_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_eq, toInt_small ha, toInt_small hb, Scalar.select]
  by_cases h : a ≤ b <;> simp [h]

/-- A choice on one small word being at least another. -/
theorem sel_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_eq, toInt_small ha, toInt_small hb, Scalar.select]
  by_cases h : b ≤ a <;> simp [h]

/-- The sum over the last `n` lanes up to lane `t`. -/
def win (F : ℕ → EReal) (n t : ℕ) : EReal := ∑ j ∈ Finset.range n, if j ≤ t then F (t - j) else 0

/-- One doubling step doubles the window. -/
theorem dbl_at (F : ℕ → EReal) (x : FVec Ideal S8x128 .f32) (a : Fin 8) (n : ℕ) (hn : n ≤ 64)
    (h : ∀ t : Fin 128, x (ix2 a t) = win F n t.val) (t : Fin 128) :
    dbl (BitVec.ofNat 32 n) x (ix2 a t) = win F (n + n) t.val := by
  pointwise [dbl, lane]
  rw [sel_ge (by omega) (by omega), h t, win, win, Finset.sum_range_add]
  congr 1
  by_cases hnt : n ≤ t.val
  · have e : (BitVec.ofNat 32 n).toNat = n := by rw [BitVec.toNat_ofNat]; exact Nat.mod_eq_of_lt (by omega)
    rw [if_pos hnt]
    have e2 : (⟨(t.val + 128 - (BitVec.ofNat 32 n).toNat % 128) % 128, Nat.mod_lt _ (by norm_num)⟩ : Fin 128)
        = ⟨t.val - n, by omega⟩ := Fin.ext (by show (t.val + 128 - (BitVec.ofNat 32 n).toNat % 128) % 128 = t.val - n; rw [e]; omega)
    refine (congrArg (fun u => x (ix2 a u)) e2).trans ?_
    rw [h, win]
    refine Finset.sum_congr rfl fun j _ => ?_
    by_cases hj : j ≤ t.val - n
    · rw [if_pos (show j ≤ (⟨t.val - n, by omega⟩ : Fin 128).val from hj), if_pos (by omega)]
      exact congrArg F (show t.val - n - j = t.val - (n + j) by omega)
    · rw [if_neg (show ¬ j ≤ (⟨t.val - n, by omega⟩ : Fin 128).val from hj), if_neg (by omega)]
  · rw [if_neg hnt]
    exact (Finset.sum_eq_zero fun j _ => if_neg (by omega)).symm

/-- The running sum along the lanes. -/
theorem cum_at (F : ℕ → EReal) (x : FVec Ideal S8x128 .f32) (a : Fin 8) (h : ∀ t : Fin 128, x (ix2 a t) = F t.val) (t : Fin 128) :
    cum x (ix2 a t) = ∑ s ∈ Finset.range (t.val + 1), F s := by
  have h1 : ∀ t : Fin 128, x (ix2 a t) = win F 1 t.val := fun t => by rw [h, win]; simp
  have h2 := dbl_at F x a 1 (by norm_num) h1
  have h3 := dbl_at F _ a 2 (by norm_num) h2
  have h4 := dbl_at F _ a 4 (by norm_num) h3
  have h5 := dbl_at F _ a 8 (by norm_num) h4
  have h6 := dbl_at F _ a 16 (by norm_num) h5
  have h7 := dbl_at F _ a 32 (by norm_num) h6
  have h8 := dbl_at F _ a 64 (by norm_num) h7
  refine (h8 t).trans ?_
  rw [win, ← Finset.sum_range_reflect F (t.val + 1), ← Finset.sum_filter]
  refine Finset.sum_congr (Finset.ext fun s => ?_) fun s hs => ?_
  · simp only [Finset.mem_range, Finset.mem_filter]; omega
  · simp only [Finset.mem_range] at hs; congr 1

variable (lf li : ℕ → ℝ) (k : ℕ → Fin 128 → ℝ) (V : Fin 256 → ℕ → ℝ) (T : ℕ) (Q : Fin 128 → ℝ)
  (i f : FVec Ideal S8x128 .f32) (m : Vec Ideal S8x1 .f32) (ce : Vec Ideal S1x128x256 .f32)
  (q : FVec Ideal S128x128 .bf16) (kt : FVec Ideal S128x128 .f32) (v : FVec Ideal S128x128 .bf16) (a : Fin 4) (r : Fin 128)

/-- A head's row among the eight rows of the gates. -/
abbrev row8 (a : Fin 4) : Fin 8 := ⟨a.val, by omega⟩

/-- The exponential of a real. -/
theorem exp_coe (x : ℝ) : Ideal.exp (x : EReal) = (Real.exp x : EReal) := rfl

/-- The running sum of the decays. -/
theorem cum_real (hf : ∀ s, f (ix2 (row8 a) s) = (lf (T + s.val) : EReal)) (t : Fin 128) :
    cum f (ix2 (row8 a) t) = ((B lf (T + t.val + 1) - B lf T : ℝ) : EReal) := by
  rw [cum_at (fun s => (lf (T + s) : EReal)) f (row8 a) hf t, Cert.Finite.coe_sum]
  congr 1
  rw [Nat.add_assoc, Cert.MixerReal.B_add]; ring

/-- The chunk's whole decay. -/
theorem bend_real (hf : ∀ s, f (ix2 (row8 a) s) = (lf (T + s.val) : EReal)) :
    bend f (ix2 (row8 a) 0) = ((B lf (T + 128) - B lf T : ℝ) : EReal) := by
  pointwise [bend]
  simp only [hf, Cert.Finite.coe_sum]
  rw [Cert.MixerReal.B_add, ← Fin.sum_univ_eq_sum_range (fun s => lf (T + s)) 128]
  congr 1; ring

/-- The weights of the tokens in the state after the chunk. -/
theorem gvec_real (hf : ∀ s, f (ix2 (row8 a) s) = (lf (T + s.val) : EReal)) (hi : ∀ s, i (ix2 (row8 a) s) = (li (T + s.val) : EReal))
    (s : Fin 128) : gvec i f (ix2 (row8 a) s) = ((B lf (T + 128) - B lf (T + s.val + 1) + li (T + s.val) : ℝ) : EReal) := by
  have e : gvec i f (ix2 (row8 a) s) = bend f (ix2 (row8 a) 0) - cum f (ix2 (row8 a) s) + i (ix2 (row8 a) s) := by pointwise [gvec]
  rw [e, bend_real lf T f a hf, cum_real lf T f a hf, hi, ← EReal.coe_sub, ← EReal.coe_add]
  congr 1; ring

/-- The stabilizer after the chunk. -/
theorem mnew_real (hf : ∀ s, f (ix2 (row8 a) s) = (lf (T + s.val) : EReal)) (hi : ∀ s, i (ix2 (row8 a) s) = (li (T + s.val) : EReal))
    (hm : m (ix2 (row8 a) 0) = (M lf li T : EReal)) : mnew i f m (ix2 (row8 a) 0) = (M lf li (T + 128) : EReal) := by
  have e : mnew i f m (ix2 (row8 a) 0) = max (bend f (ix2 (row8 a) 0) + m (ix2 (row8 a) 0))
      (Finset.fold max (Ideal.ofBits FTy.f32 4286578688#32) (fun x => gvec i f (ix2 (row8 a) x)) Finset.univ) := by pointwise [mnew]
  rw [e, bend_real lf T f a hf, hm, Cert.Finite.ofBits_neg_inf, ← EReal.coe_add, add_comm (_ - _ : ℝ)]
  exact Cert.MixerReal.M_fold lf li _ T 128 le_rfl (fun s _ => gvec_real lf li T i f a hf hi s) fun s hs => absurd s.isLt (by omega)

/-- The old state's factor. -/
theorem decay_real (hf : ∀ s, f (ix2 (row8 a) s) = (lf (T + s.val) : EReal)) (hi : ∀ s, i (ix2 (row8 a) s) = (li (T + s.val) : EReal))
    (hm : m (ix2 (row8 a) 0) = (M lf li T : EReal)) : decay i f m (ix2 (row8 a) 0) = (dec lf li T 128 : EReal) := by
  have e : decay i f m (ix2 (row8 a) 0) = Ideal.exp (bend f (ix2 (row8 a) 0) + m (ix2 (row8 a) 0) - mnew i f m (ix2 (row8 a) 0)) := by
    pointwise [decay]
  rw [e, bend_real lf T f a hf, mnew_real lf li T i f m a hf hi hm, hm, ← EReal.coe_add, ← EReal.coe_sub, exp_coe, dec]
  congr 2; ring

/-- The tokens' factors in the state after the chunk. -/
theorem wtok_real (hf : ∀ s, f (ix2 (row8 a) s) = (lf (T + s.val) : EReal)) (hi : ∀ s, i (ix2 (row8 a) s) = (li (T + s.val) : EReal))
    (hm : m (ix2 (row8 a) 0) = (M lf li T : EReal)) (s : Fin 128) :
    wtok i f m (ix2 (row8 a) s) = (w lf li (T + 128) (T + s.val) : EReal) := by
  have e : wtok i f m (ix2 (row8 a) s) = Ideal.exp (gvec i f (ix2 (row8 a) s) - mnew i f m (ix2 (row8 a) 0)) := by
    pointwise [wtok]
  rw [e, gvec_real lf li T i f a hf hi, mnew_real lf li T i f m a hf hi hm, ← EReal.coe_sub, exp_coe, w]

/-- The state after the chunk. -/
theorem ceNew_real (hf : ∀ s, f (ix2 (row8 a) s) = (lf (T + s.val) : EReal)) (hi : ∀ s, i (ix2 (row8 a) s) = (li (T + s.val) : EReal))
    (hm : m (ix2 (row8 a) 0) = (M lf li T : EReal)) (hk : ∀ d s, kt (ix2 d s) = (k (T + s.val) d : EReal))
    (hv : ∀ s (e : Fin 128), v (ix2 s e) = (V ⟨e.val, by omega⟩ (T + s.val) : EReal)) (hV1 : ∀ s, V 128 s = 1)
    (hV0 : ∀ e : Fin 256, 128 < e.val → ∀ s, V e s = 0)
    (hc : ∀ d e, ce (ix3 0 d e) = (C lf li k (V e) T d : EReal)) (d : Fin 128) (e : Fin 256) :
    ceNew kt v (decay i f m) (wtok i f m) ce a (ix3 0 d e) = (C lf li k (V e) (T + 128) d : EReal) := by
  have h1 : ceNew kt v (decay i f m) (wtok i f m) ce a (ix3 0 d e) = decay i f m (ix2 (row8 a) 0) * ce (ix3 0 d e)
      + ∑ x, kt (ix2 d x) * wtok i f m (ix2 (row8 a) x) * (if h : e.val < 128 then v (ix2 x ⟨e.val, h⟩)
          else FloatOps.sitofp (F := Ideal) FTy.f32 (BitVec.setWidth 32 (IntOp.cmpi CmpIPredicate.eq (BitVec.ofNat 32 (e.val - 128)) 0#32))) := by
    pointwise [ceNew, grow, k0_pay127]
  have h2 : ∀ x : Fin 128, (if h : e.val < 128 then v (ix2 x ⟨e.val, h⟩)
      else FloatOps.sitofp (F := Ideal) FTy.f32 (BitVec.setWidth 32 (IntOp.cmpi CmpIPredicate.eq (BitVec.ofNat 32 (e.val - 128)) 0#32)))
        = (V e (T + x.val) : EReal) := fun x => by
    by_cases he : e.val < 128
    · rw [dif_pos he, hv]
    · rw [dif_neg he, WordCmp.cmpi_eq_eq]
      by_cases h0 : e.val = 128
      · have : e = 128 := Fin.ext h0
        subst this
        rw [hV1]
        have e1 : (BitVec.setWidth 32 (BitVec.ofBool (decide (BitVec.ofNat 32 0 = 0#32)))).toInt = 1 := by decide
        show ((((BitVec.setWidth 32 (BitVec.ofBool (decide (BitVec.ofNat 32 0 = 0#32)))).toInt : ℝ) : ℝ) : EReal) = _
        rw [e1, Int.cast_one]
      · rw [hV0 e (by omega)]
        have : ¬ BitVec.ofNat 32 (e.val - 128) = 0#32 := fun h => by
          have := congrArg BitVec.toNat h
          rw [BitVec.toNat_ofNat, Nat.mod_eq_of_lt (by omega)] at this
          simp at this; omega
        rw [decide_eq_false this]
        show ((((BitVec.setWidth 32 (BitVec.ofBool false)).toInt : ℝ) : ℝ) : EReal) = _
        norm_num
  rw [h1, decay_real lf li T i f m a hf hi hm, hc, ← EReal.coe_mul, Cert.MixerReal.C_add, EReal.coe_add]
  congr 1
  rw [← Fin.sum_univ_eq_sum_range (fun s => w lf li (T + 128) (T + s) * (k (T + s) d * V e (T + s))) 128, ← Cert.Finite.coe_sum]
  refine Finset.sum_congr rfl fun x _ => ?_
  rw [h2, hk, wtok_real lf li T i f m a hf hi hm, ← EReal.coe_mul, ← EReal.coe_mul]
  congr 1; ring

/-- The decay up to a token of the chunk. -/
theorem bcol_real (hf : ∀ s, f (ix2 (row8 a) s) = (lf (T + s.val) : EReal)) :
    bcol f a (ix2 r 0) = ((B lf (T + (r.val + 1)) - B lf T : ℝ) : EReal) := by
  pointwise [bcol, grow, causal, k0_pay126]
  rw [Cert.MixerReal.B_add, add_sub_cancel_left]
  refine Cert.MixerReal.sum_masked (by omega) (fun s => lf (T + s)) _ (fun s hs => ?_) fun s hs => ?_
  · rw [sel_le (by omega) (by omega), if_pos (by omega)]; exact hf s
  · rw [sel_le (by omega) (by omega), if_neg (by omega)]

/-- The logarithms of the weights within the chunk. -/
theorem dmat_real (hf : ∀ s, f (ix2 (row8 a) s) = (lf (T + s.val) : EReal)) (hi : ∀ s, i (ix2 (row8 a) s) = (li (T + s.val) : EReal))
    (s : Fin 128) : dmat i f a (ix2 r s) = if s.val < r.val + 1
      then ((B lf (T + (r.val + 1)) - B lf (T + s.val + 1) + li (T + s.val) : ℝ) : EReal) else ⊥ := by
  have e : dmat i f a (ix2 r s) = Scalar.select (IntOp.cmpi .sle (BitVec.ofNat 32 s.val) (BitVec.ofNat 32 r.val))
      (bcol f a (ix2 r 0) - cum f (ix2 (row8 a) s) + i (ix2 (row8 a) s)) (Ideal.ofBits FTy.f32 4286578688#32) := by
    pointwise [dmat, grow, causal, k0_pay126]
  rw [e, sel_le (by omega) (by omega), bcol_real lf T f a r hf, cum_real lf T f a hf, hi, ← EReal.coe_sub, ← EReal.coe_add,
    Cert.Finite.ofBits_neg_inf]
  by_cases h : s.val ≤ r.val
  · rw [if_pos h, if_pos (by omega)]; congr 1; ring
  · rw [if_neg h, if_neg (by omega)]

/-- The logarithm of the old state's weight at a token. -/
theorem inter_real (hf : ∀ s, f (ix2 (row8 a) s) = (lf (T + s.val) : EReal)) (hm : m (ix2 (row8 a) 0) = (M lf li T : EReal)) :
    inter f m a (ix2 r 0) = ((M lf li T + (B lf (T + (r.val + 1)) - B lf T) : ℝ) : EReal) := by
  have e : inter f m a (ix2 r 0) = bcol f a (ix2 r 0) + m (ix2 (row8 a) 0) := by pointwise [inter]
  rw [e, bcol_real lf T f a r hf, hm, ← EReal.coe_add, add_comm (_ - _ : ℝ)]

/-- The stabilizer at a token. -/
theorem mtok_real (hf : ∀ s, f (ix2 (row8 a) s) = (lf (T + s.val) : EReal)) (hi : ∀ s, i (ix2 (row8 a) s) = (li (T + s.val) : EReal))
    (hm : m (ix2 (row8 a) 0) = (M lf li T : EReal)) : mtok i f m a (ix2 r 0) = (M lf li (T + (r.val + 1)) : EReal) := by
  have e : mtok i f m a (ix2 r 0) = max (inter f m a (ix2 r 0))
      (Finset.fold max (Ideal.ofBits FTy.f32 4286578688#32) (fun x => dmat i f a (ix2 r x)) Finset.univ) := by pointwise [mtok]
  rw [e, inter_real lf li T f m a r hf hm, Cert.Finite.ofBits_neg_inf]
  refine Cert.MixerReal.M_fold lf li _ T (r.val + 1) (by omega) (fun s hs => ?_) fun s hs => ?_
  · rw [dmat_real lf li T i f a r hf hi, if_pos hs]
  · rw [dmat_real lf li T i f a r hf hi, if_neg (by omega)]

/-- The weighted scores within the chunk. -/
theorem wmat_real (hf : ∀ s, f (ix2 (row8 a) s) = (lf (T + s.val) : EReal)) (hi : ∀ s, i (ix2 (row8 a) s) = (li (T + s.val) : EReal))
    (hm : m (ix2 (row8 a) 0) = (M lf li T : EReal)) (hq : ∀ d, q (ix2 r d) = (Q d : EReal))
    (hk : ∀ d s, kt (ix2 d s) = (k (T + s.val) d : EReal)) (s : Fin 128) :
    wmat q kt i f m a (ix2 r s) = if s.val < r.val + 1
      then ((w lf li (T + (r.val + 1)) (T + s.val) * ∑ d, Q d * k (T + s.val) d : ℝ) : EReal) else 0 := by
  have e : wmat q kt i f m a (ix2 r s) = Ideal.exp (dmat i f a (ix2 r s) - mtok i f m a (ix2 r 0))
      * ∑ x, q (ix2 r x) * kt (ix2 x s) := by pointwise [wmat]
  have e2 : ∑ x, q (ix2 r x) * kt (ix2 x s) = ((∑ d, Q d * k (T + s.val) d : ℝ) : EReal) := by
    rw [← Cert.Finite.coe_sum]
    exact Finset.sum_congr rfl fun x _ => by rw [hq, hk, EReal.coe_mul]
  rw [e, e2, dmat_real lf li T i f a r hf hi, mtok_real lf li T i f m a r hf hi hm]
  by_cases h : s.val < r.val + 1
  · rw [if_pos h, if_pos h, ← EReal.coe_sub, exp_coe, ← EReal.coe_mul, w]
  · rw [if_neg h, if_neg h, EReal.bot_sub]
    show (0 : EReal) * _ = 0
    rw [zero_mul]

/-- The old state's weight at a token. -/
theorem aold_real (hf : ∀ s, f (ix2 (row8 a) s) = (lf (T + s.val) : EReal)) (hi : ∀ s, i (ix2 (row8 a) s) = (li (T + s.val) : EReal))
    (hm : m (ix2 (row8 a) 0) = (M lf li T : EReal)) : aold i f m a (ix2 r 0) = (dec lf li T (r.val + 1) : EReal) := by
  have e : aold i f m a (ix2 r 0) = Ideal.exp (inter f m a (ix2 r 0) - mtok i f m a (ix2 r 0)) := by pointwise [aold]
  rw [e, inter_real lf li T f m a r hf hm, mtok_real lf li T i f m a r hf hi hm, ← EReal.coe_sub, exp_coe, dec]

/-- The old state under a query. -/
theorem qstate_real (hq : ∀ d, q (ix2 r d) = (Q d : EReal)) (hc : ∀ d e, ce (ix3 0 d e) = (C lf li k (V e) T d : EReal)) (e : Fin 256) :
    qstate q ce (ix2 r e) = ((∑ d, Q d * C lf li k (V e) T d : ℝ) : EReal) := by
  have h : qstate q ce (ix2 r e) = ∑ x, q (ix2 r x) * ce (ix3 0 x e) := by pointwise [qstate]
  rw [h, ← Cert.Finite.coe_sum]
  exact Finset.sum_congr rfl fun x _ => by rw [hq, hc, EReal.coe_mul]

/-- The numerator at a token. -/
theorem numer_real (hf : ∀ s, f (ix2 (row8 a) s) = (lf (T + s.val) : EReal)) (hi : ∀ s, i (ix2 (row8 a) s) = (li (T + s.val) : EReal))
    (hm : m (ix2 (row8 a) 0) = (M lf li T : EReal)) (hq : ∀ d, q (ix2 r d) = (Q d : EReal))
    (hk : ∀ d s, kt (ix2 d s) = (k (T + s.val) d : EReal))
    (hv : ∀ s (e : Fin 128), v (ix2 s e) = (V ⟨e.val, by omega⟩ (T + s.val) : EReal))
    (hc : ∀ d e, ce (ix3 0 d e) = (C lf li k (V e) T d : EReal)) (l : Fin 128) :
    numer q kt v i f m ce a (ix2 r l) = (N lf li k (V ⟨l.val, by omega⟩) (T + (r.val + 1)) Q : EReal) := by
  have e : numer q kt v i f m ce a (ix2 r l) = ∑ x, wmat q kt i f m a (ix2 r x) * v (ix2 x l)
      + aold i f m a (ix2 r 0) * qstate q ce (ix2 r ⟨l.val, by omega⟩) := by pointwise [numer]
  rw [e, aold_real lf li T i f m a r hf hi hm, qstate_real lf li k V T Q ce q r hq hc, Cert.MixerReal.N_add, EReal.coe_add,
    ← EReal.coe_mul]
  congr 1
  refine Cert.MixerReal.sum_masked (by omega)
    (fun s => w lf li (T + (r.val + 1)) (T + s) * (∑ d, Q d * k (T + s) d) * V ⟨l.val, by omega⟩ (T + s)) _ (fun s hs => ?_) fun s hs => ?_
  · rw [wmat_real lf li k T Q i f m q kt a r hf hi hm hq hk, if_pos hs, hv, ← EReal.coe_mul]
  · rw [wmat_real lf li k T Q i f m q kt a r hf hi hm hq hk, if_neg (by omega), zero_mul]

/-- The denominator at a token. -/
theorem denom_real (hf : ∀ s, f (ix2 (row8 a) s) = (lf (T + s.val) : EReal)) (hi : ∀ s, i (ix2 (row8 a) s) = (li (T + s.val) : EReal))
    (hm : m (ix2 (row8 a) 0) = (M lf li T : EReal)) (hq : ∀ d, q (ix2 r d) = (Q d : EReal))
    (hk : ∀ d s, kt (ix2 d s) = (k (T + s.val) d : EReal)) (hV1 : ∀ s, V 128 s = 1)
    (hc : ∀ d e, ce (ix3 0 d e) = (C lf li k (V e) T d : EReal)) :
    denom q kt i f m ce a (ix2 r 0) = ((max |N lf li k (fun _ => 1) (T + (r.val + 1)) Q| (Real.exp (-M lf li (T + (r.val + 1)))) : ℝ) : EReal) := by
  have e : denom q kt i f m ce a (ix2 r 0) = max (FloatOps.absf (F := Ideal) (φ := .f32) (∑ x, wmat q kt i f m a (ix2 r x)
      + aold i f m a (ix2 r 0) * qstate q ce (ix2 r 128))) (Ideal.exp (0 - mtok i f m a (ix2 r 0))) := by pointwise [denom]
  have hV : V 128 = fun _ => 1 := funext hV1
  have e2 : ∑ x, wmat q kt i f m a (ix2 r x) + aold i f m a (ix2 r 0) * qstate q ce (ix2 r 128)
      = (N lf li k (fun _ => 1) (T + (r.val + 1)) Q : EReal) := by
    rw [aold_real lf li T i f m a r hf hi hm, qstate_real lf li k V T Q ce q r hq hc, Cert.MixerReal.N_add, EReal.coe_add,
      ← EReal.coe_mul, hV]
    congr 1
    refine Cert.MixerReal.sum_masked (by omega)
      (fun s => w lf li (T + (r.val + 1)) (T + s) * (∑ d, Q d * k (T + s) d) * 1) _ (fun s hs => ?_) fun s hs => ?_
    · rw [wmat_real lf li k T Q i f m q kt a r hf hi hm hq hk, if_pos hs, mul_one]
    · rw [wmat_real lf li k T Q i f m q kt a r hf hi hm hq hk, if_neg (by omega)]
  rw [e, e2, mtok_real lf li T i f m a r hf hi hm, zero_sub, ← EReal.coe_neg, exp_coe]
  show max (max ((_ : ℝ) : EReal) (-((_ : ℝ) : EReal))) _ = _
  rw [← EReal.coe_neg, abs_eq_max_neg, EReal.coe_strictMono.monotone.map_max, EReal.coe_strictMono.monotone.map_max]

end Cert.MixerIdeal.Stage
-- ==== Proof.MixerBufs.lean ====
/- What the mixer's scratch buffers hold: the taps and halos of the two convolutions, and the merged rows, read out of the
   pieces the stages store. -/
module

public import proofs.«01_k».proof.Proof.MixerStage
public import Idealize.ShloMosaic.Lib.Pipeline.ValueKit
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.MixerIdeal.Stage

open Cert.MixerIdeal Cert.MixerIdeal.Gen

/-- A way to read a buffer passes over a store that does not hold the entry. -/
def Skips {s : Shape} {e : EltTy} (rd : List (View.Piece (Elt Ideal) s e) → s.Idx → Elt Ideal e) : Prop :=
  ∀ (off size : Fin s.rank → ℕ) (inb : ∀ a, off a + size a ≤ s.size a) (w : (Rect.unit off size inb).shape.Idx → Elt Ideal e)
    (L : List (View.Piece (Elt Ideal) s e)) (y : s.Idx) (a : Fin s.rank), ((y a).val < off a ∨ off a + size a ≤ (y a).val) →
    rd (⟨Rect.unit off size inb, w⟩ :: L) y = rd L y

/-- A way to read a buffer finds the last store where it holds the entry. -/
def Finds {s : Shape} {e : EltTy} (rd : List (View.Piece (Elt Ideal) s e) → s.Idx → Elt Ideal e) : Prop :=
  ∀ (off size : Fin s.rank → ℕ) (inb : ∀ a, off a + size a ≤ s.size a) (w : (Rect.unit off size inb).shape.Idx → Elt Ideal e)
    (L : List (View.Piece (Elt Ideal) s e)) (y : s.Idx) (x : (Rect.unit off size inb).shape.Idx), (∀ a, (y a).val = off a + (x a).val) →
    rd (⟨Rect.unit off size inb, w⟩ :: L) y = w x

/-- Reading the stores alone passes over. -/
theorem canon_skips {s : Shape} {e : EltTy} : Skips (s := s) (e := e) (fun L => View.canon L) := fun off size inb w L y a h =>
  View.canon_cons_of_not_mem _ _ (by
    rw [Rect.mem_set_unit]; intro hall; have := hall a; omega)

/-- Reading the stores alone finds. -/
theorem canon_finds {s : Shape} {e : EltTy} : Finds (s := s) (e := e) (fun L => View.canon L) := fun off size inb w L y x h => by
  have hy : (Rect.unit off size inb).emb x = y := funext fun a => Fin.ext (by
    show off a + 1 * (x a).val = (y a).val
    rw [h a, Nat.one_mul])
  exact (congrArg _ hy.symm).trans (View.canon_cons_emb _ w L x)

/-- Reading the stores over some contents passes over. -/
theorem over_skips {s : Shape} {e : EltTy} {sig : RefSig} {κ : Kind} {sp : Space} (v : View sig κ sp s e) (f : v.ty.Contents (Elt Ideal)) :
    Skips (fun L => v.read (Elt Ideal) (v.writes (Elt Ideal) f L)) := fun off size inb w L y a h =>
  View.read_writes_cons_unit_of_not_mem v f inb w L y rfl a h

/-- Reading the stores over some contents finds. -/
theorem over_finds {s : Shape} {e : EltTy} {sig : RefSig} {κ : Kind} {sp : Space} (v : View sig κ sp s e) (f : v.ty.Contents (Elt Ideal)) :
    Finds (fun L => v.read (Elt Ideal) (v.writes (Elt Ideal) f L)) := fun off size inb w L y x h =>
  View.read_writes_cons_unit_of_mem v f inb w L y x rfl h

variable (I : Ins Ideal) (R : Rds Ideal)

/-- What a reading of the wide convolution's buffer finds just after a lane group is stored. -/
theorem storeU_at {rd : Pcs Ideal S4x1056x128 → S4x1056x128.Idx → Elt Ideal .f32} (hs : Skips rd) (hf : Finds rd) (n : Fin 4)
    (L : Pcs Ideal S4x1056x128) (row : Fin 1056) (l : Fin 128) :
    rd (storeU I n L) (ix3 n row l) = if h : 32 ≤ row.val then urow I (ix2 ⟨row.val - 32, by omega⟩ ⟨128 * n.val + l.val, by omega⟩)
      else rd L (ix3 n row l) := by
  by_cases h : 32 ≤ row.val
  · rw [dif_pos h]
    refine (hf _ _ _ _ L (ix3 n row l) (ix3 0 ⟨row.val - 32, by omega⟩ l) fun a => ?_).trans ?_
    · match a with
      | 0 => rfl
      | 1 => show row.val = 32 + (row.val - 32); omega
      | 2 => exact (Nat.zero_add _).symm
    · pointwise []
  · rw [dif_neg h]
    exact hs _ _ _ _ L _ 1 (Or.inl (by show row.val < 32; omega))

/-- A group other than the one stored keeps what it had. -/
theorem storeU_other {rd : Pcs Ideal S4x1056x128 → S4x1056x128.Idx → Elt Ideal .f32} (hs : Skips rd) (n g : Fin 4) (h : g ≠ n)
    (L : Pcs Ideal S4x1056x128) (row : Fin 1056) (l : Fin 128) : rd (storeU I n L) (ix3 g row l) = rd L (ix3 g row l) := by
  have : g.val ≠ n.val := fun e => h (Fin.ext e)
  exact hs _ _ _ _ L _ 0 (by show g.val < n.val ∨ n.val + 1 ≤ g.val; omega)

/-- The wide convolution's buffer after `n` groups: a group not yet stored is as it was. -/
theorem piecesU_later {rd : Pcs Ideal S4x1056x128 → S4x1056x128.Idx → Elt Ideal .f32} (hs : Skips rd) (n : ℕ) (hn : n ≤ 4) (g : Fin 4)
    (hg : n ≤ g.val) (row : Fin 1056) (l : Fin 128) : rd (piecesU I R n hn) (ix3 g row l) = rd R.baseU (ix3 g row l) := by
  induction n with
  | zero => rfl
  | succ n ih =>
    refine (hs _ _ _ _ _ _ 0 (Or.inr hg)).trans ?_
    rw [storeU_other I hs ⟨n, hn⟩ g (fun e => by have := congrArg Fin.val e; simp at this; omega)]
    exact ih _ (by omega)

/-- The wide convolution's buffer after `n` groups: a stored group's halo is its last rows. -/
theorem piecesU_halo (hh : ∀ L n r l, R.haloU L n (ix3 0 r l) = View.canon L (ix3 n ⟨1024 + r.val, by omega⟩ l))
    {rd : Pcs Ideal S4x1056x128 → S4x1056x128.Idx → Elt Ideal .f32} (hs : Skips rd) (hf : Finds rd) (n : ℕ) (hn : n ≤ 4) (g : Fin 4)
    (hg : g.val < n) (r : Fin 32) (l : Fin 128) :
    rd (piecesU I R n hn) (ix3 g ⟨r.val, by omega⟩ l) = urow I (ix2 ⟨992 + r.val, by omega⟩ ⟨128 * g.val + l.val, by omega⟩) := by
  induction n with
  | zero => omega
  | succ n ih =>
    by_cases e : g.val = n
    · subst e
      refine (hf _ _ _ _ _ (ix3 g ⟨r.val, by omega⟩ l) (ix3 0 r l) fun a => ?_).trans ?_
      · match a with
        | 0 => rfl
        | 1 => exact (Nat.zero_add _).symm
        | 2 => exact (Nat.zero_add _).symm
      · pointwise []
        rw [hh]
        refine (storeU_at I canon_skips canon_finds g _ _ l).trans ?_
        rw [dif_pos (show 32 ≤ 1024 + r.val by omega)]
        congr 1; congr 1; exact Fin.ext (by show 1024 + r.val - 32 = 992 + r.val; omega)
    · refine (hs _ _ _ _ _ _ 0 (Or.inl (by show g.val < n; omega))).trans ?_
      rw [storeU_other I hs ⟨n, hn⟩ g (fun h => e (congrArg Fin.val h))]
      exact ih _ (by omega)

/-- What a reading of the narrow convolution's buffer finds just after a lane group is stored. -/
theorem storeQ_at {rd : Pcs Ideal S8x1032x128 → S8x1032x128.Idx → Elt Ideal .f32} (hs : Skips rd) (hf : Finds rd) (n : Fin 8)
    (L : Pcs Ideal S8x1032x128) (row : Fin 1032) (l : Fin 128) :
    rd (storeQ I n L) (ix3 n row l) = if h : 8 ≤ row.val then zqk I (ix2 ⟨row.val - 8, by omega⟩ ⟨128 * n.val + l.val, by omega⟩)
      else rd L (ix3 n row l) := by
  by_cases h : 8 ≤ row.val
  · rw [dif_pos h]
    refine (hf _ _ _ _ L (ix3 n row l) (ix3 0 ⟨row.val - 8, by omega⟩ l) fun a => ?_).trans ?_
    · match a with
      | 0 => rfl
      | 1 => show row.val = 8 + (row.val - 8); omega
      | 2 => exact (Nat.zero_add _).symm
    · pointwise []
  · rw [dif_neg h]
    exact hs _ _ _ _ L _ 1 (Or.inl (by show row.val < 8; omega))

/-- A group of queries or keys other than the one stored keeps what it had. -/
theorem storeQ_other {rd : Pcs Ideal S8x1032x128 → S8x1032x128.Idx → Elt Ideal .f32} (hs : Skips rd) (n g : Fin 8) (h : g ≠ n)
    (L : Pcs Ideal S8x1032x128) (row : Fin 1032) (l : Fin 128) : rd (storeQ I n L) (ix3 g row l) = rd L (ix3 g row l) := by
  have : g.val ≠ n.val := fun e => h (Fin.ext e)
  exact hs _ _ _ _ L _ 0 (by show g.val < n.val ∨ n.val + 1 ≤ g.val; omega)

/-- The narrow convolution's buffer after `n` groups: a group not yet stored is as it was. -/
theorem piecesQ_later {rd : Pcs Ideal S8x1032x128 → S8x1032x128.Idx → Elt Ideal .f32} (hs : Skips rd) (n : ℕ) (hn : n ≤ 8) (g : Fin 8)
    (hg : n ≤ g.val) (row : Fin 1032) (l : Fin 128) : rd (piecesQ I R n hn) (ix3 g row l) = rd R.baseQ (ix3 g row l) := by
  induction n with
  | zero => rfl
  | succ n ih =>
    refine (hs _ _ _ _ _ _ 0 (Or.inr hg)).trans ?_
    rw [storeQ_other I hs ⟨n, hn⟩ g (fun e => by have := congrArg Fin.val e; simp at this; omega)]
    exact ih _ (by omega)

/-- The narrow convolution's buffer after `n` groups: a stored group's halo is its last rows. -/
theorem piecesQ_halo (hh : ∀ L n r l, R.haloQ L n (ix3 0 r l) = View.canon L (ix3 n ⟨1024 + r.val, by omega⟩ l))
    {rd : Pcs Ideal S8x1032x128 → S8x1032x128.Idx → Elt Ideal .f32} (hs : Skips rd) (hf : Finds rd) (n : ℕ) (hn : n ≤ 8) (g : Fin 8)
    (hg : g.val < n) (r : Fin 8) (l : Fin 128) :
    rd (piecesQ I R n hn) (ix3 g ⟨r.val, by omega⟩ l) = zqk I (ix2 ⟨1016 + r.val, by omega⟩ ⟨128 * g.val + l.val, by omega⟩) := by
  induction n with
  | zero => omega
  | succ n ih =>
    by_cases e : g.val = n
    · subst e
      refine (hf _ _ _ _ _ (ix3 g ⟨r.val, by omega⟩ l) (ix3 0 r l) fun a => ?_).trans ?_
      · match a with
        | 0 => rfl
        | 1 => exact (Nat.zero_add _).symm
        | 2 => exact (Nat.zero_add _).symm
      · pointwise []
        rw [hh]
        refine (storeQ_at I canon_skips canon_finds g _ _ l).trans ?_
        rw [dif_pos (show 8 ≤ 1024 + r.val by omega)]
        congr 1; congr 1; exact Fin.ext (by show 1024 + r.val - 8 = 1016 + r.val; omega)
    · refine (hs _ _ _ _ _ _ 0 (Or.inl (by show g.val < n; omega))).trans ?_
      rw [storeQ_other I hs ⟨n, hn⟩ g (fun h => e (congrArg Fin.val h))]
      exact ih _ (by omega)

/-- Within a chunk, a head not yet stored keeps its state. -/
theorem headsC_later {rd : Pcs Ideal S4x128x256 → S4x128x256.Idx → Elt Ideal .f32} (hs : Skips rd) (c : Fin 8) (L : Pcs Ideal S4x128x256)
    (n : ℕ) (hn : n ≤ 4) (a : Fin 4) (ha : n ≤ a.val) (d : Fin 128) (e : Fin 256) :
    rd (headsC I R c L n hn) (ix3 a d e) = rd L (ix3 a d e) := by
  induction n with
  | zero => rfl
  | succ n ih => exact (hs _ _ _ _ _ _ 0 (Or.inr ha)).trans (ih _ (by omega))

/-- Within a chunk, a stored head has its new state. -/
theorem headsC_at {rd : Pcs Ideal S4x128x256 → S4x128x256.Idx → Elt Ideal .f32} (hs : Skips rd) (hf : Finds rd) (c : Fin 8)
    (n : ℕ) (hn : n ≤ 4) (a : Fin 4) (ha : a.val < n) (d : Fin 128) (e : Fin 256) :
    rd (headsC I R c (piecesC I R c.val c.isLt.le) n hn) (ix3 a d e)
      = ceNew (ktBlk I R c a) (blk (vRows I) c a) (decay (gcol (li I) c) (gcol (lf I) c) (mOld I R c))
          (wtok (gcol (li I) c) (gcol (lf I) c) (mOld I R c)) (ceOld I R c a) a (ix3 0 d e) := by
  induction n with
  | zero => omega
  | succ n ih =>
    by_cases h : a.val = n
    · subst h
      exact hf _ _ _ _ _ (ix3 a d e) (ix3 0 d e) fun x => by
        match x with
        | 0 => rfl
        | 1 => exact (Nat.zero_add _).symm
        | 2 => exact (Nat.zero_add _).symm
    · exact (hs _ _ _ _ _ _ 0 (Or.inl (by show a.val < n; omega))).trans (ih _ (by omega))

/-- Within a chunk, the merged rows outside the chunk or under the convolution path are as before. -/
theorem headsX_other (c : Fin 8) (L : List (View.Piece (Elt Ideal) S1024x1024 .bf16)) (n : ℕ) (hn : n ≤ 4) (row col : Fin 1024)
    (h : (row.val < 128 * c.val ∨ 128 * c.val + 128 ≤ row.val) ∨ col.val < 512 ∨ 512 + 128 * n ≤ col.val) :
    View.canon (headsX I R c L n hn) (ix2 row col) = View.canon L (ix2 row col) := by
  induction n with
  | zero => rfl
  | succ n ih =>
    have e : View.canon (headsX I R c L (n + 1) hn) (ix2 row col) = View.canon (headsX I R c L n (Nat.le_of_succ_le hn)) (ix2 row col) := by
      rcases h with h | h
      · exact canon_skips _ _ _ _ _ _ 0 h
      · exact canon_skips _ _ _ _ _ _ 1 (by show col.val < 512 + 128 * n ∨ 512 + 128 * n + 128 ≤ col.val; omega)
    exact e.trans (ih _ (by omega))

/-- Within a chunk, a stored head's merged rows. -/
theorem headsX_at (c : Fin 8) (L : List (View.Piece (Elt Ideal) S1024x1024 .bf16)) (n : ℕ) (hn : n ≤ 4) (a : Fin 4) (ha : a.val < n)
    (r l : Fin 128) : View.canon (headsX I R c L n hn) (ix2 ⟨128 * c.val + r.val, by omega⟩ ⟨512 + 128 * a.val + l.val, by omega⟩)
      = mixOut I R c a (ix2 r l) := by
  induction n with
  | zero => omega
  | succ n ih =>
    by_cases h : a.val = n
    · subst h
      exact canon_finds _ _ _ _ _ (ix2 _ _) (ix2 r l) fun x => by
        match x with
        | 0 => rfl
        | 1 => rfl
    · refine (canon_skips _ _ _ _ _ _ 1 (Or.inl ?_)).trans (ih _ (by omega))
      show 512 + 128 * a.val + l.val < 512 + 128 * n
      omega

/-- The merged rows' columns of the convolution path. -/
theorem piecesX_conv (n : ℕ) (hn : n ≤ 8) (row : Fin 1024) (col : Fin 512) :
    View.canon (piecesX I R n hn) (ix2 row ⟨col.val, by omega⟩) = convRows I R (ix2 row col) := by
  induction n with
  | zero =>
    exact canon_finds _ _ _ _ _ (ix2 _ _) (ix2 row col) fun x => by
      match x with
      | 0 => exact (Nat.zero_add _).symm
      | 1 => exact (Nat.zero_add _).symm
  | succ n ih => exact (headsX_other I R ⟨n, hn⟩ _ 4 (Nat.le_refl _) row _ (Or.inr (Or.inl col.isLt))).trans (ih _)

/-- The merged rows' columns of a head at a chunk's rows. -/
theorem piecesX_head (n : ℕ) (hn : n ≤ 8) (c : Fin 8) (hc : c.val < n) (a : Fin 4) (r l : Fin 128) :
    View.canon (piecesX I R n hn) (ix2 ⟨128 * c.val + r.val, by omega⟩ ⟨512 + 128 * a.val + l.val, by omega⟩)
      = mixOut I R c a (ix2 r l) := by
  induction n with
  | zero => omega
  | succ n ih =>
    by_cases h : c.val = n
    · subst h
      exact headsX_at I R c _ 4 (Nat.le_refl _) a a.isLt r l
    · exact (headsX_other I R ⟨n, hn⟩ _ 4 (Nat.le_refl _) _ _ (Or.inl (by
        show 128 * c.val + r.val < 128 * n ∨ 128 * n + 128 ≤ 128 * c.val + r.val; omega))).trans (ih _ (by omega))

end Cert.MixerIdeal.Stage
-- ==== Proof.MixerTile.lean ====
/- One tile of the mixer over exact reals: from the recurrence's state before the tile, the read-outs of each chunk and head
   and the state after the tile. -/
module

public import proofs.«01_k».proof.Proof.MixerChunk
public import proofs.«01_k».proof.Proof.MixerBufs

@[expose] public section

set_option maxRecDepth 16384

noncomputable section

open Idealize.ShloMosaic Idealize.ShloMosaic.TcCoe Idealize.SL.Sem

namespace Cert.MixerIdeal.Stage

open Cert.MixerIdeal Cert.MixerIdeal.Gen Cert.MixerReal

/-- A tile's rows and carried state, as exact reals: its gates, keys, queries and values by token, the state before it, and how its
    later reads see what it stored. -/
structure Tile (I : Ins Ideal) (R : Rds Ideal) (flf fli : Fin 4 → ℕ → ℝ) (k q : Fin 4 → ℕ → Fin 128 → ℝ)
    (V : Fin 4 → Fin 256 → ℕ → ℝ) (T : ℕ) : Prop where
  hf : ∀ a (r : Fin 1024), lf I (ix2 (row8 a) r) = (flf a (T + r.val) : EReal)
  hi : ∀ a (r : Fin 1024), li I (ix2 (row8 a) r) = (fli a (T + r.val) : EReal)
  hk : ∀ (a : Fin 4) (r : Fin 1024) (d : Fin 128), kRows I R (ix2 r ⟨128 * a.val + d.val, by omega⟩) = (k a (T + r.val) d : EReal)
  hq : ∀ (a : Fin 4) (r : Fin 1024) (d : Fin 128), qRows I R (ix2 r ⟨128 * a.val + d.val, by omega⟩) = (q a (T + r.val) d : EReal)
  hv : ∀ (a : Fin 4) (r : Fin 1024) (e : Fin 128), vRows I (ix2 r ⟨128 * a.val + e.val, by omega⟩) = (V a ⟨e.val, by omega⟩ (T + r.val) : EReal)
  hV1 : ∀ a s, V a 128 s = 1
  hV0 : ∀ a (e : Fin 256), 128 < e.val → ∀ s, V a e s = 0
  hm0 : ∀ a, R.ms 0 R.baseM (ix2 (row8 a) 0) = (M (flf a) (fli a) T : EReal)
  hms : ∀ n L (a : Fin 8), R.ms (n + 1) L (ix2 a 0) = View.canon L (ix2 a 0)
  hc0 : ∀ (a : Fin 4) d e, R.ce 0 (headsC I R 0 R.baseC a.val a.isLt.le) a (ix3 0 d e) = (C (flf a) (fli a) (k a) (V a e) T d : EReal)
  hce : ∀ n L (a : Fin 4) d e, R.ce (n + 1) L a (ix3 0 d e) = View.canon L (ix3 a d e)

variable {I : Ins Ideal} {R : Rds Ideal} {flf fli : Fin 4 → ℕ → ℝ} {k q : Fin 4 → ℕ → Fin 128 → ℝ} {V : Fin 4 → Fin 256 → ℕ → ℝ} {T : ℕ}
variable (H : Tile I R flf fli k q V T)
include H

/-- A chunk's decays. -/
theorem Tile.at_f (c : Fin 8) (a : Fin 4) (s : Fin 128) : gcol (lf I) c (ix2 (row8 a) s) = (flf a (T + 128 * c.val + s.val) : EReal) := by
  have e : gcol (lf I) c (ix2 (row8 a) s) = lf I (ix2 (row8 a) ⟨128 * c.val + s.val, by omega⟩) := by
    generalize lf I = y
    pointwise [gcol]
  rw [e, H.hf, Nat.add_assoc]

/-- A chunk's input gates. -/
theorem Tile.at_i (c : Fin 8) (a : Fin 4) (s : Fin 128) : gcol (li I) c (ix2 (row8 a) s) = (fli a (T + 128 * c.val + s.val) : EReal) := by
  have e : gcol (li I) c (ix2 (row8 a) s) = li I (ix2 (row8 a) ⟨128 * c.val + s.val, by omega⟩) := by
    generalize li I = y
    pointwise [gcol]
  rw [e, H.hi, Nat.add_assoc]

/-- A chunk's keys. -/
theorem Tile.at_k (c : Fin 8) (a : Fin 4) (d s : Fin 128) : ktBlk I R c a (ix2 d s) = (k a (T + 128 * c.val + s.val) d : EReal) := by
  have e : ktBlk I R c a (ix2 d s) = kRows I R (ix2 ⟨128 * c.val + s.val, by omega⟩ ⟨128 * a.val + d.val, by omega⟩) := by
    unfold ktBlk
    generalize kRows I R = y
    pointwise [blk]
  rw [e, H.hk, Nat.add_assoc]

/-- A chunk's queries. -/
theorem Tile.at_q (c : Fin 8) (a : Fin 4) (r d : Fin 128) : blk (qRows I R) c a (ix2 r d) = (q a (T + 128 * c.val + r.val) d : EReal) := by
  have e : blk (qRows I R) c a (ix2 r d) = qRows I R (ix2 ⟨128 * c.val + r.val, by omega⟩ ⟨128 * a.val + d.val, by omega⟩) := by
    generalize qRows I R = y
    pointwise [blk]
  rw [e, H.hq, Nat.add_assoc]

/-- A chunk's values. -/
theorem Tile.at_v (c : Fin 8) (a : Fin 4) (s e : Fin 128) : blk (vRows I) c a (ix2 s e) = (V a ⟨e.val, by omega⟩ (T + 128 * c.val + s.val) : EReal) := by
  have e : blk (vRows I) c a (ix2 s e) = vRows I (ix2 ⟨128 * c.val + s.val, by omega⟩ ⟨128 * a.val + e.val, by omega⟩) := by
    generalize vRows I = y
    pointwise [blk]
  rw [e, H.hv, Nat.add_assoc]

/-- The stabilizer's buffer after a chunk. -/
theorem piecesM_at {rd : Pcs Ideal S8x128 → S8x128.Idx → Elt Ideal .f32} (hf : Finds rd) (n : ℕ) (hn : n + 1 ≤ 8) (a : Fin 8) (l : Fin 128) :
    rd (piecesM I R (n + 1) hn) (ix2 a l) = mnew (gcol (li I) ⟨n, hn⟩) (gcol (lf I) ⟨n, hn⟩) (mOld I R ⟨n, hn⟩) (ix2 a 0) := by
  refine (hf _ _ _ _ _ (ix2 a l) (ix2 a l) fun x => ?_).trans ?_
  · match x with
    | 0 => exact (Nat.zero_add _).symm
    | 1 => exact (Nat.zero_add _).symm
  · show _ = mnew (gcol (li I) ⟨n, hn⟩) (gcol (lf I) ⟨n, hn⟩) (R.ms n (piecesM I R n _)) (ix2 a 0)
    generalize mnew (gcol (li I) ⟨n, hn⟩) (gcol (lf I) ⟨n, hn⟩) (R.ms n (piecesM I R n _)) = y
    pointwise []

/-- The stabilizer before each chunk. -/
theorem Tile.at_m (c : Fin 8) (a : Fin 4) : mOld I R c (ix2 (row8 a) 0) = (M (flf a) (fli a) (T + 128 * c.val) : EReal) := by
  obtain ⟨c, hc⟩ := c
  induction c with
  | zero => exact H.hm0 a
  | succ n ih =>
    refine (H.hms n _ _).trans ((piecesM_at H canon_finds n (by omega) (row8 a) 0).trans ?_)
    exact mnew_real (flf a) (fli a) (T + 128 * n) _ _ _ a (H.at_f ⟨n, _⟩ a) (H.at_i ⟨n, _⟩ a) (ih _)

/-- The state before each chunk. -/
theorem Tile.at_c (c : Fin 8) (a : Fin 4) (d : Fin 128) (e : Fin 256) :
    ceOld I R c a (ix3 0 d e) = (C (flf a) (fli a) (k a) (V a e) (T + 128 * c.val) d : EReal) := by
  obtain ⟨c, hc⟩ := c
  induction c generalizing d e with
  | zero => exact H.hc0 a d e
  | succ n ih =>
    refine (H.hce n _ a d e).trans ((headsC_later I R canon_skips _ _ _ _ a (Nat.le_refl _) d e).trans ?_)
    refine (headsC_at I R canon_skips canon_finds ⟨n, by omega⟩ 4 (Nat.le_refl _) a a.isLt d e).trans ?_
    exact ceNew_real (flf a) (fli a) (k a) (V a) (T + 128 * n) _ _ _ _ _ _ a (H.at_f ⟨n, _⟩ a) (H.at_i ⟨n, _⟩ a) (H.at_m ⟨n, _⟩ a) (H.at_k ⟨n, _⟩ a)
      (H.at_v ⟨n, _⟩ a) (H.hV1 a) (H.hV0 a) (fun d e => ih d e (by omega)) d e

/-- The stabilizer the tile leaves. -/
theorem Tile.mEnd {rd : Pcs Ideal S8x128 → S8x128.Idx → Elt Ideal .f32} (hf : Finds rd) (a : Fin 4) (l : Fin 128) :
    rd (piecesM I R 8 (Nat.le_refl _)) (ix2 (row8 a) l) = (M (flf a) (fli a) (T + 1024) : EReal) :=
  (piecesM_at H hf 7 (Nat.le_refl _) (row8 a) l).trans
    (mnew_real (flf a) (fli a) (T + 128 * 7) _ _ _ a (H.at_f 7 a) (H.at_i 7 a) (H.at_m 7 a))

/-- The state the tile leaves. -/
theorem Tile.cEnd {rd : Pcs Ideal S4x128x256 → S4x128x256.Idx → Elt Ideal .f32} (hs : Skips rd) (hf : Finds rd) (a : Fin 4) (d : Fin 128) (e : Fin 256) :
    rd (piecesC I R 8 (Nat.le_refl _)) (ix3 a d e) = (C (flf a) (fli a) (k a) (V a e) (T + 1024) d : EReal) :=
  (headsC_at I R hs hf 7 4 (Nat.le_refl _) a a.isLt d e).trans
    (ceNew_real (flf a) (fli a) (k a) (V a) (T + 128 * 7) _ _ _ _ _ _ a (H.at_f 7 a) (H.at_i 7 a) (H.at_m 7 a) (H.at_k 7 a)
      (H.at_v 7 a) (H.hV1 a) (H.hV0 a) (H.at_c 7 a) d e)

/-- A head's numerator at a token. -/
theorem Tile.num (c : Fin 8) (a : Fin 4) (r l : Fin 128) :
    numer (blk (qRows I R) c a) (ktBlk I R c a) (blk (vRows I) c a) (gcol (li I) c) (gcol (lf I) c) (mOld I R c) (ceOld I R c a) a (ix2 r l)
      = (N (flf a) (fli a) (k a) (V a ⟨l.val, by omega⟩) (T + 128 * c.val + (r.val + 1)) (q a (T + 128 * c.val + r.val)) : EReal) :=
  numer_real (flf a) (fli a) (k a) (V a) (T + 128 * c.val) _ _ _ _ _ _ _ _ a r (H.at_f c a) (H.at_i c a) (H.at_m c a) (H.at_q c a r) (H.at_k c a) (H.at_v c a) (H.at_c c a) l

/-- A head's denominator at a token. -/
theorem Tile.den (c : Fin 8) (a : Fin 4) (r : Fin 128) :
    denom (blk (qRows I R) c a) (ktBlk I R c a) (gcol (li I) c) (gcol (lf I) c) (mOld I R c) (ceOld I R c a) a (ix2 r 0)
      = ((max |N (flf a) (fli a) (k a) (fun _ => 1) (T + 128 * c.val + (r.val + 1)) (q a (T + 128 * c.val + r.val))|
          (Real.exp (-M (flf a) (fli a) (T + 128 * c.val + (r.val + 1)))) : ℝ) : EReal) :=
  denom_real (flf a) (fli a) (k a) (V a) (T + 128 * c.val) _ _ _ _ _ _ _ a r (H.at_f c a) (H.at_i c a) (H.at_m c a) (H.at_q c a r) (H.at_k c a) (H.hV1 a) (H.at_c c a)

end Cert.MixerIdeal.Stage

end
-- ==== Proof.MixerRef.lean ====
/- The mixer's reference at a token: its convolutions as taps over earlier tokens, its gates, and its whole-sequence
   weights as the exact recurrence of the kernel's chunks. -/
module

public import proofs.«01_k».proof.Proof.MixerReal
public import proofs.«01_k».proof.Proof.MixerChunk
public import proofs.«01_k».proof.Proof.Finite
public import proofs.«01_k».proof.Proof.Gen.MixerRefIdeal.Read
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem

namespace Cert.MixerRefIdeal.Tok

open Cert.MixerReal (B M w N)
open Cert.Finite (IsReal)
open Cert.MixerIdeal.Stage (sel_ge)
open Cert.MixerRefIdeal Cert.MixerRefIdeal.Read

/-- Taps accumulated in order over a start. -/
def acc (b : EReal) (x w : ℕ → EReal) : ℕ → EReal
  | 0 => b
  | n + 1 => acc b x w n + x n * w n

/-- The start of the accumulation comes out. -/
theorem acc_start (b c : EReal) (x w : ℕ → EReal) (n : ℕ) : acc (c + b) x w n = acc c x w n + b := by
  induction n with
  | zero => rfl
  | succ n ih => rw [acc, acc, ih, add_assoc, add_comm b, ← add_assoc]

/-- An accumulation depends on its taps alone. -/
theorem acc_congr {b : EReal} {x w x' w' : ℕ → EReal} (n : ℕ) (hx : ∀ j < n, x j = x' j) (hw : ∀ j < n, w j = w' j) :
    acc b x w n = acc b x' w' n := by
  induction n with
  | zero => rfl
  | succ n ih => rw [acc, acc, ih (fun j h => hx j (by omega)) (fun j h => hw j (by omega)), hx n (by omega), hw n (by omega)]

variable (x0 : FVec Ideal S8x8192x1024 .f32) (x1 : FVec Ideal S1x1024 .f32) (x2 : FVec Ideal S1x1024x3080 .f32) (x3 : FVec Ideal S1x31x512 .f32)
  (x4 x5 x6 : FVec Ideal S1x512 .f32) (x7 : FVec Ideal S1x4x1024 .f32) (x8 : FVec Ideal S1x1024 .f32) (x9 x10 : FVec Ideal S1x4 .f32)
  (x11 : FVec Ideal S1x512 .f32) (x12 : FVec Ideal S1x1024x1024 .f32) (x13 : FVec Ideal S1x1024 .f32)
  (b : Fin 8) (s : Fin 8192)

/-- A row of values by token, past the end zero. -/
def row (y : Fin 8192 → EReal) (t : ℕ) : EReal := if h : t < 8192 then y ⟨t, h⟩ else 0

/-- The value a number of tokens back, zero before the start. -/
def back (x : ℕ → EReal) (p t : ℕ) : EReal := if p ≤ t then x (t - p) else 0

/-- A tap's weights, past the last zero. -/
def wts {k : ℕ} (w : Fin k → EReal) (j : ℕ) : EReal := if h : j < k then w ⟨j, h⟩ else 0

/-- The queries by head. -/
theorem query (a : Fin 4) (d : Fin 128) : val_main_v335 (F := Ideal) x0 x1 x2 x7 x8 (ix4 b a s d)
    = val_main_v322 (F := Ideal) x0 x1 x2 x7 x8 (ix3 b s ⟨128 * a.val + d.val, by omega⟩) := by
  pointwise [val_main_v334, val_main_v335, val_main_v323]
  simp only [Nat.mul_comm]

/-- The keys by head. -/
theorem keys (a : Fin 4) (d : Fin 128) : val_main_v337 (F := Ideal) x0 x1 x2 x7 x8 (ix4 b a s d)
    = val_main_v324 (F := Ideal) x0 x1 x2 x7 x8 (ix3 b s ⟨128 * a.val + d.val, by omega⟩) := by
  pointwise [val_main_v336, val_main_v337]
  simp only [Nat.mul_comm]

/-- The keys' columns. -/
theorem keyCol (c : Fin 512) : val_main_v324 (F := Ideal) x0 x1 x2 x7 x8 (ix3 b s c) = val_main_v322 (F := Ideal) x0 x1 x2 x7 x8 (ix3 b s ⟨512 + c.val, by omega⟩) := by
  pointwise [val_main_v324]

/-- The keys by head, scaled. -/
theorem key (a : Fin 4) (d : Fin 128) : val_main_v339 (F := Ideal) x0 x1 x2 x7 x8 (ix4 b a s d)
    = val_main_v322 (F := Ideal) x0 x1 x2 x7 x8 (ix3 b s ⟨512 + (128 * a.val + d.val), by omega⟩) * Ideal.ofBits FTy.f32 0x3DB504F3#32 := by
  rw [val_main_v339_apply, keys, keyCol]
  rfl

/-- The values by head. -/
theorem value (a : Fin 4) (d : Fin 128) : val_main_v341 (F := Ideal) x0 x1 x2 (ix4 b a s d)
    = val_main_v25 (F := Ideal) x0 x1 x2 (ix3 b s ⟨2048 + (128 * a.val + d.val), by omega⟩) := by
  pointwise [val_main_v340, val_main_v341, val_main_v30]
  simp only [Nat.mul_comm]

/-- The convolved query and key columns through the logistic unit. -/
theorem unit (c : Fin 1024) : val_main_v322 (F := Ideal) x0 x1 x2 x7 x8 (ix3 b s c)
    = val_main_v321 (F := Ideal) x0 x1 x2 x7 x8 (ix3 b s c) * Ideal.div 1 (1 + Ideal.exp (-(val_main_v321 (F := Ideal) x0 x1 x2 x7 x8 (ix3 b s c)))) := by
  pointwise [val_main_v322, val_main_call3_v0, val_main_call3_v1, val_main_call3_v2, val_main_call3_v3, val_main_call3_v4, val_main_call3_v5, val_main_call3_cst, val_main_call3_cst_0]

/-- The query and key columns. -/
theorem qk (c : Fin 1024) : val_main_v288 (F := Ideal) x0 x1 x2 (ix3 b s c) = val_main_v25 (F := Ideal) x0 x1 x2 (ix3 b s ⟨1024 + c.val, by omega⟩) := by
  pointwise [val_main_v288, val_main_v28, val_main_v29]
  by_cases h : c.val < 512
  · rw [dif_pos h]
  · rw [dif_neg h]
    exact congrArg (fun n => val_main_v25 (F := Ideal) x0 x1 x2 (ix3 b s n)) (Fin.ext (show 1536 + (c.val - 512) = 1024 + c.val by omega))

/-- The convolution path's input. -/
theorem path (c : Fin 512) : val_main_v40 (F := Ideal) x0 x1 x2 (ix3 b s c) = val_main_v25 (F := Ideal) x0 x1 x2 (ix3 b s ⟨c.val, by omega⟩)
    * Ideal.div 1 (1 + Ideal.exp (-(val_main_v25 (F := Ideal) x0 x1 x2 (ix3 b s ⟨512 + c.val, by omega⟩)))) := by
  pointwise [val_main_v34, val_main_v35, val_main_v36, val_main_v37, val_main_v38, val_main_v39, val_main_v40, val_main_v26, val_main_v27, val_main_cst_2, val_main_cst_3]

/-- The projected rows. -/
theorem proj (c : Fin 3080) : val_main_v25 (F := Ideal) x0 x1 x2 (ix3 b s c)
    = ∑ k, val_main_v13 (F := Ideal) x0 x1 (ix3 b s k) * x2 (ix3 0 k c) := by
  unfold val_main_v25
  generalize val_main_v13 (F := Ideal) x0 x1 = y
  pointwise [val_main_v14]

/-- The normalized rows. -/
theorem normed (k : Fin 1024) : val_main_v13 (F := Ideal) x0 x1 (ix3 b s k)
    = x0 (ix3 b s k) * Ideal.rsqrt (Ideal.div (∑ l, x0 (ix3 b s l) * x0 (ix3 b s l)) (Ideal.ofBits .f32 1149239296#32) + Ideal.ofBits .f32 897988541#32) * x1 (ix2 0 k) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]

/-- A left fold of sums over positions is the start and the sum. -/
theorem foldl_sum {n : ℕ} (g : Fin n → EReal) (v : EReal) : (List.finRange n).foldl (fun r i => r + g i) v = v + ∑ i, g i := by
  rw [← List.sum_ofFn, List.ofFn_eq_map]
  generalize List.finRange n = l
  induction l generalizing v with
  | nil => simp
  | cons a l ih => rw [List.foldl_cons, ih, List.map_cons, List.sum_cons, add_assoc]

/-- A running sum along the last axis of three. -/
theorem cumsum_last {A D Rm1 R : ℕ} (hR : Rm1 + 1 = R) (y : (⟨3, ![A, D, R]⟩ : Shape).Idx → EReal) (init : (⟨0, ![]⟩ : Shape).Idx → EReal)
    (h0 : ∀ i, init i = 0) (h : (⟨3, ![A, D, R]⟩ : Shape).ReduceWindows (![1, 1, R] : Fin 3 → ℕ) ![1, 1, 1] ![0, 0, Rm1] ![0, 0, 0] ⟨3, ![A, D, R]⟩)
    (hu : 0 < (⟨0, ![]⟩ : Shape).numel) (a : Fin A) (d : Fin D) (s : Fin R) :
    Host.reduceWindow (fun p q : EReal => p + q) ![1, 1, R] ![1, 1, 1] ![0, 0, Rm1] ![0, 0, 0] y init h hu (ix3 a d s)
      = ∑ t : Fin R, if t.val ≤ s.val then y (ix3 a d t) else 0 := by
  subst hR
  have nm : (⟨3, ![1, 1, Rm1 + 1]⟩ : Shape).numel = Rm1 + 1 := (Shape.numel_rank3 _).trans (by simp)
  have pos : ∀ n : Fin (⟨3, ![1, 1, Rm1 + 1]⟩ : Shape).numel, (((⟨3, ![1, 1, Rm1 + 1]⟩ : Shape).rowMajor.symm n) 2).val = n.val
      ∧ (((⟨3, ![1, 1, Rm1 + 1]⟩ : Shape).rowMajor.symm n) 0).val = 0 ∧ (((⟨3, ![1, 1, Rm1 + 1]⟩ : Shape).rowMajor.symm n) 1).val = 0 := fun n => by
    have q := congrArg Fin.val ((⟨3, ![1, 1, Rm1 + 1]⟩ : Shape).rowMajor.apply_symm_apply n)
    generalize (⟨3, ![1, 1, Rm1 + 1]⟩ : Shape).rowMajor.symm n = i at q
    have i0 : (i 0).val < 1 := (i 0).isLt
    have i1 : (i 1).val < 1 := (i 1).isLt
    have z0 : (i 0).val = 0 := by omega
    have z1 : (i 1).val = 0 := by omega
    rw [Shape.rowMajor_val_three] at q
    rw [z0, z1] at q
    simp only [Nat.zero_mul, Nat.zero_add] at q
    exact ⟨q, z0, z1⟩
  let Y : ℕ → EReal := fun t => if ht : t < Rm1 + 1 then y (ix3 a d ⟨t, ht⟩) else 0
  unfold Host.reduceWindow
  dsimp only
  refine (foldl_sum _ _).trans ?_
  rw [h0, zero_add]
  refine (Fintype.sum_equiv (finCongr nm) _ (fun n : Fin (Rm1 + 1) => if Rm1 ≤ s.val + n.val then Y (s.val + n.val - Rm1) else 0) fun n => ?_).trans ?_
  · obtain ⟨p2, p0, p1⟩ := pos n
    show _ = if Rm1 ≤ s.val + n.val then Y (s.val + n.val - Rm1) else 0
    by_cases hn : Rm1 ≤ s.val + n.val
    · have hlt : s.val + n.val - Rm1 < Rm1 + 1 := by have := n.isLt; omega
      rw [if_pos hn, dif_pos (fun x => by
        match x with
        | 0 => exact ⟨Nat.zero_le _, by show a.val * 1 + (((⟨3, ![1, 1, Rm1 + 1]⟩ : Shape).rowMajor.symm n) 0).val - 0 < A; rw [p0]; omega⟩
        | 1 => exact ⟨Nat.zero_le _, by show d.val * 1 + (((⟨3, ![1, 1, Rm1 + 1]⟩ : Shape).rowMajor.symm n) 1).val - 0 < D; rw [p1]; omega⟩
        | 2 => exact ⟨by show Rm1 ≤ s.val * 1 + (((⟨3, ![1, 1, Rm1 + 1]⟩ : Shape).rowMajor.symm n) 2).val; rw [p2]; omega,
            by show s.val * 1 + (((⟨3, ![1, 1, Rm1 + 1]⟩ : Shape).rowMajor.symm n) 2).val - Rm1 < Rm1 + 1; rw [p2]; omega⟩)]
      show _ = if ht : s.val + n.val - Rm1 < Rm1 + 1 then y (ix3 a d ⟨s.val + n.val - Rm1, ht⟩) else 0
      rw [dif_pos hlt]
      refine congrArg y (funext fun x => Fin.ext ?_)
      match x with
      | 0 => show a.val * 1 + (((⟨3, ![1, 1, Rm1 + 1]⟩ : Shape).rowMajor.symm n) 0).val - 0 = a.val; rw [p0]; omega
      | 1 => show d.val * 1 + (((⟨3, ![1, 1, Rm1 + 1]⟩ : Shape).rowMajor.symm n) 1).val - 0 = d.val; rw [p1]; omega
      | 2 => show s.val * 1 + (((⟨3, ![1, 1, Rm1 + 1]⟩ : Shape).rowMajor.symm n) 2).val - Rm1 = s.val + n.val - Rm1; rw [p2]; omega
    · rw [if_neg hn, dif_neg (fun hin => hn (by
        have q : Rm1 ≤ s.val * 1 + (((⟨3, ![1, 1, Rm1 + 1]⟩ : Shape).rowMajor.symm n) 2).val := (hin 2).1
        rw [p2] at q; omega))]
  · have e : ∀ t : Fin (Rm1 + 1), (if t.val ≤ s.val then y (ix3 a d t) else 0) = if t.val ≤ s.val then Y t.val else 0 := fun t => by
      show _ = if t.val ≤ s.val then (if ht : t.val < Rm1 + 1 then y (ix3 a d ⟨t.val, ht⟩) else 0) else 0
      rw [dif_pos t.isLt]
    simp only [e]
    rw [Fin.sum_univ_eq_sum_range (fun n => if Rm1 ≤ s.val + n then Y (s.val + n - Rm1) else 0), Fin.sum_univ_eq_sum_range (fun t => if t ≤ s.val then Y t else 0),
      ← Finset.sum_filter, ← Finset.sum_filter]
    have hs := s.isLt
    refine Finset.sum_nbij' (fun n => s.val + n - Rm1) (fun t => t + Rm1 - s.val) ?_ ?_ ?_ ?_ ?_ <;>
      (intro n hn; simp only [Finset.mem_filter, Finset.mem_range] at hn ⊢; try omega)

/-- The host's running sum along the last axis of three. -/
theorem cumsum_add {A D Rm1 R : ℕ} (hR : Rm1 + 1 = R) (y : FVec Ideal ⟨3, ![A, D, R]⟩ .f32) (init : FVec Ideal ⟨0, ![]⟩ .f32)
    (h0 : ∀ i, init i = (0 : EReal)) (h : (⟨3, ![A, D, R]⟩ : Shape).ReduceWindows (![1, 1, R] : Fin 3 → ℕ) ![1, 1, 1] ![0, 0, Rm1] ![0, 0, 0] ⟨3, ![A, D, R]⟩)
    (hu : 0 < (⟨0, ![]⟩ : Shape).numel) (a : Fin A) (d : Fin D) (s : Fin R) :
    Host.reduceWindowAdd ![1, 1, R] ![1, 1, 1] ![0, 0, Rm1] ![0, 0, 0] y init h hu (ix3 a d s)
      = ∑ t : Fin R, if t.val ≤ s.val then (y (ix3 a d t) : EReal) else 0 :=
  cumsum_last hR y _ (fun _ => h0 _) h hu a d s

/-- The reference's running sum of the decays. -/
theorem prefix_sum (a : Fin 4) : val_main_v342 (F := Ideal) x0 x1 x2 x10 (ix3 b a s)
    = ∑ t : Fin 8192, if t.val ≤ s.val then val_main_v333 (F := Ideal) x0 x1 x2 x10 (ix3 b a t) else 0 := by
  unfold val_main_v342
  generalize val_main_v333 (F := Ideal) x0 x1 x2 x10 = y
  have z : ∀ i, (val_main_call5_call0_v0 (F := Ideal)) i = 0 := fun i => by
    show Ideal.ofBits .f32 0x00000000#32 = 0
    simp [Ideal.ofBits, Ideal.ieee]
  generalize val_main_call5_call0_v0 (F := Ideal) = w at z ⊢
  exact cumsum_add (A := 8) (D := 4) (Rm1 := 8191) (R := 8192) (by norm_num) y w z _ _ b a s

/-- The weights' logarithms. -/
theorem masked (a : Fin 4) (x : Fin 8192) : val_main_v353 (F := Ideal) x0 x1 x2 x9 x10 (ix4 b a s x)
    = if x.val ≤ s.val then val_main_v342 (F := Ideal) x0 x1 x2 x10 (ix3 b a s) - val_main_v342 (F := Ideal) x0 x1 x2 x10 (ix3 b a x)
        + val_main_v328 (F := Ideal) x0 x1 x2 x9 (ix3 b a x) else ⊥ := by
  have e : val_main_v352 (F := Ideal) (ix2 s x) = Scalar.select (IntOp.cmpi .sge (BitVec.ofNat 32 s.val) (BitVec.ofNat 32 x.val)) 1#1 0#1 := by
    pointwise [val_main_v351, val_main_v352, val_main_c_13, val_main_call6_v0, val_main_call6_c, val_main_call6_v1, val_main_call6_v2, val_main_call6_v3, val_main_call6_v4, val_main_call6_c_0, val_main_call6_v5]
    rw [show IntOp.addi (BitVec.ofNat 32 s.val) 0#32 = BitVec.ofNat 32 s.val from BitVec.add_zero _]
  have e2 : val_main_v353 (F := Ideal) x0 x1 x2 x9 x10 (ix4 b a s x) = Scalar.select (val_main_v352 (F := Ideal) (ix2 s x))
      (val_main_v342 (F := Ideal) x0 x1 x2 x10 (ix3 b a s) - val_main_v342 (F := Ideal) x0 x1 x2 x10 (ix3 b a x)
        + val_main_v328 (F := Ideal) x0 x1 x2 x9 (ix3 b a x)) (Ideal.ofBits FTy.f32 4286578688#32) := by
    unfold val_main_v353
    pointwise [val_main_v343, val_main_v344, val_main_v345, val_main_v346, val_main_v347, val_main_v348, val_main_v349, val_main_v350, val_main_cst_14, val_main_call7_v0, val_main_call7_v1, val_main_call7_v2]
    rfl
  rw [e2, e, sel_ge (by omega) (by omega), Cert.Finite.ofBits_neg_inf]
  by_cases h : x.val ≤ s.val <;> simp [h, Scalar.select]

/-- A maximum along the last axis of four. -/
theorem max_last {A D R C : ℕ} (y : FVec Ideal ⟨4, ![A, D, R, C]⟩ .f32) (init : FVec Ideal ⟨0, ![]⟩ .f32) (h : (⟨4, ![A, D, R, C]⟩ : Shape).ReducesTo [3] ⟨3, ![A, D, R]⟩) (hu : 0 < (⟨0, ![]⟩ : Shape).numel) (a : Fin A) (d : Fin D) (r : Fin R)
    (h0 : ∀ i, init i = ⊥) : (Host.reduce (FloatOps.maximumf (F := Ideal) (φ := .f32)) y init h hu : FVec Ideal ⟨3, ![A, D, R]⟩ .f32) (ix3 a d r)
      = Finset.fold max ⊥ (fun x => y (ix4 a d r x)) Finset.univ := by
  rw [Host.reduce_eq_fold, h0]
  exact Shape.ReducesTo.fold_fiber_r4_a3 _ _ _ _ _

/-- The stabilizer of a token, from the running sum and the weights' logarithms. -/
theorem stab (a : Fin 4) : val_main_v355 (F := Ideal) x0 x1 x2 x9 x10 (ix3 b a s)
    = max (val_main_v342 (F := Ideal) x0 x1 x2 x10 (ix3 b a s)) (Finset.fold max ⊥ (fun x => val_main_v353 (F := Ideal) x0 x1 x2 x9 x10 (ix4 b a s x)) Finset.univ) := by
  rw [val_main_v355_apply]
  refine congrArg (max (val_main_v342 (F := Ideal) x0 x1 x2 x10 (ix3 b a s))) ?_
  unfold val_main_v354
  generalize val_main_v353 (F := Ideal) x0 x1 x2 x9 x10 = y
  exact max_last y _ _ _ b a s fun i => Cert.Finite.ofBits_neg_inf

/-- The weighted scores. -/
theorem weighted (a : Fin 4) (x : Fin 8192) : val_main_v361 (F := Ideal) x0 x1 x2 x7 x8 x9 x10 (ix4 b a s x)
    = Ideal.exp (val_main_v353 (F := Ideal) x0 x1 x2 x9 x10 (ix4 b a s x) - val_main_v355 (F := Ideal) x0 x1 x2 x9 x10 (ix3 b a s))
      * ∑ d, val_main_v335 (F := Ideal) x0 x1 x2 x7 x8 (ix4 b a s d) * val_main_v339 (F := Ideal) x0 x1 x2 x7 x8 (ix4 b a x d) := by
  have e : val_main_v360 (F := Ideal) x0 x1 x2 x7 x8 (ix4 b a s x) = ∑ d, val_main_v335 (F := Ideal) x0 x1 x2 x7 x8 (ix4 b a s d) * val_main_v339 (F := Ideal) x0 x1 x2 x7 x8 (ix4 b a x d) := by
    unfold val_main_v360
    generalize val_main_v335 (F := Ideal) x0 x1 x2 x7 x8 = y
    generalize val_main_v339 (F := Ideal) x0 x1 x2 x7 x8 = z
    pointwise []
  have e1 : val_main_v359 (F := Ideal) x0 x1 x2 x9 x10 (ix4 b a s x) = Ideal.exp (val_main_v353 (F := Ideal) x0 x1 x2 x9 x10 (ix4 b a s x) - val_main_v355 (F := Ideal) x0 x1 x2 x9 x10 (ix3 b a s)) := by
    unfold val_main_v359 val_main_v358 val_main_v357 val_main_v356
    generalize val_main_v353 (F := Ideal) x0 x1 x2 x9 x10 = y
    generalize val_main_v355 (F := Ideal) x0 x1 x2 x9 x10 = z
    pointwise []
  rw [← e, ← e1]; rfl

/-- The numerator. -/
theorem num (a : Fin 4) (e : Fin 128) : val_main_v362 (F := Ideal) x0 x1 x2 x7 x8 x9 x10 (ix4 b a s e)
    = ∑ x, val_main_v361 (F := Ideal) x0 x1 x2 x7 x8 x9 x10 (ix4 b a s x) * val_main_v341 (F := Ideal) x0 x1 x2 (ix4 b a x e) := by
  unfold val_main_v362
  generalize val_main_v361 (F := Ideal) x0 x1 x2 x7 x8 x9 x10 = y
  generalize val_main_v341 (F := Ideal) x0 x1 x2 = z
  pointwise []

/-- The quotient. -/
theorem quot (a : Fin 4) (l : Fin 128) : val_main_v370 (F := Ideal) x0 x1 x2 x7 x8 x9 x10 (ix4 b a s l)
    = Ideal.div (val_main_v362 (F := Ideal) x0 x1 x2 x7 x8 x9 x10 (ix4 b a s l)) (val_main_v367 (F := Ideal) x0 x1 x2 x7 x8 x9 x10 (ix3 b a s)) := by
  unfold val_main_v370 val_main_v369 val_main_v368
  generalize val_main_v362 (F := Ideal) x0 x1 x2 x7 x8 x9 x10 = y
  generalize val_main_v367 (F := Ideal) x0 x1 x2 x7 x8 x9 x10 = z
  pointwise []

/-- The heads' norm. -/
theorem hnorm (a : Fin 4) (l : Fin 128) : val_main_v380 (F := Ideal) x0 x1 x2 x7 x8 x9 x10 (ix4 b a s l)
    = val_main_v370 (F := Ideal) x0 x1 x2 x7 x8 x9 x10 (ix4 b a s l) * Ideal.rsqrt (Ideal.div (∑ x, val_main_v370 (F := Ideal) x0 x1 x2 x7 x8 x9 x10 (ix4 b a s x) * val_main_v370 (F := Ideal) x0 x1 x2 x7 x8 x9 x10 (ix4 b a s x))
        (Ideal.ofBits FTy.f32 1124073472#32) + Ideal.ofBits FTy.f32 897988541#32) := by
  unfold val_main_v380 val_main_v379 val_main_v378 val_main_v377 val_main_v375 val_main_v373 val_main_v372 val_main_v371
  generalize val_main_v370 (F := Ideal) x0 x1 x2 x7 x8 x9 x10 = y
  pointwise [val_main_v376, val_main_v374, val_main_cst_17, val_main_cst_18, val_main_cst_19]

/-- A logarithm of one plus an exponential is real. -/
theorem log1p_exp (r : ℝ) : IsReal (Ideal.log1p (Ideal.exp (r : EReal))) := by
  refine ⟨Real.log (1 + Real.exp r), ?_⟩
  show Ideal.log (1 + ((Real.exp r : ℝ) : EReal)) = _
  rw [show (1 : EReal) + ((Real.exp r : ℝ) : EReal) = ((1 + Real.exp r : ℝ) : EReal) from by norm_cast]
  exact if_neg (not_le.2 (by positivity))

/-- The forget gates' logarithms. -/
theorem gate_f (a : Fin 4) : val_main_v333 (F := Ideal) x0 x1 x2 x10 (ix3 b a s)
    = - (max (-(val_main_v25 (F := Ideal) x0 x1 x2 (ix3 b s ⟨3076 + a.val, by omega⟩) + x10 (ix2 0 a))) 0 + Ideal.log1p (Ideal.exp (-FloatOps.absf (F := Ideal) (φ := .f32) (-(val_main_v25 (F := Ideal) x0 x1 x2 (ix3 b s ⟨3076 + a.val, by omega⟩) + x10 (ix2 0 a)))))) := by
  pointwise [val_main_v329, val_main_v330, val_main_v331, val_main_v332, val_main_v333, val_main_v22, val_main_v33, val_main_call4_v0, val_main_call4_call0_cst, val_main_call4_call0_v0, val_main_call4_call0_v1, val_main_call4_call0_v2, val_main_call4_call0_v3, val_main_call4_call0_v4, val_main_call4_call0_v5, val_main_call4_call0_v6, val_main_call4_call0_v7, val_main_call4_call0_v8, val_main_call4_call0_v9, val_main_call4_call0_v10, val_main_call4_call0_v11, val_main_call4_v1]
  rw [if_neg (fun h => h rfl)]

/-- The input gates. -/
theorem gate_i (a : Fin 4) : val_main_v328 (F := Ideal) x0 x1 x2 x9 (ix3 b a s)
    = val_main_v25 (F := Ideal) x0 x1 x2 (ix3 b s ⟨3072 + a.val, by omega⟩) + x9 (ix2 0 a) := by
  pointwise [val_main_v325, val_main_v326, val_main_v327, val_main_v328, val_main_v21, val_main_v32]

/-- The heads' columns side by side, as an index. -/
theorem merged_idx (c : Fin 512) : idx_main_v382 (ix3 b s c) = ix4 b s (⟨c.val / 128, by omega⟩ : Fin 4) (⟨c.val % 128, by omega⟩ : Fin 128) := by
  have hb := b.isLt
  have hs := s.isLt
  have hc := c.isLt
  have e0 : ((b.val * 8192 + s.val) * 512 + c.val) / 4194304 = b.val := by omega
  have e1 : ((b.val * 8192 + s.val) * 512 + c.val) / 512 % 8192 = s.val := by omega
  have e2 : ((b.val * 8192 + s.val) * 512 + c.val) / 128 % 4 = c.val / 128 := by omega
  have e3 : ((b.val * 8192 + s.val) * 512 + c.val) % 128 = c.val % 128 := by omega
  funext x
  match x with
  | ⟨0, _⟩ => exact Fin.ext e0
  | ⟨1, _⟩ => exact Fin.ext e1
  | ⟨2, _⟩ => exact Fin.ext e2
  | ⟨3, _⟩ => exact Fin.ext e3

/-- The heads side by side. -/
theorem merged (c : Fin 512) : val_main_v382 (F := Ideal) x0 x1 x2 x7 x8 x9 x10 (ix3 b s c)
    = val_main_v380 (F := Ideal) x0 x1 x2 x7 x8 x9 x10 (ix4 b ⟨c.val / 128, by omega⟩ s ⟨c.val % 128, by omega⟩) := by
  rw [val_main_v382_apply, merged_idx]
  unfold val_main_v381
  generalize val_main_v380 (F := Ideal) x0 x1 x2 x7 x8 x9 x10 = y
  pointwise []

/-- The output gate. -/
theorem ogate (c : Fin 512) : val_main_v391 (F := Ideal) x0 x1 x2 (ix3 b s c)
    = Ideal.div 1 (1 + Ideal.exp (-(val_main_v25 (F := Ideal) x0 x1 x2 (ix3 b s ⟨2560 + c.val, by omega⟩)))) := by
  pointwise [val_main_v386, val_main_v387, val_main_v388, val_main_v389, val_main_v390, val_main_v391, val_main_cst_20, val_main_cst_21, val_main_v31]

/-- The heads' gain. -/
theorem hgain (c : Fin 512) : val_main_v384 (F := Ideal) x11 (ix3 b s c) = x11 (ix2 0 c) := by
  pointwise [val_main_v383, val_main_v384, val_main_v23]

/-- The recurrent path's rows. -/
theorem mixed (c : Fin 512) : val_main_v392 (F := Ideal) x0 x1 x2 x7 x8 x9 x10 x11 (ix3 b s c)
    = Ideal.div 1 (1 + Ideal.exp (-(val_main_v25 (F := Ideal) x0 x1 x2 (ix3 b s ⟨2560 + c.val, by omega⟩))))
      * (val_main_v382 (F := Ideal) x0 x1 x2 x7 x8 x9 x10 (ix3 b s c) * x11 (ix2 0 c)) := by
  rw [val_main_v392_apply, val_main_v385_apply, ogate, hgain]
  rfl

/-- last. -/
theorem last (c : Fin 1024) : val_main_v409 (F := Ideal) x0 x1 x2 x3 x4 x5 x6 x7 x8 x9 x10 x11 x12 x13 (ix3 b s c)
    = x0 (ix3 b s c) + val_main_v394 (F := Ideal) x0 x1 x2 x3 x4 x5 x6 x7 x8 x9 x10 x11 x12 (ix3 b s c)
      * Ideal.rsqrt (Ideal.div (∑ x, val_main_v394 (F := Ideal) x0 x1 x2 x3 x4 x5 x6 x7 x8 x9 x10 x11 x12 (ix3 b s x)
          * val_main_v394 (F := Ideal) x0 x1 x2 x3 x4 x5 x6 x7 x8 x9 x10 x11 x12 (ix3 b s x)) (Ideal.ofBits FTy.f32 1149239296#32)
        + Ideal.ofBits FTy.f32 897988541#32) * x13 (ix2 0 c) := by
  unfold val_main_v409 val_main_v408 val_main_v405 val_main_v404 val_main_v403 val_main_v402 val_main_v400 val_main_v398 val_main_v397 val_main_v396
  generalize val_main_v394 (F := Ideal) x0 x1 x2 x3 x4 x5 x6 x7 x8 x9 x10 x11 x12 = y
  pointwise [val_main_v395, val_main_v399, val_main_v401, val_main_v406, val_main_v407, val_main_cst_22, val_main_cst_23, val_main_cst_24]

/-- The output projection, over the two paths' columns. -/
theorem out (c : Fin 1024) : val_main_v394 (F := Ideal) x0 x1 x2 x3 x4 x5 x6 x7 x8 x9 x10 x11 x12 (ix3 b s c)
    = ∑ x : Fin 1024, (if h : x.val < 512 then val_main_v287 (F := Ideal) x0 x1 x2 x3 x4 x5 x6 (ix3 b s ⟨x.val, h⟩)
        else val_main_v392 (F := Ideal) x0 x1 x2 x7 x8 x9 x10 x11 (ix3 b s ⟨x.val - 512, by omega⟩)) * x12 (ix3 0 x c) := by
  unfold val_main_v394 val_main_v393
  generalize val_main_v287 (F := Ideal) x0 x1 x2 x3 x4 x5 x6 = y
  generalize val_main_v392 (F := Ideal) x0 x1 x2 x7 x8 x9 x10 x11 = z
  pointwise [val_main_v24]

/-- A value some tokens back, as a padded read. -/
theorem back_row (y : Fin 8192 → EReal) (p n : ℕ) (z : EReal) (hz : z = 0) :
    back (row y) p n = if h : p ≤ n ∧ n - p < 8192 then y ⟨n - p, h.2⟩ else z := by
  unfold back row
  by_cases h1 : p ≤ n <;> by_cases h2 : n - p < 8192 <;> simp [h1, h2, hz]

/-- The zero word as a float. -/
theorem ofInt_zero : FloatOps.sitofp (F := Ideal) FTy.f32 (0#32) = (0 : EReal) := by
  show (((0#32 : BitVec 32).toInt : ℝ) : EReal) = 0
  norm_num

/-- The narrow convolution. -/
theorem narrow (c : Fin 1024) : val_main_v321 (F := Ideal) x0 x1 x2 x7 x8 (ix3 b s c)
    = acc 0 (fun j => back (row fun t => val_main_v288 (F := Ideal) x0 x1 x2 (ix3 b t c)) 3 (j + s.val)) (wts fun j => x7 (ix3 0 j c)) 4 + x8 (ix2 0 c) := by
  simp only [acc, back_row _ _ _ _ ofInt_zero, wts, zero_add, Nat.zero_add]
  pointwise [val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v19, val_main_v20, val_main_call2_v0, val_main_c_10, val_main_cst_11]

/-- A tap of the padded path. -/
theorem tap (j : ℕ) (hs : S8x8222x512.Slices ![0, j, 0] S8x8192x512) (c : Fin 512) :
    extractStridedSlice S8x8192x512 ![0, j, 0] (val_main_v41 (F := Ideal) x0 x1 x2) hs (ix3 b s c)
      = back (row fun t => val_main_v40 (F := Ideal) x0 x1 x2 (ix3 b t c)) 30 (j + s.val) := by
  have z : FloatOps.sitofp (F := Ideal) FTy.f32 (0#32) = (0 : EReal) := by
    show (((0#32 : BitVec 32).toInt : ℝ) : EReal) = 0
    norm_num
  rw [back_row _ _ _ _ z]
  unfold val_main_v41
  generalize val_main_v40 (F := Ideal) x0 x1 x2 = y
  pointwise [val_main_call0_v0, val_main_c]

/-- A tap's weights across the rows. -/
theorem weight (j : ℕ) (hs : S31x512.Slices ![j, 0] S1x512) (h1) (h2) (h3) (c : Fin 512) :
    broadcastInDim S8x8192x512 ![0, 1, 2] h3 (broadcastInDim S1x1x512 ![2] h2 (shapeCast S512 (extractStridedSlice S1x512 ![j, 0] (val_main_v15 (F := Ideal) x3) hs) h1 : FVec Ideal S512 .f32) : FVec Ideal S1x1x512 .f32) (ix3 b s c)
      = wts (fun j => x3 (ix3 0 j c)) j := by
  have hj : j < 31 := by have := hs.2 0; simpa using this
  rw [wts, dif_pos hj]
  pointwise [val_main_v15]

/-- The wide convolution. -/
theorem wide (c : Fin 512) : val_main_v262 (F := Ideal) x0 x1 x2 x3 x4 (ix3 b s c)
    = acc 0 (fun j => back (row fun t => val_main_v40 (F := Ideal) x0 x1 x2 (ix3 b t c)) 30 (j + s.val)) (wts fun j => x3 (ix3 0 j c)) 31 + x4 (ix2 0 c) := by
  have z : val_main_v48 (F := Ideal) (ix3 b s c) = 0 := by pointwise [val_main_v48, val_main_cst_4]
  have hb : val_main_v261 (F := Ideal) x4 (ix3 b s c) = x4 (ix2 0 c) := by pointwise [val_main_v260, val_main_v261, val_main_v16]
  rw [val_main_v262_apply, hb]
  refine congrArg (· + x4 (ix2 0 c)) ?_
  simp only [val_main_v49_apply, val_main_v56_apply, val_main_v63_apply, val_main_v70_apply, val_main_v77_apply, val_main_v84_apply, val_main_v91_apply, val_main_v98_apply, val_main_v105_apply, val_main_v112_apply, val_main_v119_apply, val_main_v126_apply, val_main_v133_apply, val_main_v140_apply, val_main_v147_apply, val_main_v154_apply, val_main_v161_apply, val_main_v168_apply, val_main_v175_apply, val_main_v182_apply, val_main_v189_apply, val_main_v196_apply, val_main_v203_apply, val_main_v210_apply, val_main_v217_apply, val_main_v224_apply, val_main_v231_apply, val_main_v238_apply, val_main_v245_apply, val_main_v252_apply, val_main_v259_apply, val_main_v47_apply, val_main_v55_apply, val_main_v62_apply, val_main_v69_apply, val_main_v76_apply, val_main_v83_apply, val_main_v90_apply, val_main_v97_apply, val_main_v104_apply, val_main_v111_apply, val_main_v118_apply, val_main_v125_apply, val_main_v132_apply, val_main_v139_apply, val_main_v146_apply, val_main_v153_apply, val_main_v160_apply, val_main_v167_apply, val_main_v174_apply, val_main_v181_apply, val_main_v188_apply, val_main_v195_apply, val_main_v202_apply, val_main_v209_apply, val_main_v216_apply, val_main_v223_apply, val_main_v230_apply, val_main_v237_apply, val_main_v244_apply, val_main_v251_apply, val_main_v258_apply]
  simp only [val_main_v42, val_main_v50, val_main_v57, val_main_v64, val_main_v71, val_main_v78, val_main_v85, val_main_v92, val_main_v99, val_main_v106, val_main_v113, val_main_v120, val_main_v127, val_main_v134, val_main_v141, val_main_v148, val_main_v155, val_main_v162, val_main_v169, val_main_v176, val_main_v183, val_main_v190, val_main_v197, val_main_v204, val_main_v211, val_main_v218, val_main_v225, val_main_v232, val_main_v239, val_main_v246, val_main_v253, val_main_v43, val_main_v44, val_main_v45, val_main_v46, val_main_v51, val_main_v52, val_main_v53, val_main_v54, val_main_v58, val_main_v59, val_main_v60, val_main_v61, val_main_v65, val_main_v66, val_main_v67, val_main_v68, val_main_v72, val_main_v73, val_main_v74, val_main_v75, val_main_v79, val_main_v80, val_main_v81, val_main_v82, val_main_v86, val_main_v87, val_main_v88, val_main_v89, val_main_v93, val_main_v94, val_main_v95, val_main_v96, val_main_v100, val_main_v101, val_main_v102, val_main_v103, val_main_v107, val_main_v108, val_main_v109, val_main_v110, val_main_v114, val_main_v115, val_main_v116, val_main_v117, val_main_v121, val_main_v122, val_main_v123, val_main_v124, val_main_v128, val_main_v129, val_main_v130, val_main_v131, val_main_v135, val_main_v136, val_main_v137, val_main_v138, val_main_v142, val_main_v143, val_main_v144, val_main_v145, val_main_v149, val_main_v150, val_main_v151, val_main_v152, val_main_v156, val_main_v157, val_main_v158, val_main_v159, val_main_v163, val_main_v164, val_main_v165, val_main_v166, val_main_v170, val_main_v171, val_main_v172, val_main_v173, val_main_v177, val_main_v178, val_main_v179, val_main_v180, val_main_v184, val_main_v185, val_main_v186, val_main_v187, val_main_v191, val_main_v192, val_main_v193, val_main_v194, val_main_v198, val_main_v199, val_main_v200, val_main_v201, val_main_v205, val_main_v206, val_main_v207, val_main_v208, val_main_v212, val_main_v213, val_main_v214, val_main_v215, val_main_v219, val_main_v220, val_main_v221, val_main_v222, val_main_v226, val_main_v227, val_main_v228, val_main_v229, val_main_v233, val_main_v234, val_main_v235, val_main_v236, val_main_v240, val_main_v241, val_main_v242, val_main_v243, val_main_v247, val_main_v248, val_main_v249, val_main_v250, val_main_v254, val_main_v255, val_main_v256, val_main_v257, z]
  simp only [acc]
  repeat refine congrArg₂ (fun p q : EReal => p + q) ?_ (congrArg₂ (fun p q : EReal => p * q) (tap x0 x1 x2 b s _ _ c) (weight x3 b s _ _ _ _ _ c))
  rfl

/-- The layer norm of a row of 512 at a column. -/
def norm5 (y : Fin 512 → EReal) (g o : EReal) (c : Fin 512) : EReal :=
  (y c - Ideal.div (∑ x, y x) (Ideal.ofBits FTy.f32 1140850688#32))
    * Ideal.rsqrt (Ideal.div (∑ x, (y x - Ideal.div (∑ x, y x) (Ideal.ofBits FTy.f32 1140850688#32)) * (y x - Ideal.div (∑ x, y x) (Ideal.ofBits FTy.f32 1140850688#32)))
        (Ideal.ofBits FTy.f32 1140850688#32) + Ideal.ofBits FTy.f32 925353388#32) * g + o

/-- The logistic unit. -/
def act (x : EReal) : EReal := x * Ideal.div 1 (1 + Ideal.exp (-x))

/-- The convolution path's rows. -/
theorem conv (c : Fin 512) : val_main_v287 (F := Ideal) x0 x1 x2 x3 x4 x5 x6 (ix3 b s c)
    = act (norm5 (fun x => val_main_v262 (F := Ideal) x0 x1 x2 x3 x4 (ix3 b s x)) (x5 (ix2 0 c)) (x6 (ix2 0 c)) c) := by
  unfold act norm5
  pointwise [val_main_v263, val_main_v264, val_main_v265, val_main_v266, val_main_v267, val_main_v268, val_main_v269, val_main_v270, val_main_v271, val_main_v272, val_main_v273, val_main_v274, val_main_v275, val_main_v276, val_main_v277, val_main_v278, val_main_v279, val_main_v280, val_main_v281, val_main_v282, val_main_v283, val_main_v284, val_main_v285, val_main_v286, val_main_v287, val_main_v17, val_main_v18, val_main_cst_5, val_main_cst_6, val_main_cst_7, val_main_cst_8, val_main_cst_9, val_main_call1_cst, val_main_call1_cst_0, val_main_call1_v0, val_main_call1_v1, val_main_call1_v2, val_main_call1_v3, val_main_call1_v4, val_main_call1_v5]

variable (lf li : ℕ → ℝ) (k q : ℕ → Fin 128 → ℝ) (v : Fin 128 → ℕ → ℝ) (a : Fin 4)

/-- The running sum over exact reals. -/
theorem prefix_real (hf : ∀ t : Fin 8192, val_main_v333 (F := Ideal) x0 x1 x2 x10 (ix3 b a t) = (lf t.val : EReal)) :
    val_main_v342 (F := Ideal) x0 x1 x2 x10 (ix3 b a s) = (B lf (s.val + 1) : EReal) := by
  rw [prefix_sum]
  exact Cert.MixerReal.sum_masked (by omega) lf _ (fun t ht => by rw [if_pos (by omega), hf]) fun t ht => if_neg (by omega)

/-- The weights' logarithms over exact reals. -/
theorem masked_real (hf : ∀ t : Fin 8192, val_main_v333 (F := Ideal) x0 x1 x2 x10 (ix3 b a t) = (lf t.val : EReal))
    (hi : ∀ t : Fin 8192, val_main_v328 (F := Ideal) x0 x1 x2 x9 (ix3 b a t) = (li t.val : EReal)) (x : Fin 8192) :
    val_main_v353 (F := Ideal) x0 x1 x2 x9 x10 (ix4 b a s x)
      = if x.val ≤ s.val then ((B lf (s.val + 1) - B lf (x.val + 1) + li x.val : ℝ) : EReal) else ⊥ := by
  rw [masked, prefix_real x0 x1 x2 x10 b s lf a hf, prefix_real x0 x1 x2 x10 b x lf a hf, hi, ← EReal.coe_sub, ← EReal.coe_add]

/-- The stabilizer over exact reals. -/
theorem stab_real (hf : ∀ t : Fin 8192, val_main_v333 (F := Ideal) x0 x1 x2 x10 (ix3 b a t) = (lf t.val : EReal))
    (hi : ∀ t : Fin 8192, val_main_v328 (F := Ideal) x0 x1 x2 x9 (ix3 b a t) = (li t.val : EReal)) :
    val_main_v355 (F := Ideal) x0 x1 x2 x9 x10 (ix3 b a s) = (Cert.MixerReal.M lf li (s.val + 1) : EReal) := by
  rw [stab, prefix_real x0 x1 x2 x10 b s lf a hf]
  have e := Cert.MixerReal.M_fold lf li (fun x => val_main_v353 (F := Ideal) x0 x1 x2 x9 x10 (ix4 b a s x)) 0 (s.val + 1) (by omega)
    (fun x hx => by rw [masked_real x0 x1 x2 x9 x10 b s lf li a hf hi, if_pos (by omega)]; simp only [Nat.zero_add])
    (fun x hx => by rw [masked_real x0 x1 x2 x9 x10 b s lf li a hf hi, if_neg (by omega)])
  simp only [Nat.zero_add] at e
  rw [← e, show Cert.MixerReal.M lf li 0 + (B lf (s.val + 1) - B lf 0) = B lf (s.val + 1) from by simp [Cert.MixerReal.M, B]]

/-- The weighted scores over exact reals. -/
theorem weighted_real (hf : ∀ t : Fin 8192, val_main_v333 (F := Ideal) x0 x1 x2 x10 (ix3 b a t) = (lf t.val : EReal))
    (hi : ∀ t : Fin 8192, val_main_v328 (F := Ideal) x0 x1 x2 x9 (ix3 b a t) = (li t.val : EReal))
    (hk : ∀ (t : Fin 8192) d, val_main_v339 (F := Ideal) x0 x1 x2 x7 x8 (ix4 b a t d) = (k t.val d : EReal))
    (hq : ∀ (t : Fin 8192) d, val_main_v335 (F := Ideal) x0 x1 x2 x7 x8 (ix4 b a t d) = (q t.val d : EReal)) (x : Fin 8192) :
    val_main_v361 (F := Ideal) x0 x1 x2 x7 x8 x9 x10 (ix4 b a s x)
      = if x.val ≤ s.val then ((w lf li (s.val + 1) x.val * ∑ d, q s.val d * k x.val d : ℝ) : EReal) else 0 := by
  have e2 : ∑ d, val_main_v335 (F := Ideal) x0 x1 x2 x7 x8 (ix4 b a s d) * val_main_v339 (F := Ideal) x0 x1 x2 x7 x8 (ix4 b a x d)
      = ((∑ d, q s.val d * k x.val d : ℝ) : EReal) := by
    rw [← Cert.Finite.coe_sum]
    exact Finset.sum_congr rfl fun d _ => by rw [hq, hk, ← EReal.coe_mul]
  rw [weighted, e2, masked_real x0 x1 x2 x9 x10 b s lf li a hf hi, stab_real x0 x1 x2 x9 x10 b s lf li a hf hi]
  by_cases h : x.val ≤ s.val
  · rw [if_pos h, if_pos h, ← EReal.coe_sub, EReal.coe_mul]; rfl
  · rw [if_neg h, if_neg h, EReal.bot_sub, show Ideal.exp ⊥ = 0 from rfl, zero_mul]

/-- The numerator over exact reals. -/
theorem num_real (hf : ∀ t : Fin 8192, val_main_v333 (F := Ideal) x0 x1 x2 x10 (ix3 b a t) = (lf t.val : EReal))
    (hi : ∀ t : Fin 8192, val_main_v328 (F := Ideal) x0 x1 x2 x9 (ix3 b a t) = (li t.val : EReal))
    (hk : ∀ (t : Fin 8192) d, val_main_v339 (F := Ideal) x0 x1 x2 x7 x8 (ix4 b a t d) = (k t.val d : EReal))
    (hq : ∀ (t : Fin 8192) d, val_main_v335 (F := Ideal) x0 x1 x2 x7 x8 (ix4 b a t d) = (q t.val d : EReal))
    (hv : ∀ (t : Fin 8192) e, val_main_v341 (F := Ideal) x0 x1 x2 (ix4 b a t e) = (v e t.val : EReal)) (e : Fin 128) :
    val_main_v362 (F := Ideal) x0 x1 x2 x7 x8 x9 x10 (ix4 b a s e) = (N lf li k (v e) (s.val + 1) (q s.val) : EReal) := by
  rw [num]
  refine Cert.MixerReal.sum_masked (by omega) (fun x => w lf li (s.val + 1) x * (∑ d, q s.val d * k x d) * v e x) _ (fun x hx => ?_) fun x hx => ?_
  · rw [weighted_real x0 x1 x2 x7 x8 x9 x10 b s lf li k q a hf hi hk hq, if_pos (by omega), hv, ← EReal.coe_mul]
  · rw [weighted_real x0 x1 x2 x7 x8 x9 x10 b s lf li k q a hf hi hk hq, if_neg (by omega), zero_mul]

/-- The denominator over exact reals. -/
theorem den_real (hf : ∀ t : Fin 8192, val_main_v333 (F := Ideal) x0 x1 x2 x10 (ix3 b a t) = (lf t.val : EReal))
    (hi : ∀ t : Fin 8192, val_main_v328 (F := Ideal) x0 x1 x2 x9 (ix3 b a t) = (li t.val : EReal))
    (hk : ∀ (t : Fin 8192) d, val_main_v339 (F := Ideal) x0 x1 x2 x7 x8 (ix4 b a t d) = (k t.val d : EReal))
    (hq : ∀ (t : Fin 8192) d, val_main_v335 (F := Ideal) x0 x1 x2 x7 x8 (ix4 b a t d) = (q t.val d : EReal)) :
    val_main_v367 (F := Ideal) x0 x1 x2 x7 x8 x9 x10 (ix3 b a s)
      = ((max |N lf li k (fun _ => 1) (s.val + 1) (q s.val)| (Real.exp (-Cert.MixerReal.M lf li (s.val + 1))) : ℝ) : EReal) := by
  have e : val_main_v367 (F := Ideal) x0 x1 x2 x7 x8 x9 x10 (ix3 b a s)
      = max (FloatOps.absf (F := Ideal) (φ := .f32) (∑ x, val_main_v361 (F := Ideal) x0 x1 x2 x7 x8 x9 x10 (ix4 b a s x)))
          (Ideal.exp (-(val_main_v355 (F := Ideal) x0 x1 x2 x9 x10 (ix3 b a s)))) := by
    pointwise [val_main_v363, val_main_v364, val_main_v365, val_main_v366, val_main_v367, val_main_cst_16]
  have e2 : ∑ x, val_main_v361 (F := Ideal) x0 x1 x2 x7 x8 x9 x10 (ix4 b a s x) = (N lf li k (fun _ => 1) (s.val + 1) (q s.val) : EReal) := by
    refine Cert.MixerReal.sum_masked (by omega) (fun x => w lf li (s.val + 1) x * (∑ d, q s.val d * k x d) * 1) _ (fun x hx => ?_) fun x hx => ?_
    · rw [weighted_real x0 x1 x2 x7 x8 x9 x10 b s lf li k q a hf hi hk hq, if_pos (by omega), mul_one]
    · rw [weighted_real x0 x1 x2 x7 x8 x9 x10 b s lf li k q a hf hi hk hq, if_neg (by omega)]
  rw [e, e2, stab_real x0 x1 x2 x9 x10 b s lf li a hf hi]
  show max (max ((N lf li k (fun _ => 1) (s.val + 1) (q s.val) : ℝ) : EReal) (-((N lf li k (fun _ => 1) (s.val + 1) (q s.val) : ℝ) : EReal)))
    (Ideal.exp (-((Cert.MixerReal.M lf li (s.val + 1) : ℝ) : EReal))) = _
  rw [← EReal.coe_neg, ← EReal.coe_neg, Cert.MixerIdeal.Stage.exp_coe, ← EReal.coe_strictMono.monotone.map_max, ← EReal.coe_strictMono.monotone.map_max]
  rfl

end Cert.MixerRefIdeal.Tok

end
-- ==== Proof.MixerRows.lean ====
/- The mixer's stages at an index: its rows and blocks from what it loads, and those as the reference's at a token. -/
module

public import proofs.«01_k».proof.Proof.MixerTile
public import proofs.«01_k».proof.Proof.MixerRef
public import proofs.«01_k».proof.Proof.Scalars

@[expose] public section

set_option maxRecDepth 16384

noncomputable section

open Idealize.ShloMosaic Idealize.ShloMosaic.TcCoe Idealize.SL.Sem

namespace Cert.MixerIdeal.Stage

open Cert.MixerIdeal Cert.MixerIdeal.Gen
open Cert.MixerRefIdeal.Tok (acc acc_start acc_congr back row wts act norm5)

/-- A convolution's taps at an index. -/
theorem convAcc_at {K : ℕ} (bias : Vec Ideal S1x128 .f32) (tap : Fin K → Vec Ideal S1x1024x128 .f32) (wt : Fin K → Vec Ideal S1x128 .f32)
    (r : Fin 1024) (l : Fin 128) (n : ℕ) (h : n ≤ K) : convAcc bias tap wt n h (ix2 r l)
      = acc (bias (ix2 0 l)) (fun j => if hj : j < K then tap ⟨j, hj⟩ (ix3 0 r l) else 0) (wts fun j => wt j (ix2 0 l)) n := by
  induction n with
  | zero => pointwise [convAcc, acc]
  | succ n ih =>
    have e : convAcc bias tap wt (n + 1) h (ix2 r l)
        = convAcc bias tap wt n (Nat.le_of_succ_le h) (ix2 r l) + tap ⟨n, h⟩ (ix3 0 r l) * wt ⟨n, h⟩ (ix2 0 l) := by
      rw [convAcc]
      generalize convAcc bias tap wt n (Nat.le_of_succ_le h) = y
      generalize tap ⟨n, h⟩ = u
      generalize wt ⟨n, h⟩ = v
      pointwise []
    have hn : n < K := h
    rw [e, ih, acc, dif_pos hn, wts, dif_pos hn]

/-- The logistic unit at an index. -/
theorem silu_at {s : Shape} (x : FVec Ideal s .f32) (i : s.Idx) : silu x i = act (x i) := by
  rw [act, ← Cert.Scalars.logistic_of_tanh]
  rfl

/-- The wide convolution's lane groups side by side, at an index. -/
theorem catU_at (a : Fin 4 → FVec Ideal S1024x128 .f32) (r : Fin 1024) (n : Fin 4) (l : Fin 128) :
    catU a (ix2 r ⟨128 * n.val + l.val, by omega⟩) = a n (ix2 r l) := by
  have h0 := l.isLt
  match n with
  | 0 => pointwise [catU]
  | 1 => pointwise [catU]
  | 2 =>
    pointwise [catU]
    rw [dif_neg (show ¬256 + l.val < 128 by omega), dif_neg (show ¬256 + l.val - 128 < 128 by omega), dif_pos (show 256 + l.val - 128 - 128 < 128 by omega)]
    exact congrArg (fun x => a 2 (ix2 r x)) (Fin.ext (show 256 + l.val - 128 - 128 = l.val by omega))
  | 3 =>
    pointwise [catU]
    rw [dif_neg (show ¬384 + l.val < 128 by omega), dif_neg (show ¬384 + l.val - 128 < 128 by omega), dif_neg (show ¬384 + l.val - 128 - 128 < 128 by omega)]
    exact congrArg (fun x => a 3 (ix2 r x)) (Fin.ext (show 384 + l.val - 128 - 128 - 128 = l.val by omega))

/-- The narrow convolution's lane groups side by side, at an index. -/
theorem catQ_at (a : Fin 8 → FVec Ideal S1024x128 .f32) (r : Fin 1024) (n : Fin 8) (l : Fin 128) :
    catQ a (ix2 r ⟨128 * n.val + l.val, by omega⟩) = a n (ix2 r l) := by
  have h0 := l.isLt
  match n with
  | 0 => pointwise [catQ]
  | 1 => pointwise [catQ]
  | 2 =>
    pointwise [catQ]
    rw [dif_neg (show ¬256 + l.val < 128 by omega), dif_neg (show ¬256 + l.val - 128 < 128 by omega), dif_pos (show 256 + l.val - 128 - 128 < 128 by omega)]
    exact congrArg (fun x => a 2 (ix2 r x)) (Fin.ext (show 256 + l.val - 128 - 128 = l.val by omega))
  | 3 =>
    pointwise [catQ]
    rw [dif_neg (show ¬384 + l.val < 128 by omega), dif_neg (show ¬384 + l.val - 128 < 128 by omega), dif_neg (show ¬384 + l.val - 128 - 128 < 128 by omega), dif_pos (show 384 + l.val - 128 - 128 - 128 < 128 by omega)]
    exact congrArg (fun x => a 3 (ix2 r x)) (Fin.ext (show 384 + l.val - 128 - 128 - 128 = l.val by omega))
  | 4 =>
    pointwise [catQ]
    rw [dif_neg (show ¬512 + l.val < 128 by omega), dif_neg (show ¬512 + l.val - 128 < 128 by omega), dif_neg (show ¬512 + l.val - 128 - 128 < 128 by omega), dif_neg (show ¬512 + l.val - 128 - 128 - 128 < 128 by omega), dif_pos (show 512 + l.val - 128 - 128 - 128 - 128 < 128 by omega)]
    exact congrArg (fun x => a 4 (ix2 r x)) (Fin.ext (show 512 + l.val - 128 - 128 - 128 - 128 = l.val by omega))
  | 5 =>
    pointwise [catQ]
    rw [dif_neg (show ¬640 + l.val < 128 by omega), dif_neg (show ¬640 + l.val - 128 < 128 by omega), dif_neg (show ¬640 + l.val - 128 - 128 < 128 by omega), dif_neg (show ¬640 + l.val - 128 - 128 - 128 < 128 by omega), dif_neg (show ¬640 + l.val - 128 - 128 - 128 - 128 < 128 by omega), dif_pos (show 640 + l.val - 128 - 128 - 128 - 128 - 128 < 128 by omega)]
    exact congrArg (fun x => a 5 (ix2 r x)) (Fin.ext (show 640 + l.val - 128 - 128 - 128 - 128 - 128 = l.val by omega))
  | 6 =>
    pointwise [catQ]
    rw [dif_neg (show ¬768 + l.val < 128 by omega), dif_neg (show ¬768 + l.val - 128 < 128 by omega), dif_neg (show ¬768 + l.val - 128 - 128 < 128 by omega), dif_neg (show ¬768 + l.val - 128 - 128 - 128 < 128 by omega), dif_neg (show ¬768 + l.val - 128 - 128 - 128 - 128 < 128 by omega), dif_neg (show ¬768 + l.val - 128 - 128 - 128 - 128 - 128 < 128 by omega), dif_pos (show 768 + l.val - 128 - 128 - 128 - 128 - 128 - 128 < 128 by omega)]
    exact congrArg (fun x => a 6 (ix2 r x)) (Fin.ext (show 768 + l.val - 128 - 128 - 128 - 128 - 128 - 128 = l.val by omega))
  | 7 =>
    pointwise [catQ]
    rw [dif_neg (show ¬896 + l.val < 128 by omega), dif_neg (show ¬896 + l.val - 128 < 128 by omega), dif_neg (show ¬896 + l.val - 128 - 128 < 128 by omega), dif_neg (show ¬896 + l.val - 128 - 128 - 128 < 128 by omega), dif_neg (show ¬896 + l.val - 128 - 128 - 128 - 128 < 128 by omega), dif_neg (show ¬896 + l.val - 128 - 128 - 128 - 128 - 128 < 128 by omega), dif_neg (show ¬896 + l.val - 128 - 128 - 128 - 128 - 128 - 128 < 128 by omega)]
    exact congrArg (fun x => a 7 (ix2 r x)) (Fin.ext (show 896 + l.val - 128 - 128 - 128 - 128 - 128 - 128 - 128 = l.val by omega))

variable (I : Ins Ideal) (R : Rds Ideal)

/-- The convolution path's rows at an index. -/
theorem convRows_at (r : Fin 1024) (l : Fin 512) : convRows I R (ix2 r l)
    = act (norm5 (fun x => catU (convU I R) (ix2 r x)) (I.lng (ix2 0 l)) (I.lnb (ix2 0 l)) l) := by
  rw [act, ← Cert.Scalars.logistic_of_tanh]
  unfold convRows norm5
  generalize catU (convU I R) = y
  pointwise [centred, silu]

/-- The queries at an index. -/
theorem qRows_at (r : Fin 1024) (l : Fin 512) : qRows I R (ix2 r l) = act (catQ (convQ I R) (ix2 r ⟨l.val, by omega⟩)) := by
  rw [← silu_at]
  show _ = qkRows I R _
  unfold qRows
  generalize qkRows I R = y
  pointwise []

/-- The keys at an index. -/
theorem kRows_at (r : Fin 1024) (l : Fin 512) : kRows I R (ix2 r l)
    = act (catQ (convQ I R) (ix2 r ⟨512 + l.val, by omega⟩)) * Ideal.ofBits FTy.f32 0x3DB504F3#32 := by
  rw [← silu_at]
  show _ = qkRows I R _ * _
  unfold kRows
  generalize qkRows I R = y
  pointwise []

/-- A head's output rows at an index. -/
theorem mixBlk_at (o nm : FVec Ideal S128x128 .f32) (dn : FVec Ideal S128x1 .f32) (g : Vec Ideal S1x128 .f32) (r l : Fin 128) :
    mixBlk o nm dn g (ix2 r l) = o (ix2 r l) * (nm (ix2 r l) * Ideal.div 1 (dn (ix2 r 0))
      * Ideal.rsqrt (Ideal.div (∑ x, nm (ix2 r x) * Ideal.div 1 (dn (ix2 r 0)) * (nm (ix2 r x) * Ideal.div 1 (dn (ix2 r 0))))
          (Ideal.ofBits FTy.f32 1124073472#32) + Ideal.ofBits FTy.f32 897988541#32) * g (ix2 0 l)) := by
  pointwise [mixBlk]

/-- The result block at an index. -/
theorem outBlk_at (x : Vec Ideal S1024x1024 .bf16) (r c : Fin 1024) : outBlk I x (ix3 0 r c)
    = I.h (ix3 0 r c) + (∑ k, x (ix2 r k) * I.wout (ix2 k c))
      * Ideal.rsqrt (Ideal.div (∑ c, (∑ k, x (ix2 r k) * I.wout (ix2 k c)) * (∑ k, x (ix2 r k) * I.wout (ix2 k c))) (Ideal.ofBits FTy.f32 1149239296#32)
        + Ideal.ofBits FTy.f32 897988541#32) * I.gpost (ix2 0 c) := by
  unfold outBlk
  generalize I.h = h
  generalize I.wout = w
  generalize I.gpost = g
  pointwise [k0_pay2, k0_pay7]

/-- The normalized rows at an index. -/
theorem pay8_at (r k : Fin 1024) : k0_pay8 I.h I.gpre (ix2 r k) = I.h (ix3 0 r k) * Ideal.rsqrt (Ideal.div (∑ l, I.h (ix3 0 r l) * I.h (ix3 0 r l))
    (Ideal.ofBits .f32 1149239296#32) + Ideal.ofBits .f32 897988541#32) * I.gpre (ix2 0 k) := by
  generalize I.h = h
  generalize I.gpre = g
  pointwise [k0_pay8, k0_pay7]

/-- The projected rows at an index. -/
theorem zrow_at (r : Fin 1024) (l : Fin 3072) : zrow I (ix2 r l) = ∑ k, k0_pay8 I.h I.gpre (ix2 r k) * I.win (ix2 k l) := by
  unfold zrow
  pointwise [k0_pay9]

/-- The gates' rows at an index. -/
theorem gRows_at (r : Fin 1024) (l : Fin 128) : gRows I (ix2 r l) = ∑ k, k0_pay8 I.h I.gpre (ix2 r k) * I.wgate (ix2 k l) := by
  unfold gRows
  pointwise [k0_pay10]

/-- The convolution path's input at an index. -/
theorem urow_at (r : Fin 1024) (l : Fin 512) : urow I (ix2 r l) = zrow I (ix2 r ⟨l.val, by omega⟩)
    * Ideal.div 1 (1 + Ideal.exp (-(zrow I (ix2 r ⟨512 + l.val, by omega⟩)))) := by
  rw [← Cert.Scalars.logistic_of_tanh]
  unfold zrow urow
  pointwise [k0_pay11]

/-- The query and key columns at an index. -/
theorem zqk_at (r l : Fin 1024) : zqk I (ix2 r l) = zrow I (ix2 r ⟨1024 + l.val, by omega⟩) := by
  unfold zqk
  generalize zrow I = y
  pointwise [k0_pay77]

/-- The values at an index. -/
theorem vRows_at (r : Fin 1024) (l : Fin 512) : vRows I (ix2 r l) = zrow I (ix2 r ⟨2048 + l.val, by omega⟩) := by
  unfold vRows
  generalize zrow I = y
  pointwise [k0_pay118]

/-- The output gate at an index. -/
theorem oRows_at (r : Fin 1024) (l : Fin 512) : oRows I (ix2 r l) = Ideal.div 1 (1 + Ideal.exp (-(zrow I (ix2 r ⟨2560 + l.val, by omega⟩)))) := by
  rw [← Cert.Scalars.logistic_of_tanh]
  unfold oRows
  generalize zrow I = y
  pointwise [k0_pay119]

/-- The input gates at an index. -/
theorem li_at (a : Fin 4) (r : Fin 1024) : li I (ix2 (row8 a) r) = gRows I (ix2 r ⟨a.val, by omega⟩) + I.gb (ix2 0 ⟨a.val, by omega⟩) := by
  unfold li row8
  generalize gRows I = y
  generalize I.gb = z
  pointwise [k0_pay124, k0_pay123, k0_pay120]
  rw [sel_ge (by omega) (by norm_num), if_neg (by omega)]

/-- The forget gates' logarithms at an index. -/
theorem lf_at (a : Fin 4) (r : Fin 1024) : lf I (ix2 (row8 a) r)
    = min (gRows I (ix2 r ⟨8 + a.val, by omega⟩) + I.gb (ix2 0 ⟨8 + a.val, by omega⟩)) 0
      - Ideal.log1p (Ideal.exp (0 - FloatOps.absf (F := Ideal) (φ := .f32) (gRows I (ix2 r ⟨8 + a.val, by omega⟩) + I.gb (ix2 0 ⟨8 + a.val, by omega⟩)))) := by
  unfold lf row8
  generalize gRows I = y
  generalize I.gb = z
  pointwise [k0_pay125, k0_pay123, k0_pay120, k0_pay121, k0_pay122]
  rw [sel_ge (by omega) (by norm_num), if_pos (by omega)]

end Cert.MixerIdeal.Stage

end
-- ==== Proof.MixerMatch.lean ====
/- The mixer's stages against its reference: a tile that loads a sequence's rows computes the reference's values at those
   tokens. -/
module

public import proofs.«01_k».proof.Proof.MixerRows

@[expose] public section

set_option maxRecDepth 16384

noncomputable section

open Idealize.ShloMosaic Idealize.ShloMosaic.TcCoe Idealize.SL.Sem

namespace Cert.MixerIdeal.Stage

open Cert.MixerIdeal Cert.MixerIdeal.Gen
open Cert.Finite (IsReal)
open Cert.MixerRefIdeal.Tok (acc acc_start acc_congr back row wts act norm5)
open Cert.MixerRefIdeal.Read

/-- A real accumulation of real taps. -/
theorem acc_isReal {b : EReal} {x w : ℕ → EReal} (hb : IsReal b) (n : ℕ) (hx : ∀ j, IsReal (x j)) (hw : ∀ j, IsReal (w j)) : IsReal (acc b x w n) := by
  induction n with
  | zero => exact hb
  | succ n ih => exact ih.add ((hx n).mul (hw n))

/-- Zero is real. -/
theorem zero_isReal : IsReal 0 := ⟨0, EReal.coe_zero.symm⟩

/-- A value some tokens back is real where the values are. -/
theorem back_isReal {y : Fin 8192 → EReal} (h : ∀ t, IsReal (y t)) (p n : ℕ) : IsReal (back (row y) p n) := by
  unfold back row
  by_cases h1 : p ≤ n
  · rw [if_pos h1]
    by_cases h2 : n - p < 8192
    · rw [dif_pos h2]; exact h _
    · rw [dif_neg h2]; exact zero_isReal
  · rw [if_neg h1]; exact zero_isReal

/-- A tap's weights are real where the weights are. -/
theorem wts_isReal {k : ℕ} {w : Fin k → EReal} (h : ∀ j, IsReal (w j)) (j : ℕ) : IsReal (wts w j) := by
  unfold wts
  by_cases h1 : j < k
  · rw [dif_pos h1]; exact h _
  · rw [dif_neg h1]; exact zero_isReal

/-- The logistic unit of a real is real. -/
theorem act_isReal {x : EReal} (h : IsReal x) : IsReal (act x) := by
  obtain ⟨r, rfl⟩ := h
  refine (Cert.Finite.isReal_coe r).mul ⟨(1 + Real.exp (-r))⁻¹, ?_⟩
  have e : (1 : EReal) + Ideal.exp (-(r : EReal)) = ((1 + Real.exp (-r) : ℝ) : EReal) := by
    rw [← EReal.coe_neg, exp_coe]; norm_cast
  have hp : (0 : ℝ) < 1 + Real.exp (-r) := by positivity
  rw [e, Ideal.div, if_neg (by exact_mod_cast hp.ne'), one_mul, EReal.coe_inv]

/-- A sequence of reals by token. -/
def seq (y : Fin 8192 → EReal) (t : ℕ) : ℝ := if h : t < 8192 then (y ⟨t, h⟩).toReal else 0

/-- The values are their sequence. -/
theorem seq_coe {y : Fin 8192 → EReal} (h : ∀ t, IsReal (y t)) (t : Fin 8192) : y t = (seq y t.val : EReal) := by
  rw [seq, dif_pos t.isLt]
  obtain ⟨r, hr⟩ := h t
  rw [hr, EReal.toReal_coe]

/-- The maximum of two reals. -/
theorem coe_max (x y : ℝ) : max (x : EReal) (y : EReal) = ((max x y : ℝ) : EReal) := (EReal.coe_strictMono.monotone.map_max).symm

/-- The logarithm of a logistic as the kernel forms it, and as the reference does. -/
theorem logsig {y : EReal} (h : IsReal y) :
    min y 0 - Ideal.log1p (Ideal.exp (0 - FloatOps.absf (F := Ideal) (φ := .f32) y))
      = -(max (-y) 0 + Ideal.log1p (Ideal.exp (-FloatOps.absf (F := Ideal) (φ := .f32) (-y))))
    ∧ IsReal (-(max (-y) 0 + Ideal.log1p (Ideal.exp (-FloatOps.absf (F := Ideal) (φ := .f32) (-y))))) := by
  obtain ⟨r, rfl⟩ := h
  have a1 : FloatOps.absf (F := Ideal) (φ := .f32) ((r : ℝ) : EReal) = ((max r (-r) : ℝ) : EReal) := by
    show max (r : EReal) (-(r : EReal)) = _
    rw [← EReal.coe_neg, coe_max]
  have a2 : FloatOps.absf (F := Ideal) (φ := .f32) (-((r : ℝ) : EReal)) = ((max r (-r) : ℝ) : EReal) := by
    show max (-(r : EReal)) (-(-(r : EReal))) = _
    rw [neg_neg, ← EReal.coe_neg, coe_max, max_comm]
  obtain ⟨L, hL⟩ := Cert.MixerRefIdeal.Tok.log1p_exp (-(max r (-r)))
  rw [a1, a2, zero_sub, ← EReal.coe_neg, hL, ← EReal.coe_zero, ← EReal.coe_neg, coe_max, ← EReal.coe_add, ← EReal.coe_neg]
  refine ⟨?_, Cert.Finite.isReal_coe _⟩
  have e : min (r : EReal) ((0 : ℝ) : EReal) = ((min r 0 : ℝ) : EReal) := (EReal.coe_strictMono.monotone.map_min).symm
  rw [e, ← EReal.coe_sub, show min r 0 = -(max (-r) 0) from by rw [← neg_zero, max_neg_neg, neg_neg, neg_zero]]
  congr 1; ring

variable (x0 : FVec Ideal S8x8192x1024 .f32) (x1 : FVec Ideal S1x1024 .f32) (x2 : FVec Ideal S1x1024x3080 .f32) (x3 : FVec Ideal S1x31x512 .f32)
  (x4 x5 x6 : FVec Ideal S1x512 .f32) (x7 : FVec Ideal S1x4x1024 .f32) (x8 : FVec Ideal S1x1024 .f32) (x9 x10 : FVec Ideal S1x4 .f32)
  (x11 : FVec Ideal S1x512 .f32) (x12 : FVec Ideal S1x1024x1024 .f32) (x13 : FVec Ideal S1x1024 .f32)

/-- The arguments the recurrence runs through are real. -/
structure Reals : Prop where
  r1 : ∀ i, IsReal (x1 i)
  r2 : ∀ i, IsReal (x2 i)
  r7 : ∀ i, IsReal (x7 i)
  r8 : ∀ i, IsReal (x8 i)
  r9 : ∀ i, IsReal (x9 i)
  r10 : ∀ i, IsReal (x10 i)

section reals

variable {x1 x2 x7 x8 x9 x10}
variable (P : Reals x1 x2 x7 x8 x9 x10) (b : Fin 8) (s : Fin 8192)
include P

/-- The projected rows are real. -/
theorem Reals.z (c : Fin 3080) : IsReal (val_main_v25 (F := Ideal) x0 x1 x2 (ix3 b s c)) := by
  rw [Cert.MixerRefIdeal.Tok.proj]
  refine IsReal.sum fun k => ?_
  rw [Cert.MixerRefIdeal.Tok.normed]
  exact ((Cert.Finite.isReal_normed (fun l => x0 (ix3 b s l)) k).mul (P.r1 _)).mul (P.r2 _)

/-- The convolved query and key columns are real. -/
theorem Reals.unit (c : Fin 1024) : IsReal (val_main_v322 (F := Ideal) x0 x1 x2 x7 x8 (ix3 b s c)) := by
  rw [Cert.MixerRefIdeal.Tok.unit]
  refine act_isReal ?_
  rw [Cert.MixerRefIdeal.Tok.narrow]
  refine (acc_isReal zero_isReal 4 (fun j => back_isReal (fun t => ?_) _ _) fun j => wts_isReal (fun j => P.r7 _) _).add (P.r8 _)
  rw [Cert.MixerRefIdeal.Tok.qk]
  exact P.z x0 b t _

/-- The queries are real. -/
theorem Reals.query (a : Fin 4) (d : Fin 128) : IsReal (val_main_v335 (F := Ideal) x0 x1 x2 x7 x8 (ix4 b a s d)) := by
  rw [Cert.MixerRefIdeal.Tok.query]; exact P.unit x0 b s _

/-- The keys are real. -/
theorem Reals.key (a : Fin 4) (d : Fin 128) : IsReal (val_main_v339 (F := Ideal) x0 x1 x2 x7 x8 (ix4 b a s d)) := by
  rw [Cert.MixerRefIdeal.Tok.key]
  refine (P.unit x0 b s _).mul ⟨11863283 / 2 ^ 27, ?_⟩
  simp [Ideal.ofBits, Ideal.ieee]
  norm_cast

/-- The values are real. -/
theorem Reals.value (a : Fin 4) (d : Fin 128) : IsReal (val_main_v341 (F := Ideal) x0 x1 x2 (ix4 b a s d)) := by
  rw [Cert.MixerRefIdeal.Tok.value]; exact P.z x0 b s _

/-- The forget gates' logarithms are real. -/
theorem Reals.gate_f (a : Fin 4) : IsReal (val_main_v333 (F := Ideal) x0 x1 x2 x10 (ix3 b a s)) := by
  rw [Cert.MixerRefIdeal.Tok.gate_f]; exact (logsig ((P.z x0 b s _).add (P.r10 _))).2

/-- The input gates are real. -/
theorem Reals.gate_i (a : Fin 4) : IsReal (val_main_v328 (F := Ideal) x0 x1 x2 x9 (ix3 b a s)) := by
  rw [Cert.MixerRefIdeal.Tok.gate_i]; exact (P.z x0 b s _).add (P.r9 _)

end reals

/-- The forget gates by token. -/
def sF (b : Fin 8) (a : Fin 4) : ℕ → ℝ := seq fun t => val_main_v333 (F := Ideal) x0 x1 x2 x10 (ix3 b a t)
/-- The input gates by token. -/
def sI (b : Fin 8) (a : Fin 4) : ℕ → ℝ := seq fun t => val_main_v328 (F := Ideal) x0 x1 x2 x9 (ix3 b a t)
/-- The keys by token. -/
def sK (b : Fin 8) (a : Fin 4) (t : ℕ) (d : Fin 128) : ℝ := seq (fun t => val_main_v339 (F := Ideal) x0 x1 x2 x7 x8 (ix4 b a t d)) t
/-- The queries by token. -/
def sQ (b : Fin 8) (a : Fin 4) (t : ℕ) (d : Fin 128) : ℝ := seq (fun t => val_main_v335 (F := Ideal) x0 x1 x2 x7 x8 (ix4 b a t d)) t
/-- The values by token, then a column of ones, then zeros. -/
def sV (b : Fin 8) (a : Fin 4) (e : Fin 256) (t : ℕ) : ℝ :=
  if h : e.val < 128 then seq (fun t => val_main_v341 (F := Ideal) x0 x1 x2 (ix4 b a t ⟨e.val, h⟩)) t else if e.val = 128 then 1 else 0

/-- What a tile loads: a sequence's rows from token `T`, and the weights. -/
structure Src (I : Ins Ideal) (b : Fin 8) (T : ℕ) (hT : T + 1024 ≤ 8192) : Prop where
  h : ∀ (r l : Fin 1024), I.h (ix3 0 r l) = x0 (ix3 b ⟨T + r.val, by omega⟩ l)
  gpre : ∀ l, I.gpre (ix2 0 l) = x1 (ix2 0 l)
  win : ∀ (k : Fin 1024) (l : Fin 3072), I.win (ix2 k l) = x2 (ix3 0 k ⟨l.val, by omega⟩)
  wgate : ∀ (k : Fin 1024) (l : Fin 128), I.wgate (ix2 k l) = if h : 8 ≤ l.val ∧ l.val < 8 + 4 then x2 (ix3 0 k ⟨3076 + (l.val - 8), by omega⟩)
    else if h : l.val < 4 then x2 (ix3 0 k ⟨3072 + l.val, by omega⟩) else (0 : EReal)
  wc : ∀ (n : Fin 4) (j : Fin 31) (l : Fin 128), I.wc n j (ix2 0 l) = x3 (ix3 0 j ⟨128 * n.val + l.val, by omega⟩)
  bc : ∀ (n : Fin 4) (l : Fin 128), I.bc n (ix2 0 l) = x4 (ix2 0 ⟨128 * n.val + l.val, by omega⟩)
  lng : ∀ l, I.lng (ix2 0 l) = x5 (ix2 0 l)
  lnb : ∀ l, I.lnb (ix2 0 l) = x6 (ix2 0 l)
  wq : ∀ (n : Fin 8) (j : Fin 4) (l : Fin 128), I.wq n j (ix2 0 l) = x7 (ix3 0 j ⟨128 * n.val + l.val, by omega⟩)
  bq : ∀ (n : Fin 8) (l : Fin 128), I.bq n (ix2 0 l) = x8 (ix2 0 ⟨128 * n.val + l.val, by omega⟩)
  gb : ∀ (l : Fin 128), I.gb (ix2 0 l) = if h : 8 ≤ l.val ∧ l.val < 8 + 4 then x10 (ix2 0 ⟨l.val - 8, by omega⟩)
    else if h : l.val < 4 then x9 (ix2 0 ⟨l.val, h⟩) else (0 : EReal)
  gn : ∀ (n : Fin 4) (l : Fin 128), I.gn n (ix2 0 l) = x11 (ix2 0 ⟨128 * n.val + l.val, by omega⟩)
  wout : ∀ (k l : Fin 1024), I.wout (ix2 k l) = x12 (ix3 0 k l)
  gpost : ∀ l, I.gpost (ix2 0 l) = x13 (ix2 0 l)

section rows

variable {x0 x1 x2 x3 x4 x5 x6 x7 x8 x9 x10 x11 x12 x13}
variable {I : Ins Ideal} {b : Fin 8} {T : ℕ} {hT : T + 1024 ≤ 8192}
variable (S : Src x0 x1 x2 x3 x4 x5 x6 x7 x8 x9 x10 x11 x12 x13 I b T hT)
include S

/-- The normalized rows. -/
theorem Src.n (r k : Fin 1024) : k0_pay8 I.h I.gpre (ix2 r k) = val_main_v13 (F := Ideal) x0 x1 (ix3 b ⟨T + r.val, by omega⟩ k) := by
  rw [pay8_at, Cert.MixerRefIdeal.Tok.normed, S.gpre]
  simp only [S.h]

/-- The projected rows. -/
theorem Src.z (r : Fin 1024) (l : Fin 3072) : zrow I (ix2 r l) = val_main_v25 (F := Ideal) x0 x1 x2 (ix3 b ⟨T + r.val, by omega⟩ ⟨l.val, by omega⟩) := by
  rw [zrow_at, Cert.MixerRefIdeal.Tok.proj]
  exact Finset.sum_congr rfl fun k _ => by rw [S.n, S.win]

/-- The input gates. -/
theorem Src.gi (r : Fin 1024) (a : Fin 4) : li I (ix2 (row8 a) r) = val_main_v328 (F := Ideal) x0 x1 x2 x9 (ix3 b a ⟨T + r.val, by omega⟩) := by
  have e : gRows I (ix2 r ⟨a.val, by omega⟩) = val_main_v25 (F := Ideal) x0 x1 x2 (ix3 b ⟨T + r.val, by omega⟩ ⟨3072 + a.val, by omega⟩) := by
    rw [gRows_at, Cert.MixerRefIdeal.Tok.proj]
    exact Finset.sum_congr rfl fun k _ => by
      rw [S.n, S.wgate, dif_neg (by show ¬(8 ≤ a.val ∧ a.val < 8 + 4); omega), dif_pos (show a.val < 4 from a.isLt)]
  rw [li_at, Cert.MixerRefIdeal.Tok.gate_i, e, S.gb, dif_neg (by show ¬(8 ≤ a.val ∧ a.val < 8 + 4); omega), dif_pos (show a.val < 4 from a.isLt)]

/-- The forget gates' logarithms. -/
theorem Src.gf (P : Reals x1 x2 x7 x8 x9 x10) (r : Fin 1024) (a : Fin 4) :
    lf I (ix2 (row8 a) r) = val_main_v333 (F := Ideal) x0 x1 x2 x10 (ix3 b a ⟨T + r.val, by omega⟩) := by
  have ha : 8 ≤ 8 + a.val ∧ 8 + a.val < 8 + 4 := by omega
  have q : (⟨8 + a.val - 8, by omega⟩ : Fin 4) = a := Fin.ext (by show 8 + a.val - 8 = a.val; omega)
  have e : gRows I (ix2 r ⟨8 + a.val, by omega⟩) = val_main_v25 (F := Ideal) x0 x1 x2 (ix3 b ⟨T + r.val, by omega⟩ ⟨3076 + a.val, by omega⟩) := by
    rw [gRows_at, Cert.MixerRefIdeal.Tok.proj]
    exact Finset.sum_congr rfl fun k _ => by
      rw [S.n, S.wgate, dif_pos ha]
      exact congrArg (fun x => _ * x2 (ix3 0 k x)) (Fin.ext (show 3076 + (8 + a.val - 8) = 3076 + a.val by omega))
  have g : I.gb (ix2 0 ⟨8 + a.val, by omega⟩) = x10 (ix2 0 a) := by
    rw [S.gb, dif_pos ha]
    exact congrArg (fun x => x10 (ix2 0 x)) q
  rw [lf_at, Cert.MixerRefIdeal.Tok.gate_f, e, g]
  exact (logsig ((P.z x0 b _ _).add (P.r10 _))).1

/-- The convolution path's input. -/
theorem Src.u (r : Fin 1024) (l : Fin 512) : urow I (ix2 r l) = val_main_v40 (F := Ideal) x0 x1 x2 (ix3 b ⟨T + r.val, by omega⟩ l) := by
  rw [urow_at, Cert.MixerRefIdeal.Tok.path, S.z, S.z]

/-- The query and key columns. -/
theorem Src.qk (r l : Fin 1024) : zqk I (ix2 r l) = val_main_v288 (F := Ideal) x0 x1 x2 (ix3 b ⟨T + r.val, by omega⟩ l) := by
  rw [zqk_at, Cert.MixerRefIdeal.Tok.qk, S.z]

/-- The values. -/
theorem Src.v (r : Fin 1024) (a : Fin 4) (d : Fin 128) : vRows I (ix2 r ⟨128 * a.val + d.val, by omega⟩)
    = val_main_v341 (F := Ideal) x0 x1 x2 (ix4 b a ⟨T + r.val, by omega⟩ d) := by
  rw [vRows_at, Cert.MixerRefIdeal.Tok.value, S.z]

variable {R : Rds Ideal}

/-- A lane group of the wide convolution. -/
theorem Src.convU (n : Fin 4) (r : Fin 1024) (l : Fin 128)
    (ht : ∀ (j : Fin 31), R.tapU (storeU I n (piecesU I R n.val n.isLt.le)) n j (ix3 0 r l)
      = back (row fun t => val_main_v40 (F := Ideal) x0 x1 x2 (ix3 b t ⟨128 * n.val + l.val, by omega⟩)) 30 (j.val + (T + r.val))) :
    Stage.convU I R n (ix2 r l) = val_main_v262 (F := Ideal) x0 x1 x2 x3 x4 (ix3 b ⟨T + r.val, by omega⟩ ⟨128 * n.val + l.val, by omega⟩) := by
  rw [Stage.convU, convAcc_at, Cert.MixerRefIdeal.Tok.wide, S.bc, ← acc_start, zero_add]
  refine acc_congr 31 (fun j hj => ?_) fun j hj => ?_
  · rw [dif_pos hj, ht ⟨j, hj⟩]
  · rw [wts, wts, dif_pos hj, dif_pos hj, S.wc]

/-- A lane group of the narrow convolution. -/
theorem Src.convQ (n : Fin 8) (r : Fin 1024) (l : Fin 128)
    (ht : ∀ (j : Fin 4), R.tapQ (storeQ I n (piecesQ I R n.val n.isLt.le)) n j (ix3 0 r l)
      = back (row fun t => val_main_v288 (F := Ideal) x0 x1 x2 (ix3 b t ⟨128 * n.val + l.val, by omega⟩)) 3 (j.val + (T + r.val))) :
    Stage.convQ I R n (ix2 r l) = val_main_v321 (F := Ideal) x0 x1 x2 x7 x8 (ix3 b ⟨T + r.val, by omega⟩ ⟨128 * n.val + l.val, by omega⟩) := by
  rw [Stage.convQ, convAcc_at, Cert.MixerRefIdeal.Tok.narrow, S.bq, ← acc_start, zero_add]
  refine acc_congr 4 (fun j hj => ?_) fun j hj => ?_
  · rw [dif_pos hj, ht ⟨j, hj⟩]
  · rw [wts, wts, dif_pos hj, dif_pos hj, S.wq]

end rows

/-- How a tile's convolutions read their buffers. -/
structure Taps (I : Ins Ideal) (R : Rds Ideal) (b : Fin 8) (T : ℕ) : Prop where
  u : ∀ (n : Fin 4) (j : Fin 31) (r : Fin 1024) (l : Fin 128), R.tapU (storeU I n (piecesU I R n.val n.isLt.le)) n j (ix3 0 r l)
      = back (row fun t => val_main_v40 (F := Ideal) x0 x1 x2 (ix3 b t ⟨128 * n.val + l.val, by omega⟩)) 30 (j.val + (T + r.val))
  q : ∀ (n : Fin 8) (j : Fin 4) (r : Fin 1024) (l : Fin 128), R.tapQ (storeQ I n (piecesQ I R n.val n.isLt.le)) n j (ix3 0 r l)
      = back (row fun t => val_main_v288 (F := Ideal) x0 x1 x2 (ix3 b t ⟨128 * n.val + l.val, by omega⟩)) 3 (j.val + (T + r.val))

section tile

variable {x0 x1 x2 x3 x4 x5 x6 x7 x8 x9 x10 x11 x12 x13}
variable {I : Ins Ideal} {b : Fin 8} {T : ℕ} {hT : T + 1024 ≤ 8192} {R : Rds Ideal}
variable (S : Src x0 x1 x2 x3 x4 x5 x6 x7 x8 x9 x10 x11 x12 x13 I b T hT) (A : Taps x0 x1 x2 I R b T)
include S A

/-- The wide convolution's rows. -/
theorem Src.wide (r : Fin 1024) (c : Fin 512) : catU (Stage.convU I R) (ix2 r c) = val_main_v262 (F := Ideal) x0 x1 x2 x3 x4 (ix3 b ⟨T + r.val, by omega⟩ c) := by
  have e : c = ⟨128 * (⟨c.val / 128, by omega⟩ : Fin 4).val + (⟨c.val % 128, by omega⟩ : Fin 128).val, by show 128 * (c.val / 128) + c.val % 128 < 512; omega⟩ :=
    Fin.ext (by show c.val = 128 * (c.val / 128) + c.val % 128; omega)
  rw [e, catU_at, S.convU _ _ _ fun j => A.u _ j _ _]

/-- The narrow convolution's rows. -/
theorem Src.narrow (r c : Fin 1024) : catQ (Stage.convQ I R) (ix2 r c) = val_main_v321 (F := Ideal) x0 x1 x2 x7 x8 (ix3 b ⟨T + r.val, by omega⟩ c) := by
  have e : c = ⟨128 * (⟨c.val / 128, by omega⟩ : Fin 8).val + (⟨c.val % 128, by omega⟩ : Fin 128).val, by show 128 * (c.val / 128) + c.val % 128 < 1024; omega⟩ :=
    Fin.ext (by show c.val = 128 * (c.val / 128) + c.val % 128; omega)
  rw [e, catQ_at, S.convQ _ _ _ fun j => A.q _ j _ _]

/-- The convolution path's rows. -/
theorem Src.conv (r : Fin 1024) (c : Fin 512) : convRows I R (ix2 r c) = val_main_v287 (F := Ideal) x0 x1 x2 x3 x4 x5 x6 (ix3 b ⟨T + r.val, by omega⟩ c) := by
  rw [convRows_at, Cert.MixerRefIdeal.Tok.conv, S.lng, S.lnb]
  simp only [S.wide A]

/-- The queries. -/
theorem Src.q (r : Fin 1024) (a : Fin 4) (d : Fin 128) : qRows I R (ix2 r ⟨128 * a.val + d.val, by omega⟩)
    = val_main_v335 (F := Ideal) x0 x1 x2 x7 x8 (ix4 b a ⟨T + r.val, by omega⟩ d) := by
  rw [qRows_at, S.narrow A, Cert.MixerRefIdeal.Tok.query, Cert.MixerRefIdeal.Tok.unit]
  rfl

/-- The keys. -/
theorem Src.k (r : Fin 1024) (a : Fin 4) (d : Fin 128) : kRows I R (ix2 r ⟨128 * a.val + d.val, by omega⟩)
    = val_main_v339 (F := Ideal) x0 x1 x2 x7 x8 (ix4 b a ⟨T + r.val, by omega⟩ d) := by
  rw [kRows_at, S.narrow A, Cert.MixerRefIdeal.Tok.key, Cert.MixerRefIdeal.Tok.unit]
  rfl

variable (P : Reals x1 x2 x7 x8 x9 x10)
include P

/-- The tile over exact reals. -/
theorem Src.tile
    (hm0 : ∀ a, R.ms 0 R.baseM (ix2 (row8 a) 0) = (Cert.MixerReal.M (sF x0 x1 x2 x10 b a) (sI x0 x1 x2 x9 b a) T : EReal))
    (hms : ∀ n L (a : Fin 8), R.ms (n + 1) L (ix2 a 0) = View.canon L (ix2 a 0))
    (hc0 : ∀ (a : Fin 4) d e, R.ce 0 (headsC I R 0 R.baseC a.val a.isLt.le) a (ix3 0 d e)
      = (Cert.MixerReal.C (sF x0 x1 x2 x10 b a) (sI x0 x1 x2 x9 b a) (sK x0 x1 x2 x7 x8 b a) (sV x0 x1 x2 b a e) T d : EReal))
    (hce : ∀ n L (a : Fin 4) d e, R.ce (n + 1) L a (ix3 0 d e) = View.canon L (ix3 a d e)) :
    Tile I R (sF x0 x1 x2 x10 b) (sI x0 x1 x2 x9 b) (sK x0 x1 x2 x7 x8 b) (sQ x0 x1 x2 x7 x8 b) (sV x0 x1 x2 b) T where
  hf a r := (S.gf P r a).trans (seq_coe (fun t => P.gate_f x0 b t a) ⟨T + r.val, by omega⟩)
  hi a r := (S.gi r a).trans (seq_coe (fun t => P.gate_i x0 b t a) ⟨T + r.val, by omega⟩)
  hk a r d := (S.k A r a d).trans (seq_coe (fun t => P.key x0 b t a d) ⟨T + r.val, by omega⟩)
  hq a r d := (S.q A r a d).trans (seq_coe (fun t => P.query x0 b t a d) ⟨T + r.val, by omega⟩)
  hv a r e := by
    rw [S.v r a e, sV, dif_pos (show e.val < 128 from e.isLt)]
    exact seq_coe (fun t => P.value x0 b t a e) ⟨T + r.val, by omega⟩
  hV1 a s := by rw [sV, dif_neg (by decide)]; exact if_pos rfl
  hV0 a e he s := by rw [sV, dif_neg (by omega), if_neg (by omega)]
  hm0 := hm0
  hms := hms
  hc0 := hc0
  hce := hce

variable (H : Tile I R (sF x0 x1 x2 x10 b) (sI x0 x1 x2 x9 b) (sK x0 x1 x2 x7 x8 b) (sQ x0 x1 x2 x7 x8 b) (sV x0 x1 x2 b) T)
include H

/-- A head's output rows of a chunk. -/
theorem Src.mix (c : Fin 8) (a : Fin 4) (r l : Fin 128) : mixOut I R c a (ix2 r l)
    = val_main_v392 (F := Ideal) x0 x1 x2 x7 x8 x9 x10 x11 (ix3 b ⟨T + (128 * c.val + r.val), by omega⟩ ⟨128 * a.val + l.val, by omega⟩) := by
  have hf := fun t => seq_coe (fun t => P.gate_f x0 b t a) t
  have hi := fun t => seq_coe (fun t => P.gate_i x0 b t a) t
  have hk := fun t d => seq_coe (fun t => P.key x0 b t a d) t
  have hq := fun t d => seq_coe (fun t => P.query x0 b t a d) t
  have hv := fun (t : Fin 8192) (e : Fin 128) => seq_coe (fun t => P.value x0 b t a e) t
  let s : Fin 8192 := ⟨T + (128 * c.val + r.val), by omega⟩
  have hn : ∀ x : Fin 128, numer (blk (qRows I R) c a) (ktBlk I R c a) (blk (vRows I) c a) (gcol (li I) c) (gcol (lf I) c) (mOld I R c) (ceOld I R c a) a (ix2 r x)
      = val_main_v362 (F := Ideal) x0 x1 x2 x7 x8 x9 x10 (ix4 b a s x) := fun x => by
    rw [H.num, Cert.MixerRefIdeal.Tok.num_real x0 x1 x2 x7 x8 x9 x10 b s (sF x0 x1 x2 x10 b a) (sI x0 x1 x2 x9 b a) (sK x0 x1 x2 x7 x8 b a) (sQ x0 x1 x2 x7 x8 b a)
      (fun e => seq fun t => val_main_v341 (F := Ideal) x0 x1 x2 (ix4 b a t e)) a hf hi hk hq hv x]
    have e1 : T + 128 * c.val + (r.val + 1) = s.val + 1 := by show _ = T + (128 * c.val + r.val) + 1; omega
    have e2 : T + 128 * c.val + r.val = s.val := by show _ = T + (128 * c.val + r.val); omega
    have e3 : sV x0 x1 x2 b a ⟨x.val, by omega⟩ = seq fun t => val_main_v341 (F := Ideal) x0 x1 x2 (ix4 b a t x) :=
      funext fun t => by rw [sV, dif_pos (show x.val < 128 from x.isLt)]
    rw [e1, e2, e3]
  obtain ⟨y, hy, hd⟩ : ∃ y : ℝ, 0 < y ∧ val_main_v367 (F := Ideal) x0 x1 x2 x7 x8 x9 x10 (ix3 b a s) = (y : EReal)
      ∧ denom (blk (qRows I R) c a) (ktBlk I R c a) (gcol (li I) c) (gcol (lf I) c) (mOld I R c) (ceOld I R c a) a (ix2 r 0) = (y : EReal) := by
    have e1 : T + 128 * c.val + (r.val + 1) = s.val + 1 := by show _ = T + (128 * c.val + r.val) + 1; omega
    have e2 : T + 128 * c.val + r.val = s.val := by show _ = T + (128 * c.val + r.val); omega
    refine ⟨_, ?_, Cert.MixerRefIdeal.Tok.den_real x0 x1 x2 x7 x8 x9 x10 b s (sF x0 x1 x2 x10 b a) (sI x0 x1 x2 x9 b a) (sK x0 x1 x2 x7 x8 b a) (sQ x0 x1 x2 x7 x8 b a)
      a hf hi hk hq, ?_⟩
    · exact lt_of_lt_of_le (Real.exp_pos _) (le_max_right _ _)
    · rw [H.den, e1, e2]
  have ho : blk (oRows I) c a (ix2 r l) = oRows I (ix2 ⟨128 * c.val + r.val, by omega⟩ ⟨128 * a.val + l.val, by omega⟩) := by
    generalize oRows I = y
    pointwise [blk]
  have hc : (⟨(128 * a.val + l.val) / 128, by omega⟩ : Fin 4) = a := Fin.ext (by show (128 * a.val + l.val) / 128 = a.val; omega)
  have hl : (⟨(128 * a.val + l.val) % 128, by omega⟩ : Fin 128) = l := Fin.ext (by show (128 * a.val + l.val) % 128 = l.val; omega)
  rw [mixOut, mixBlk_at, Cert.MixerRefIdeal.Tok.mixed, Cert.MixerRefIdeal.Tok.merged, ho, oRows_at, S.z, S.gn]
  simp only [hn, hd.2, Cert.Finite.mul_div_one hy, hc, hl]
  rw [Cert.MixerRefIdeal.Tok.hnorm]
  simp only [Cert.MixerRefIdeal.Tok.quot]
  rw [show val_main_v367 (F := Ideal) x0 x1 x2 x7 x8 x9 x10 (ix3 b a ⟨T + (128 * c.val + r.val), by omega⟩) = (y : EReal) from hd.1]

/-- The merged rows. -/
theorem Src.merge (r k : Fin 1024) : View.canon (piecesX I R 8 (Nat.le_refl _)) (ix2 r k)
    = if h : k.val < 512 then val_main_v287 (F := Ideal) x0 x1 x2 x3 x4 x5 x6 (ix3 b ⟨T + r.val, by omega⟩ ⟨k.val, h⟩)
      else val_main_v392 (F := Ideal) x0 x1 x2 x7 x8 x9 x10 x11 (ix3 b ⟨T + r.val, by omega⟩ ⟨k.val - 512, by omega⟩) := by
  by_cases h : k.val < 512
  · rw [dif_pos h]
    exact (piecesX_conv I R 8 (Nat.le_refl _) r ⟨k.val, h⟩).trans (S.conv A r ⟨k.val, h⟩)
  · rw [dif_neg h]
    have e1 : r = ⟨128 * (⟨r.val / 128, by omega⟩ : Fin 8).val + (⟨r.val % 128, by omega⟩ : Fin 128).val, by show 128 * (r.val / 128) + r.val % 128 < 1024; omega⟩ :=
      Fin.ext (by show r.val = 128 * (r.val / 128) + r.val % 128; omega)
    have e2 : k = ⟨512 + 128 * (⟨(k.val - 512) / 128, by omega⟩ : Fin 4).val + (⟨(k.val - 512) % 128, by omega⟩ : Fin 128).val,
        by show 512 + 128 * ((k.val - 512) / 128) + (k.val - 512) % 128 < 1024; omega⟩ :=
      Fin.ext (by show k.val = 512 + 128 * ((k.val - 512) / 128) + (k.val - 512) % 128; omega)
    have m := (piecesX_head I R 8 (Nat.le_refl _) ⟨r.val / 128, by omega⟩ (by show r.val / 128 < 8; omega) ⟨(k.val - 512) / 128, by omega⟩
      ⟨r.val % 128, by omega⟩ ⟨(k.val - 512) % 128, by omega⟩).trans (S.mix A P H _ _ _ _)
    have c1 := congrArg₂ (fun p q => View.canon (piecesX I R 8 (Nat.le_refl _)) (ix2 p q)) e1 e2
    refine c1.trans (m.trans ?_)
    refine congrArg₂ (fun p q => val_main_v392 (F := Ideal) x0 x1 x2 x7 x8 x9 x10 x11 (ix3 b p q)) (Fin.ext ?_) (Fin.ext ?_)
    · show T + (128 * (r.val / 128) + r.val % 128) = T + r.val; omega
    · show 128 * ((k.val - 512) / 128) + (k.val - 512) % 128 = k.val - 512; omega

/-- The result block. -/
theorem Src.out (X : Vec Ideal S1024x1024 .bf16) (hX : ∀ r k, X (ix2 r k) = View.canon (piecesX I R 8 (Nat.le_refl _)) (ix2 r k)) (r c : Fin 1024) :
    outBlk I X (ix3 0 r c) = val_main_v409 (F := Ideal) x0 x1 x2 x3 x4 x5 x6 x7 x8 x9 x10 x11 x12 x13 (ix3 b ⟨T + r.val, by omega⟩ c) := by
  have e : ∀ c, ∑ k, X (ix2 r k) * I.wout (ix2 k c) = val_main_v394 (F := Ideal) x0 x1 x2 x3 x4 x5 x6 x7 x8 x9 x10 x11 x12 (ix3 b ⟨T + r.val, by omega⟩ c) := fun c => by
    rw [Cert.MixerRefIdeal.Tok.out]
    exact Finset.sum_congr rfl fun k _ => by rw [hX, S.merge A P H, S.wout]
  rw [outBlk_at, Cert.MixerRefIdeal.Tok.last, S.h, S.gpost]
  simp only [e]

end tile

end Cert.MixerIdeal.Stage

end
-- ==== Proof.MixerRuns.lean ====
/- The mixer's runs are its stages: what each case of the body leaves in each buffer is the stages' pieces. -/
module

public import proofs.«01_k».proof.Proof.MixerStage

@[expose] public section

set_option maxRecDepth 16384

noncomputable section

open Idealize.ShloMosaic Idealize.ShloMosaic.TcCoe Idealize.SL.Sem Idealize.ShloMosaic.Tactic

namespace Cert.MixerIdeal.Stage

open Cert.MixerIdeal Cert.MixerIdeal.Gen

variable {F : FTy → Type} [FloatOps F]
variable (d : Dev nD) (p : grid0.Coords)
  (arg2 : Memref sig .tc .vmem S1x1024x1024 .f32) (harg2 : arg2.IsWhole) (arg3 : Memref sig .tc .vmem S1x1024 .f32) (harg3 : arg3.IsWhole)
  (arg4 : Memref sig .tc .vmem S1024x3072 .bf16) (harg4 : arg4.IsWhole) (arg5 : Memref sig .tc .vmem S1024x128 .bf16) (harg5 : arg5.IsWhole)
  (arg6 : Memref sig .tc .vmem S32x512 .f32) (harg6 : arg6.IsWhole) (arg7 : Memref sig .tc .vmem S1x512 .f32) (harg7 : arg7.IsWhole)
  (arg8 : Memref sig .tc .vmem S1x512 .f32) (harg8 : arg8.IsWhole) (arg9 : Memref sig .tc .vmem S1x512 .f32) (harg9 : arg9.IsWhole)
  (arg10 : Memref sig .tc .vmem S8x1024 .f32) (harg10 : arg10.IsWhole) (arg11 : Memref sig .tc .vmem S1x1024 .f32) (harg11 : arg11.IsWhole)
  (arg12 : Memref sig .tc .vmem S1x128 .f32) (harg12 : arg12.IsWhole) (arg13 : Memref sig .tc .vmem S1x512 .f32) (harg13 : arg13.IsWhole)
  (arg14 : Memref sig .tc .vmem S1024x1024 .bf16) (harg14 : arg14.IsWhole) (arg15 : Memref sig .tc .vmem S1x1024 .f32) (harg15 : arg15.IsWhole)
  (arg16 : Memref sig .tc .vmem S1x1024x1024 .f32) (harg16 : arg16.IsWhole) (arg17 : Memref sig .tc .vmem S4x1056x128 .f32) (harg17 : arg17.IsWhole)
  (arg18 : Memref sig .tc .vmem S8x1032x128 .f32) (harg18 : arg18.IsWhole) (arg19 : Memref sig .tc .vmem S4x128x256 .f32) (harg19 : arg19.IsWhole)
  (arg20 : Memref sig .tc .vmem S8x128 .f32) (harg20 : arg20.IsWhole) (arg21 : Memref sig .tc .vmem S1024x1024 .bf16) (harg21 : arg21.IsWhole)
  (x0 : Vec F S1x1024x1024 .f32) (x1 : Vec F S1x1024 .f32) (x2 : Vec F S1024x3072 .bf16) (x3 : Vec F S1024x128 .bf16) (x4 : Vec F S32x512 .f32)
  (x5 : Vec F S1x512 .f32) (x6 : Vec F S1x512 .f32) (x7 : Vec F S1x512 .f32) (x8 : Vec F S8x1024 .f32) (x9 : Vec F S1x1024 .f32)
  (x10 : Vec F S1x128 .f32) (x11 : Vec F S1x512 .f32) (x12 : Vec F S1024x1024 .bf16) (x13 : Vec F S1x1024 .f32)
  (xs0 : Vec F S4x1056x128 .f32) (xs1 : Vec F S8x1032x128 .f32) (xs2 : Vec F S4x128x256 .f32) (xs3 : Vec F S8x128 .f32)

/-- The body's loads of its input blocks. -/
def ins : Ins F where
  h := arg2.view.readAt (Elt F) (Rect.unit (s := S1x1024x1024) ![0, 0, 0] S1x1024x1024.size inb_S1x1024x1024_S1x1024x1024_0_0_0).toLoadRect (harg2.unread x0)
  gpre := arg3.view.readAt (Elt F) (Rect.unit (s := S1x1024) ![0, 0] S1x1024.size inb_S1x1024_S1x1024_0_0).toLoadRect (harg3.unread x1)
  win := arg4.view.readAt (Elt F) (Rect.unit (s := S1024x3072) ![0, 0] S1024x3072.size inb_S1024x3072_S1024x3072_0_0).toLoadRect (harg4.unread x2)
  wgate := arg5.view.readAt (Elt F) (Rect.unit (s := S1024x128) ![0, 0] S1024x128.size inb_S1024x128_S1024x128_0_0).toLoadRect (harg5.unread x3)
  wc n j := arg6.view.readAt (Elt F) (Rect.unit (s := S32x512) ![j.val, 128 * n.val] S1x128.size (inb2 (by omega) (by omega))).toLoadRect (harg6.unread x4)
  bc n := arg7.view.readAt (Elt F) (Rect.unit (s := S1x512) ![0, 128 * n.val] S1x128.size (inb2 (by omega) (by omega))).toLoadRect (harg7.unread x5)
  lng := arg8.view.readAt (Elt F) (Rect.unit (s := S1x512) ![0, 0] S1x512.size inb_S1x512_S1x512_0_0).toLoadRect (harg8.unread x6)
  lnb := arg9.view.readAt (Elt F) (Rect.unit (s := S1x512) ![0, 0] S1x512.size inb_S1x512_S1x512_0_0).toLoadRect (harg9.unread x7)
  wq n j := arg10.view.readAt (Elt F) (Rect.unit (s := S8x1024) ![j.val, 128 * n.val] S1x128.size (inb2 (by omega) (by omega))).toLoadRect (harg10.unread x8)
  bq n := arg11.view.readAt (Elt F) (Rect.unit (s := S1x1024) ![0, 128 * n.val] S1x128.size (inb2 (by omega) (by omega))).toLoadRect (harg11.unread x9)
  gb := arg12.view.readAt (Elt F) (Rect.unit (s := S1x128) ![0, 0] S1x128.size inb_S1x128_S1x128_0_0).toLoadRect (harg12.unread x10)
  gn n := arg13.view.readAt (Elt F) (Rect.unit (s := S1x512) ![0, 128 * n.val] S1x128.size (inb2 (by omega) (by omega))).toLoadRect (harg13.unread x11)
  wout := arg14.view.readAt (Elt F) (Rect.unit (s := S1024x1024) ![0, 0] S1024x1024.size inb_S1024x1024_S1024x1024_0_0).toLoadRect (harg14.unread x12)
  gpost := arg15.view.readAt (Elt F) (Rect.unit (s := S1x1024) ![0, 0] S1x1024.size inb_S1x1024_S1x1024_0_0).toLoadRect (harg15.unread x13)

/-- The body's reads of its scratch at a tile that carries on: over what the tile before left. -/
def rdsB : Rds F where
  tapU L n j := bif Nat.beq j.val 30 then
      arg17.view.readCov L (Rect.unit (s := S4x1056x128) ![n.val, 2 + j.val, 0] S1x1024x128.size (inb3 n.isLt (by omega) (by decide))).toLoadRect
    else arg17.view.readAt (Elt F) (Rect.unit (s := S4x1056x128) ![n.val, 2 + j.val, 0] S1x1024x128.size (inb3 n.isLt (by omega) (by decide))).toLoadRect
      (arg17.view.writes (Elt F) (harg17.unread xs0) L)
  haloU L n := arg17.view.readCov L (Rect.unit (s := S4x1056x128) ![n.val, 1024, 0] S1x32x128.size (inb3 n.isLt (by decide) (by decide))).toLoadRect
  tapQ L n j := bif Nat.beq j.val 3 then
      arg18.view.readCov L (Rect.unit (s := S8x1032x128) ![n.val, 5 + j.val, 0] S1x1024x128.size (inb3 n.isLt (by omega) (by decide))).toLoadRect
    else arg18.view.readAt (Elt F) (Rect.unit (s := S8x1032x128) ![n.val, 5 + j.val, 0] S1x1024x128.size (inb3 n.isLt (by omega) (by decide))).toLoadRect
      (arg18.view.writes (Elt F) (harg18.unread xs1) L)
  haloQ L n := arg18.view.readCov L (Rect.unit (s := S8x1032x128) ![n.val, 1024, 0] S1x8x128.size (inb3 n.isLt (by decide) (by decide))).toLoadRect
  ce n L a := match n with
    | 0 => arg19.view.readAt (Elt F) (Rect.unit (s := S4x128x256) ![a.val, 0, 0] S1x128x256.size (inb3 a.isLt (by decide) (by decide))).toLoadRect (harg19.unread xs2)
    | _ + 1 => arg19.view.readCov L (Rect.unit (s := S4x128x256) ![a.val, 0, 0] S1x128x256.size (inb3 a.isLt (by decide) (by decide))).toLoadRect
  ms n L := match n with
    | 0 => arg20.view.readAt (Elt F) (Rect.unit (s := S8x128) ![0, 0] S8x1.size inb_S8x128_S8x1_0_0).toLoadRect (harg20.unread xs3)
    | _ + 1 => arg20.view.readCov L (Rect.unit (s := S8x128) ![0, 0] S8x1.size inb_S8x128_S8x1_0_0).toLoadRect
  baseU := []
  baseQ := []
  baseC := []
  baseM := []

/-- The body's reads of its scratch at a sequence's first tile: over the zeros it stored first. -/
def rdsA : Rds F where
  tapU L n j := arg17.view.readCov L (Rect.unit (s := S4x1056x128) ![n.val, 2 + j.val, 0] S1x1024x128.size (inb3 n.isLt (by omega) (by decide))).toLoadRect
  haloU L n := arg17.view.readCov L (Rect.unit (s := S4x1056x128) ![n.val, 1024, 0] S1x32x128.size (inb3 n.isLt (by decide) (by decide))).toLoadRect
  tapQ L n j := arg18.view.readCov L (Rect.unit (s := S8x1032x128) ![n.val, 5 + j.val, 0] S1x1024x128.size (inb3 n.isLt (by omega) (by decide))).toLoadRect
  haloQ L n := arg18.view.readCov L (Rect.unit (s := S8x1032x128) ![n.val, 1024, 0] S1x8x128.size (inb3 n.isLt (by decide) (by decide))).toLoadRect
  ce n L a := arg19.view.readCov L (Rect.unit (s := S4x128x256) ![a.val, 0, 0] S1x128x256.size (inb3 a.isLt (by decide) (by decide))).toLoadRect
  ms n L := arg20.view.readCov L (Rect.unit (s := S8x128) ![0, 0] S8x1.size inb_S8x128_S8x1_0_0).toLoadRect
  baseU := [⟨Rect.unit ![0, 0, 0] S4x32x128.size inb_S4x1056x128_S4x32x128_0_0_0, k0_pay3⟩]
  baseQ := [⟨Rect.unit ![0, 0, 0] S8x8x128.size inb_S8x1032x128_S8x8x128_0_0_0, k0_pay4⟩]
  baseC := [⟨Rect.unit ![0, 0, 0] S4x128x256.size inb_S4x128x256_S4x128x256_0_0_0, k0_pay5⟩]
  baseM := [⟨Rect.unit ![0, 0] S8x128.size inb_S8x128_S8x128_0_0, k0_pay6⟩]

/-- A tile carrying on: the wide convolution's buffer holds the stages' pieces. -/
theorem runU_B (hc0 : ¬cond0_0 p) : (kernelRun0_B (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 xs1 xs2 xs3).2.1
    = piecesU (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsB arg17 harg17 arg18 harg18 arg19 harg19 arg20 harg20 xs0 xs1 xs2 xs3) 4 (Nat.le_refl _) := by
  sl_kernel_rfl

/-- A tile carrying on: the narrow convolution's buffer holds the stages' pieces. -/
theorem runQ_B (hc0 : ¬cond0_0 p) : (kernelRun0_B (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 xs1 xs2 xs3).2.2.1
    = piecesQ (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsB arg17 harg17 arg18 harg18 arg19 harg19 arg20 harg20 xs0 xs1 xs2 xs3) 8 (Nat.le_refl _) := by
  sl_kernel_rfl

/-- A tile carrying on: the stabilizer holds the stages' pieces. -/
theorem runM_B (hc0 : ¬cond0_0 p) : (kernelRun0_B (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 xs1 xs2 xs3).2.2.2.2.1
    = piecesM (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsB arg17 harg17 arg18 harg18 arg19 harg19 arg20 harg20 xs0 xs1 xs2 xs3) 8 (Nat.le_refl _) := by
  sl_kernel_rfl

/-- A tile carrying on: the heads' states holds the stages' pieces. -/
theorem runC_B (hc0 : ¬cond0_0 p) : (kernelRun0_B (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 xs1 xs2 xs3).2.2.2.1
    = piecesC (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsB arg17 harg17 arg18 harg18 arg19 harg19 arg20 harg20 xs0 xs1 xs2 xs3) 8 (Nat.le_refl _) := by
  sl_kernel_rfl

/-- A tile carrying on: the result block holds the stages' pieces. -/
theorem runX_B (hc0 : ¬cond0_0 p) : (kernelRun0_B (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 xs0 xs1 xs2 xs3).1
    = [⟨Rect.unit (s := S1x1024x1024) ![0, 0, 0] S1x1024x1024.size inb_S1x1024x1024_S1x1024x1024_0_0_0, outBlk (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (arg21.view.readCov (piecesX (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsB arg17 harg17 arg18 harg18 arg19 harg19 arg20 harg20 xs0 xs1 xs2 xs3) 8 (Nat.le_refl _)) (Rect.unit (s := S1024x1024) ![0, 0] S1024x1024.size inb_S1024x1024_S1024x1024_0_0).toLoadRect)⟩] := by
  sl_kernel_rfl

/-- A tile starting a sequence: the wide convolution's buffer holds the stages' pieces. -/
theorem runU_A (hc0 : cond0_0 p) : (kernelRun0_A (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).2.1
    = piecesU (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsA arg17 arg18 arg19 arg20) 4 (Nat.le_refl _) := by
  sl_kernel_rfl

/-- A tile starting a sequence: the narrow convolution's buffer holds the stages' pieces. -/
theorem runQ_A (hc0 : cond0_0 p) : (kernelRun0_A (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).2.2.1
    = piecesQ (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsA arg17 arg18 arg19 arg20) 8 (Nat.le_refl _) := by
  sl_kernel_rfl

/-- A tile starting a sequence: the stabilizer holds the stages' pieces. -/
theorem runM_A (hc0 : cond0_0 p) : (kernelRun0_A (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).2.2.2.2.1
    = piecesM (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsA arg17 arg18 arg19 arg20) 8 (Nat.le_refl _) := by
  sl_kernel_rfl

/-- A tile starting a sequence: the heads' states holds the stages' pieces. -/
theorem runC_A (hc0 : cond0_0 p) : (kernelRun0_A (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).2.2.2.1
    = piecesC (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsA arg17 arg18 arg19 arg20) 8 (Nat.le_refl _) := by
  sl_kernel_rfl

/-- A tile starting a sequence: the result block holds the stages' pieces. -/
theorem runX_A (hc0 : cond0_0 p) : (kernelRun0_A (F := F) d p arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13).1
    = [⟨Rect.unit (s := S1x1024x1024) ![0, 0, 0] S1x1024x1024.size inb_S1x1024x1024_S1x1024x1024_0_0_0, outBlk (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (arg21.view.readCov (piecesX (ins arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13) (rdsA arg17 arg18 arg19 arg20) 8 (Nat.le_refl _)) (Rect.unit (s := S1024x1024) ![0, 0] S1024x1024.size inb_S1024x1024_S1024x1024_0_0).toLoadRect)⟩] := by
  sl_kernel_rfl

end Cert.MixerIdeal.Stage
-- ==== Proof.MixerState.lean ====
/- The mixer's carried state: what a tile reads from the tile before it, and what it leaves to the next. -/
module

public import proofs.«01_k».proof.Proof.MixerMatch
public import proofs.«01_k».proof.Proof.MixerRuns

@[expose] public section

set_option maxRecDepth 16384

noncomputable section

open Idealize.ShloMosaic Idealize.ShloMosaic.TcCoe Idealize.SL.Sem

namespace Cert.MixerIdeal.Stage

open Cert.MixerIdeal Cert.MixerIdeal.Gen
open Cert.Finite (IsReal)
open Cert.MixerRefIdeal.Tok (acc acc_start acc_congr back row wts act norm5)
open Cert.MixerRefIdeal.Read

/-- A box's entry in its buffer. -/
theorem box_idx {s : Shape} {off size : Fin s.rank → ℕ} {inb : ∀ a, off a + size a ≤ s.size a} (x : (Rect.unit off size inb).shape.Idx) (y : s.Idx)
    (h : ∀ a, (y a).val = off a + (x a).val) : (Rect.unit off size inb).toLoadRect.idx x = y := funext fun a => Fin.ext (by
  show off a + 1 * (x a).val = (y a).val
  rw [h a, Nat.one_mul])

/-- A covered load reads the stores. -/
theorem cov_at {s : Shape} {e : EltTy} {sig : RefSig} {κ : Kind} {sp : Space} (v : View sig κ sp s e) (L : List (View.Piece (Elt Ideal) s e))
    {off size : Fin s.rank → ℕ} {inb : ∀ a, off a + size a ≤ s.size a} (x : (Rect.unit off size inb).shape.Idx) (y : s.Idx)
    (h : ∀ a, (y a).val = off a + (x a).val) : v.readCov L (Rect.unit off size inb).toLoadRect x = View.canon L y := by
  rw [View.readCov_eq_canon']
  exact congrArg (View.canon L) (box_idx x y h)

/-- A load reads the contents. -/
theorem over_at {s : Shape} {e : EltTy} {sig : RefSig} {κ : Kind} {sp : Space} (v : View sig κ sp s e) (f : v.ty.Contents (Elt Ideal))
    {off size : Fin s.rank → ℕ} {inb : ∀ a, off a + size a ≤ s.size a} (x : (Rect.unit off size inb).shape.Idx) (y : s.Idx)
    (h : ∀ a, (y a).val = off a + (x a).val) : v.readAt (Elt Ideal) (Rect.unit off size inb).toLoadRect f x = v.read (Elt Ideal) f y :=
  congrArg (v.read (Elt Ideal) f) (box_idx x y h)

/-- A load of a whole buffer's contents. -/
theorem whole_at {s : Shape} {e : EltTy} {sig : RefSig} {κ : Kind} {sp : Space} {arg : Memref sig κ sp s e} (w : arg.IsWhole) (f : s.Idx → Elt Ideal e)
    {off size : Fin s.rank → ℕ} {inb : ∀ a, off a + size a ≤ s.size a} (x : (Rect.unit off size inb).shape.Idx) (y : s.Idx)
    (h : ∀ a, (y a).val = off a + (x a).val) : arg.view.readAt (Elt Ideal) (Rect.unit off size inb).toLoadRect (w.unread f) x = f y :=
  (over_at arg.view (w.unread f) x y h).trans (congrFun (w.read_unread f) y)

/-- Looking back from further on by as much more. -/
theorem back_shift (y : ℕ → EReal) (p p' n n' : ℕ) (h : n + p' = n' + p) : back y p n = back y p' n' := by
  unfold back
  by_cases hp : p ≤ n
  · rw [if_pos hp, if_pos (by omega), show n - p = n' - p' by omega]
  · rw [if_neg hp, if_neg (by omega)]

/-- Looking back to a token. -/
theorem back_tok (y : Fin 8192 → EReal) (p n : ℕ) (t : Fin 8192) (h : n = p + t.val) : back (row y) p n = y t := by
  subst h
  unfold back row
  rw [if_pos (Nat.le_add_right _ _), dif_pos (show p + t.val - p < 8192 by omega)]
  exact congrArg y (Fin.ext (show p + t.val - p = t.val by omega))

/-- Looking back past the start. -/
theorem back_none (y : ℕ → EReal) (p n : ℕ) (h : n < p) : back y p n = 0 := by
  unfold back
  rw [if_neg (by omega)]

/-- The zeros a sequence starts from. -/
theorem zeros : (∀ i, k0_pay3 (F := Ideal) i = (0 : EReal)) ∧ (∀ i, k0_pay4 (F := Ideal) i = (0 : EReal))
    ∧ (∀ i, k0_pay5 (F := Ideal) i = (0 : EReal)) ∧ ∀ i, k0_pay6 (F := Ideal) i = (0 : EReal) := by
  refine ⟨fun i => ?_, fun i => ?_, fun i => ?_, fun i => ?_⟩
  · unfold k0_pay3; exact Ideal.ofBits_zero .f32
  · unfold k0_pay4; exact Ideal.ofBits_zero .f32
  · unfold k0_pay5; exact Ideal.ofBits_zero .f32
  · unfold k0_pay6; exact Ideal.ofBits_zero .f32

variable (x0 : FVec Ideal S8x8192x1024 .f32) (x1 : FVec Ideal S1x1024 .f32) (x2 : FVec Ideal S1x1024x3080 .f32) (x3 : FVec Ideal S1x31x512 .f32)
  (x4 x5 x6 : FVec Ideal S1x512 .f32) (x7 : FVec Ideal S1x4x1024 .f32) (x8 : FVec Ideal S1x1024 .f32) (x9 x10 : FVec Ideal S1x4 .f32)
  (x11 : FVec Ideal S1x512 .f32) (x12 : FVec Ideal S1x1024x1024 .f32) (x13 : FVec Ideal S1x1024 .f32)

/-- What the scratch holds once the first `T` tokens of a sequence have been run. -/
structure Left (b : Fin 8) (T : ℕ) (u : Vec Ideal S4x1056x128 .f32) (q : Vec Ideal S8x1032x128 .f32) (ce : Vec Ideal S4x128x256 .f32)
    (ms : Vec Ideal S8x128 .f32) : Prop where
  u : ∀ (n : Fin 4) (r : Fin 32) (l : Fin 128), u (ix3 n ⟨r.val, by omega⟩ l)
    = back (row fun t => val_main_v40 (F := Ideal) x0 x1 x2 (ix3 b t ⟨128 * n.val + l.val, by omega⟩)) 32 (T + r.val)
  q : ∀ (n : Fin 8) (r : Fin 8) (l : Fin 128), q (ix3 n ⟨r.val, by omega⟩ l)
    = back (row fun t => val_main_v288 (F := Ideal) x0 x1 x2 (ix3 b t ⟨128 * n.val + l.val, by omega⟩)) 8 (T + r.val)
  m : ∀ a : Fin 4, ms (ix2 (row8 a) 0) = (Cert.MixerReal.M (sF x0 x1 x2 x10 b a) (sI x0 x1 x2 x9 b a) T : EReal)
  c : ∀ (a : Fin 4) d e, ce (ix3 a d e)
    = (Cert.MixerReal.C (sF x0 x1 x2 x10 b a) (sI x0 x1 x2 x9 b a) (sK x0 x1 x2 x7 x8 b a) (sV x0 x1 x2 b a e) T d : EReal)

/-- How a tile reads what the tokens before it left. -/
structure Carry (I : Ins Ideal) (R : Rds Ideal) (b : Fin 8) (T : ℕ) : Prop where
  taps : Taps x0 x1 x2 I R b T
  hu : ∀ L n (r : Fin 32) l, R.haloU L n (ix3 0 r l) = View.canon L (ix3 n ⟨1024 + r.val, by omega⟩ l)
  hq : ∀ L n (r : Fin 8) l, R.haloQ L n (ix3 0 r l) = View.canon L (ix3 n ⟨1024 + r.val, by omega⟩ l)
  hm0 : ∀ a, R.ms 0 R.baseM (ix2 (row8 a) 0) = (Cert.MixerReal.M (sF x0 x1 x2 x10 b a) (sI x0 x1 x2 x9 b a) T : EReal)
  hms : ∀ n L (a : Fin 8), R.ms (n + 1) L (ix2 a 0) = View.canon L (ix2 a 0)
  hc0 : ∀ (a : Fin 4) d e, R.ce 0 (headsC I R 0 R.baseC a.val a.isLt.le) a (ix3 0 d e)
      = (Cert.MixerReal.C (sF x0 x1 x2 x10 b a) (sI x0 x1 x2 x9 b a) (sK x0 x1 x2 x7 x8 b a) (sV x0 x1 x2 b a e) T d : EReal)
  hce : ∀ n L (a : Fin 4) d e, R.ce (n + 1) L a (ix3 0 d e) = View.canon L (ix3 a d e)

section tile

variable {x0 x1 x2 x3 x4 x5 x6 x7 x8 x9 x10 x11 x12 x13}
variable {I : Ins Ideal} {b : Fin 8} {T : ℕ} {hT : T + 1024 ≤ 8192} {R : Rds Ideal}
variable (S : Src x0 x1 x2 x3 x4 x5 x6 x7 x8 x9 x10 x11 x12 x13 I b T hT)
include S

/-- A tap of the wide convolution finds the tokens before its own. -/
theorem Src.readU {rd : Pcs Ideal S4x1056x128 → S4x1056x128.Idx → Elt Ideal .f32} (hs : Skips rd) (hf : Finds rd) (n : Fin 4) (j : Fin 31)
    (hb : j.val < 30 → ∀ (r : Fin 32) (l : Fin 128), rd R.baseU (ix3 n ⟨r.val, by omega⟩ l)
      = back (row fun t => val_main_v40 (F := Ideal) x0 x1 x2 (ix3 b t ⟨128 * n.val + l.val, by omega⟩)) 32 (T + r.val)) (r : Fin 1024) (l : Fin 128) :
    rd (storeU I n (piecesU I R n.val n.isLt.le)) (ix3 n ⟨2 + j.val + r.val, by omega⟩ l)
      = back (row fun t => val_main_v40 (F := Ideal) x0 x1 x2 (ix3 b t ⟨128 * n.val + l.val, by omega⟩)) 30 (j.val + (T + r.val)) := by
  rw [storeU_at I hs hf]
  by_cases h : 32 ≤ 2 + j.val + r.val
  · rw [dif_pos h, S.u]
    exact (back_tok (fun t => val_main_v40 (F := Ideal) x0 x1 x2 (ix3 b t ⟨128 * n.val + l.val, by omega⟩)) 30 _ ⟨T + (2 + j.val + r.val - 32), by omega⟩
      (by show j.val + (T + r.val) = 30 + (T + (2 + j.val + r.val - 32)); omega)).symm
  · rw [dif_neg h, piecesU_later I R hs n.val n.isLt.le n (Nat.le_refl _)]
    exact (hb (by omega) ⟨2 + j.val + r.val, by omega⟩ l).trans (back_shift _ _ _ _ _ (by show T + (2 + j.val + r.val) + 30 = j.val + (T + r.val) + 32; omega))

/-- A tap of the narrow convolution finds the tokens before its own. -/
theorem Src.readQ {rd : Pcs Ideal S8x1032x128 → S8x1032x128.Idx → Elt Ideal .f32} (hs : Skips rd) (hf : Finds rd) (n : Fin 8) (j : Fin 4)
    (hb : j.val < 3 → ∀ (r : Fin 8) (l : Fin 128), rd R.baseQ (ix3 n ⟨r.val, by omega⟩ l)
      = back (row fun t => val_main_v288 (F := Ideal) x0 x1 x2 (ix3 b t ⟨128 * n.val + l.val, by omega⟩)) 8 (T + r.val)) (r : Fin 1024) (l : Fin 128) :
    rd (storeQ I n (piecesQ I R n.val n.isLt.le)) (ix3 n ⟨5 + j.val + r.val, by omega⟩ l)
      = back (row fun t => val_main_v288 (F := Ideal) x0 x1 x2 (ix3 b t ⟨128 * n.val + l.val, by omega⟩)) 3 (j.val + (T + r.val)) := by
  rw [storeQ_at I hs hf]
  by_cases h : 8 ≤ 5 + j.val + r.val
  · rw [dif_pos h, S.qk]
    exact (back_tok (fun t => val_main_v288 (F := Ideal) x0 x1 x2 (ix3 b t ⟨128 * n.val + l.val, by omega⟩)) 3 _ ⟨T + (5 + j.val + r.val - 8), by omega⟩
      (by show j.val + (T + r.val) = 3 + (T + (5 + j.val + r.val - 8)); omega)).symm
  · rw [dif_neg h, piecesQ_later I R hs n.val n.isLt.le n (Nat.le_refl _)]
    exact (hb (by omega) ⟨5 + j.val + r.val, by omega⟩ l).trans (back_shift _ _ _ _ _ (by show T + (5 + j.val + r.val) + 3 = j.val + (T + r.val) + 8; omega))

/-- The scratch after a tile. -/
theorem Src.left (P : Reals x1 x2 x7 x8 x9 x10) (K : Carry x0 x1 x2 x7 x8 x9 x10 I R b T) :
    Left x0 x1 x2 x7 x8 x9 x10 b (T + 1024) (View.canon (piecesU I R 4 (Nat.le_refl _))) (View.canon (piecesQ I R 8 (Nat.le_refl _)))
      (View.canon (piecesC I R 8 (Nat.le_refl _))) (View.canon (piecesM I R 8 (Nat.le_refl _))) where
  u n r l := by
    refine (piecesU_halo I R K.hu canon_skips canon_finds 4 (Nat.le_refl _) n n.isLt r l).trans ((S.u _ _).trans ?_)
    exact (back_tok (fun t => val_main_v40 (F := Ideal) x0 x1 x2 (ix3 b t ⟨128 * n.val + l.val, by omega⟩)) 32 _ ⟨T + (992 + r.val), by omega⟩
      (by show T + 1024 + r.val = 32 + (T + (992 + r.val)); omega)).symm
  q n r l := by
    refine (piecesQ_halo I R K.hq canon_skips canon_finds 8 (Nat.le_refl _) n n.isLt r l).trans ((S.qk _ _).trans ?_)
    exact (back_tok (fun t => val_main_v288 (F := Ideal) x0 x1 x2 (ix3 b t ⟨128 * n.val + l.val, by omega⟩)) 8 _ ⟨T + (1016 + r.val), by omega⟩
      (by show T + 1024 + r.val = 8 + (T + (1016 + r.val)); omega)).symm
  m a := (S.tile K.taps P K.hm0 K.hms K.hc0 K.hce).mEnd (rd := fun L => View.canon L) canon_finds a 0
  c a d e := (S.tile K.taps P K.hm0 K.hms K.hc0 K.hce).cEnd (rd := fun L => View.canon L) canon_skips canon_finds a d e

/-- The result block of a tile. -/
theorem Src.block (P : Reals x1 x2 x7 x8 x9 x10) (K : Carry x0 x1 x2 x7 x8 x9 x10 I R b T) (v : View sig .tc .vmem S1024x1024 .bf16)
    {inb : ∀ a, (![0, 0] : Fin S1024x1024.rank → ℕ) a + S1024x1024.size a ≤ S1024x1024.size a} (r c : Fin 1024) :
    outBlk I (v.readCov (piecesX I R 8 (Nat.le_refl _)) (Rect.unit (s := S1024x1024) ![0, 0] S1024x1024.size inb).toLoadRect) (ix3 0 r c)
      = val_main_v409 (F := Ideal) x0 x1 x2 x3 x4 x5 x6 x7 x8 x9 x10 x11 x12 x13 (ix3 b ⟨T + r.val, by omega⟩ c) :=
  S.out K.taps P (S.tile K.taps P K.hm0 K.hms K.hc0 K.hce) _ (fun r k => cov_at v _ (ix2 r k) (ix2 r k) fun a => by
    match a with
    | 0 => exact (Nat.zero_add _).symm
    | 1 => exact (Nat.zero_add _).symm) r c

variable (arg17 : Memref sig .tc .vmem S4x1056x128 .f32) (harg17 : arg17.IsWhole)
  (arg18 : Memref sig .tc .vmem S8x1032x128 .f32) (harg18 : arg18.IsWhole) (arg19 : Memref sig .tc .vmem S4x128x256 .f32) (harg19 : arg19.IsWhole)
  (arg20 : Memref sig .tc .vmem S8x128 .f32) (harg20 : arg20.IsWhole)

/-- A sequence's first tile: the wide convolution's taps. -/
theorem Src.tapsUA (h0 : T = 0) (n : Fin 4) (j : Fin 31) (r : Fin 1024) (l : Fin 128) : (rdsA arg17 arg18 arg19 arg20).tapU (storeU I n (piecesU I (rdsA arg17 arg18 arg19 arg20) n.val n.isLt.le)) n j (ix3 0 r l)
      = back (row fun t => val_main_v40 (F := Ideal) x0 x1 x2 (ix3 b t ⟨128 * n.val + l.val, by omega⟩)) 30 (j.val + (T + r.val)) :=
    (cov_at arg17.view _ (ix3 0 r l) (ix3 n ⟨2 + j.val + r.val, by omega⟩ l) fun a => by
        match a with
        | 0 => rfl
        | 1 => rfl
        | 2 => exact (Nat.zero_add _).symm).trans
      (S.readU (R := rdsA arg17 arg18 arg19 arg20) canon_skips canon_finds n j (fun _ r l => by
        rw [back_none _ _ _ (by omega)]
        refine (canon_finds _ _ _ _ _ (ix3 n ⟨r.val, by omega⟩ l) (ix3 n r l) fun a => ?_).trans ?_
        · match a with
          | 0 => exact (Nat.zero_add _).symm
          | 1 => exact (Nat.zero_add _).symm
          | 2 => exact (Nat.zero_add _).symm
        · exact zeros.1 _) r l)

/-- A sequence's first tile: the narrow convolution's taps. -/
theorem Src.tapsQA (h0 : T = 0) (n : Fin 8) (j : Fin 4) (r : Fin 1024) (l : Fin 128) : (rdsA arg17 arg18 arg19 arg20).tapQ (storeQ I n (piecesQ I (rdsA arg17 arg18 arg19 arg20) n.val n.isLt.le)) n j (ix3 0 r l)
      = back (row fun t => val_main_v288 (F := Ideal) x0 x1 x2 (ix3 b t ⟨128 * n.val + l.val, by omega⟩)) 3 (j.val + (T + r.val)) :=
    (cov_at arg18.view _ (ix3 0 r l) (ix3 n ⟨5 + j.val + r.val, by omega⟩ l) fun a => by
        match a with
        | 0 => rfl
        | 1 => rfl
        | 2 => exact (Nat.zero_add _).symm).trans
      (S.readQ (R := rdsA arg17 arg18 arg19 arg20) canon_skips canon_finds n j (fun _ r l => by
        rw [back_none _ _ _ (by omega)]
        refine (canon_finds _ _ _ _ _ (ix3 n ⟨r.val, by omega⟩ l) (ix3 n r l) fun a => ?_).trans ?_
        · match a with
          | 0 => exact (Nat.zero_add _).symm
          | 1 => exact (Nat.zero_add _).symm
          | 2 => exact (Nat.zero_add _).symm
        · exact zeros.2.1 _) r l)

/-- A sequence's first tile starts from nothing. -/
theorem Src.carryA (h0 : T = 0) : Carry x0 x1 x2 x7 x8 x9 x10 I (rdsA arg17 arg18 arg19 arg20) b T where
  taps := ⟨S.tapsUA arg17 arg18 arg19 arg20 h0, S.tapsQA arg17 arg18 arg19 arg20 h0⟩
  hu L n r l := cov_at arg17.view _ (ix3 0 r l) (ix3 n ⟨1024 + r.val, by omega⟩ l) fun a => by
    match a with
    | 0 => rfl
    | 1 => rfl
    | 2 => exact (Nat.zero_add _).symm
  hq L n r l := cov_at arg18.view _ (ix3 0 r l) (ix3 n ⟨1024 + r.val, by omega⟩ l) fun a => by
    match a with
    | 0 => rfl
    | 1 => rfl
    | 2 => exact (Nat.zero_add _).symm
  hm0 a := by
    subst h0
    refine (cov_at arg20.view _ (ix2 (row8 a) 0) (ix2 (row8 a) 0) fun a => ?_).trans
      ((canon_finds _ _ _ _ _ (ix2 (row8 a) 0) (ix2 (row8 a) 0) fun a => ?_).trans ?_)
    · match a with
      | 0 => exact (Nat.zero_add _).symm
      | 1 => exact (Nat.zero_add _).symm
    · match a with
      | 0 => exact (Nat.zero_add _).symm
      | 1 => exact (Nat.zero_add _).symm
    · exact (zeros.2.2.2 _).trans EReal.coe_zero.symm
  hms n L a := cov_at arg20.view _ (ix2 a 0) (ix2 a 0) fun a => by
    match a with
    | 0 => exact (Nat.zero_add _).symm
    | 1 => exact (Nat.zero_add _).symm
  hc0 a d e := by
    subst h0
    refine (cov_at arg19.view _ (ix3 0 d e) (ix3 a d e) fun x => ?_).trans
      ((headsC_later I _ canon_skips 0 _ a.val a.isLt.le a (Nat.le_refl _) d e).trans
        ((canon_finds _ _ _ _ _ (ix3 a d e) (ix3 a d e) fun x => ?_).trans ?_))
    · match x with
      | 0 => rfl
      | 1 => exact (Nat.zero_add _).symm
      | 2 => exact (Nat.zero_add _).symm
    · match x with
      | 0 => exact (Nat.zero_add _).symm
      | 1 => exact (Nat.zero_add _).symm
      | 2 => exact (Nat.zero_add _).symm
    · refine (zeros.2.2.1 _).trans ?_
      rw [Cert.MixerReal.C, Finset.sum_range_zero, EReal.coe_zero]
  hce n L a d e := cov_at arg19.view _ (ix3 0 d e) (ix3 a d e) fun x => by
    match x with
    | 0 => rfl
    | 1 => exact (Nat.zero_add _).symm
    | 2 => exact (Nat.zero_add _).symm

variable {xs0 : Vec Ideal S4x1056x128 .f32} {xs1 : Vec Ideal S8x1032x128 .f32} {xs2 : Vec Ideal S4x128x256 .f32} {xs3 : Vec Ideal S8x128 .f32}

/-- A later tile: the wide convolution's taps. -/
theorem Src.tapsUB (K : Left x0 x1 x2 x7 x8 x9 x10 b T xs0 xs1 xs2 xs3) (n : Fin 4) (j : Fin 31) (r : Fin 1024) (l : Fin 128) : (rdsB arg17 harg17 arg18 harg18 arg19 harg19 arg20 harg20 xs0 xs1 xs2 xs3).tapU (storeU I n (piecesU I (rdsB arg17 harg17 arg18 harg18 arg19 harg19 arg20 harg20 xs0 xs1 xs2 xs3) n.val n.isLt.le)) n j (ix3 0 r l)
      = back (row fun t => val_main_v40 (F := Ideal) x0 x1 x2 (ix3 b t ⟨128 * n.val + l.val, by omega⟩)) 30 (j.val + (T + r.val)) :=
    by
      have hi : ∀ a : Fin 3, ((ix3 n ⟨2 + j.val + r.val, by omega⟩ l : S4x1056x128.Idx) a).val
          = (![n.val, 2 + j.val, 0] : Fin 3 → ℕ) a + ((ix3 0 r l : S1x1024x128.Idx) a).val := fun a => by
        match a with
        | 0 => rfl
        | 1 => rfl
        | 2 => exact (Nat.zero_add _).symm
      show (bif Nat.beq j.val 30 then _ else _ : Vec Ideal S1x1024x128 .f32) (ix3 0 r l) = _
      by_cases hj : j.val = 30
      · rw [show Nat.beq j.val 30 = true from by rw [hj]; rfl]
        exact (cov_at arg17.view _ (ix3 0 r l) _ hi).trans (S.readU (R := rdsB arg17 harg17 arg18 harg18 arg19 harg19 arg20 harg20 xs0 xs1 xs2 xs3) canon_skips canon_finds n j (fun h => absurd hj (by omega)) r l)
      · rw [show Nat.beq j.val 30 = false from by
          rw [← Bool.not_eq_true]; exact fun h => hj (Nat.eq_of_beq_eq_true h)]
        exact (over_at arg17.view _ (ix3 0 r l) _ hi).trans (S.readU (R := rdsB arg17 harg17 arg18 harg18 arg19 harg19 arg20 harg20 xs0 xs1 xs2 xs3) (over_skips arg17.view (harg17.unread xs0)) (over_finds arg17.view (harg17.unread xs0)) n j
          (fun _ r l => (congrFun (harg17.read_unread xs0) _).trans (K.u n r l)) r l)

/-- A later tile: the narrow convolution's taps. -/
theorem Src.tapsQB (K : Left x0 x1 x2 x7 x8 x9 x10 b T xs0 xs1 xs2 xs3) (n : Fin 8) (j : Fin 4) (r : Fin 1024) (l : Fin 128) : (rdsB arg17 harg17 arg18 harg18 arg19 harg19 arg20 harg20 xs0 xs1 xs2 xs3).tapQ (storeQ I n (piecesQ I (rdsB arg17 harg17 arg18 harg18 arg19 harg19 arg20 harg20 xs0 xs1 xs2 xs3) n.val n.isLt.le)) n j (ix3 0 r l)
      = back (row fun t => val_main_v288 (F := Ideal) x0 x1 x2 (ix3 b t ⟨128 * n.val + l.val, by omega⟩)) 3 (j.val + (T + r.val)) :=
    by
      have hi : ∀ a : Fin 3, ((ix3 n ⟨5 + j.val + r.val, by omega⟩ l : S8x1032x128.Idx) a).val
          = (![n.val, 5 + j.val, 0] : Fin 3 → ℕ) a + ((ix3 0 r l : S1x1024x128.Idx) a).val := fun a => by
        match a with
        | 0 => rfl
        | 1 => rfl
        | 2 => exact (Nat.zero_add _).symm
      show (bif Nat.beq j.val 3 then _ else _ : Vec Ideal S1x1024x128 .f32) (ix3 0 r l) = _
      by_cases hj : j.val = 3
      · rw [show Nat.beq j.val 3 = true from by rw [hj]; rfl]
        exact (cov_at arg18.view _ (ix3 0 r l) _ hi).trans (S.readQ (R := rdsB arg17 harg17 arg18 harg18 arg19 harg19 arg20 harg20 xs0 xs1 xs2 xs3) canon_skips canon_finds n j (fun h => absurd hj (by omega)) r l)
      · rw [show Nat.beq j.val 3 = false from by
          rw [← Bool.not_eq_true]; exact fun h => hj (Nat.eq_of_beq_eq_true h)]
        exact (over_at arg18.view _ (ix3 0 r l) _ hi).trans (S.readQ (R := rdsB arg17 harg17 arg18 harg18 arg19 harg19 arg20 harg20 xs0 xs1 xs2 xs3) (over_skips arg18.view (harg18.unread xs1)) (over_finds arg18.view (harg18.unread xs1)) n j
          (fun _ r l => (congrFun (harg18.read_unread xs1) _).trans (K.q n r l)) r l)

/-- A later tile starts from what the tile before left. -/
theorem Src.carryB (K : Left x0 x1 x2 x7 x8 x9 x10 b T xs0 xs1 xs2 xs3) :
    Carry x0 x1 x2 x7 x8 x9 x10 I (rdsB arg17 harg17 arg18 harg18 arg19 harg19 arg20 harg20 xs0 xs1 xs2 xs3) b T where
  taps := ⟨S.tapsUB arg17 harg17 arg18 harg18 arg19 harg19 arg20 harg20 K, S.tapsQB arg17 harg17 arg18 harg18 arg19 harg19 arg20 harg20 K⟩
  hu L n r l := cov_at arg17.view _ (ix3 0 r l) (ix3 n ⟨1024 + r.val, by omega⟩ l) fun a => by
    match a with
    | 0 => rfl
    | 1 => rfl
    | 2 => exact (Nat.zero_add _).symm
  hq L n r l := cov_at arg18.view _ (ix3 0 r l) (ix3 n ⟨1024 + r.val, by omega⟩ l) fun a => by
    match a with
    | 0 => rfl
    | 1 => rfl
    | 2 => exact (Nat.zero_add _).symm
  hm0 a := (whole_at harg20 xs3 (ix2 (row8 a) 0) (ix2 (row8 a) 0) fun a => by
    match a with
    | 0 => exact (Nat.zero_add _).symm
    | 1 => exact (Nat.zero_add _).symm).trans (K.m a)
  hms n L a := cov_at arg20.view _ (ix2 a 0) (ix2 a 0) fun a => by
    match a with
    | 0 => exact (Nat.zero_add _).symm
    | 1 => exact (Nat.zero_add _).symm
  hc0 a d e := (whole_at harg19 xs2 (ix3 0 d e) (ix3 a d e) fun x => by
    match x with
    | 0 => rfl
    | 1 => exact (Nat.zero_add _).symm
    | 2 => exact (Nat.zero_add _).symm).trans (K.c a d e)
  hce n L a d e := cov_at arg19.view _ (ix3 0 d e) (ix3 a d e) fun x => by
    match x with
    | 0 => rfl
    | 1 => exact (Nat.zero_add _).symm
    | 2 => exact (Nat.zero_add _).symm

end tile

end Cert.MixerIdeal.Stage

end
-- ==== Proof.MixerHost.lean ====
/- What the mixer's call stages of its arguments: the blocks of the residual stream, and the weights as the host prepares
   them, the gates' columns gathered into one padded block. -/
module

public import proofs.«01_k».proof.Proof.Gen.MixerIdeal.Frame
public import proofs.«01_k».proof.Proof.Gen.MixerIdeal.Value
public import Idealize.ShloMosaic.Lib.Pipeline.ValueKit
public import Idealize.ShloMosaic.Lib.Pointwise
public import Idealize.ShloMosaic.Lib.Routing.OpsOne
public import Idealize.ShloMosaic.Lib.StableHlo.ReadAt

@[expose] public section

set_option maxRecDepth 16384

noncomputable section

open Idealize.ShloMosaic Idealize.ShloMosaic.TcCoe Idealize.SL.Sem
open Idealize.ShloMosaic.Routing

namespace Cert.MixerIdeal.Stage

open Cert.MixerIdeal Cert.MixerIdeal.Gen

/-- Columns written over a matrix from column `k` on. -/
theorem scatter_cols (x : S1024x128.Idx → EReal) (idx : IVec S1 32) (u : S1024x4.Idx → EReal) (k : ℕ)
    (hk : (idx (ix1 0)).toInt = (k : Int)) (r : Fin 1024) (c : Fin 128) :
    Host.scatter scatter_S1024x128_S1_S1024x4_01_n_1_0 (fun _ b => b) x idx u (ix2 r c)
      = if h : k ≤ c.val ∧ c.val < k + 4 then u (ix2 r ⟨c.val - k, by omega⟩) else x (ix2 r c) := by
  have lands : ∀ (r' : Fin 1024) (j : Fin 4), scatter_S1024x128_S1_S1024x4_01_n_1_0.resultIdx? (ix2 r' j) idx = some (ix2 r c)
      ↔ r'.val = r.val ∧ k + j.val = c.val := fun r' j => by
    have s0 : scatter_S1024x128_S1_S1024x4_01_n_1_0.start (ix2 r' j) idx 0 = 0 := by
      unfold ScatterDims.start; exact dif_neg (by decide)
    have s1 : scatter_S1024x128_S1_S1024x4_01_n_1_0.start (ix2 r' j) idx 1 = k := by
      unfold ScatterDims.start
      refine (dif_pos (by decide)).trans ?_
      refine (congrArg (fun i => (idx i).toInt) (?_ : _ = ix1 (0 : Fin 1))).trans hk
      funext b; match b with | ⟨0, _⟩ => exact Subsingleton.elim (α := Fin 1) _ _
    have w0 : scatter_S1024x128_S1_S1024x4_01_n_1_0.window (ix2 r' j) 0 = r'.val := by
      unfold ScatterDims.window; exact (dif_pos (by decide)).trans rfl
    have w1 : scatter_S1024x128_S1_S1024x4_01_n_1_0.window (ix2 r' j) 1 = j.val := by
      unfold ScatterDims.window; exact (dif_pos (by decide)).trans rfl
    refine (resultIdx?_ix2 (R := 1024) (C := 128) _ _ _ r c).trans ?_
    rw [s0, s1, w0, w1]; omega
  by_cases h : k ≤ c.val ∧ c.val < k + 4
  · rw [dif_pos h]
    refine scatter_set_hit _ x idx u _ _ (fun j hj => ?_) (ix2 r ⟨c.val - k, by omega⟩) ((lands _ _).2 ⟨rfl, by show k + (c.val - k) = c.val; omega⟩)
    have q := (lands (j 0) (j 1)).1 ((congrArg (fun t => ScatterDims.resultIdx? _ t idx) (eq_ix2 j).symm).trans hj)
    have hlt : c.val - k < 4 := by omega
    have q1 : j 1 = (⟨c.val - k, hlt⟩ : Fin 4) := Fin.ext (Nat.eq_sub_of_add_eq ((Nat.add_comm _ _).trans q.2))
    rw [eq_ix2 j, show j 0 = r from Fin.ext q.1, q1]
  · rw [dif_neg h]
    refine scatter_set_miss _ x idx u _ fun j hj => h ?_
    have q := (lands (j 0) (j 1)).1 ((congrArg (fun t => ScatterDims.resultIdx? _ t idx) (eq_ix2 j).symm).trans hj)
    have : (j 1).val < 4 := (j 1).isLt
    omega

/-- Entries written over a row from column `k` on. -/
theorem scatter_row (x : S1x128.Idx → EReal) (idx : IVec S2 32) (u : S4.Idx → EReal) (k : ℕ)
    (h0 : (idx (ix1 0)).toInt = 0) (hk : (idx (ix1 1)).toInt = (k : Int)) (c : Fin 128) :
    Host.scatter scatter_S1x128_S2_S4_0_0_01_0 (fun _ b => b) x idx u (ix2 0 c)
      = if h : k ≤ c.val ∧ c.val < k + 4 then u (ix1 ⟨c.val - k, by omega⟩) else x (ix2 0 c) := by
  have lands : ∀ (j : Fin 4), scatter_S1x128_S2_S4_0_0_01_0.resultIdx? (ix1 j) idx = some (ix2 (0 : Fin 1) c)
      ↔ k + j.val = c.val := fun j => by
    have w0 : scatter_S1x128_S2_S4_0_0_01_0.window (ix1 j) 0 = 0 := by
      unfold ScatterDims.window; exact dif_neg (by decide)
    have w1 : scatter_S1x128_S2_S4_0_0_01_0.window (ix1 j) 1 = j.val := by
      unfold ScatterDims.window; exact (dif_pos (by decide)).trans rfl
    refine (resultIdx?_ix2 (R := 1) (C := 128) _ _ _ 0 c).trans ?_
    rw [w0, w1, show scatter_S1x128_S2_S4_0_0_01_0.start (ix1 j) idx 0 = 0 from (start_pair (R := 1) (C := 128) _ rfl rfl idx _ 0).trans h0,
      show scatter_S1x128_S2_S4_0_0_01_0.start (ix1 j) idx 1 = k from (start_pair (R := 1) (C := 128) _ rfl rfl idx _ 1).trans hk]
    simp only [Fin.val_zero]; omega
  by_cases h : k ≤ c.val ∧ c.val < k + 4
  · rw [dif_pos h]
    refine scatter_set_hit _ x idx u _ _ (fun j hj => ?_) (ix1 ⟨c.val - k, by omega⟩) ((lands _).2 (by show k + (c.val - k) = c.val; omega))
    have q := (lands (j 0)).1 ((congrArg (fun t => ScatterDims.resultIdx? _ t idx) (eq_ix1 j).symm).trans hj)
    have hlt : c.val - k < 4 := by omega
    have q1 : j 0 = (⟨c.val - k, hlt⟩ : Fin 4) := Fin.ext (Nat.eq_sub_of_add_eq ((Nat.add_comm _ _).trans q))
    rw [eq_ix1 j, q1]
  · rw [dif_neg h]
    refine scatter_set_miss _ x idx u _ fun j hj => h ?_
    have q := (lands (j 0)).1 ((congrArg (fun t => ScatterDims.resultIdx? _ t idx) (eq_ix1 j).symm).trans hj)
    have : (j 0).val < 4 := (j 0).isLt
    omega

variable (m : (ℓ : Loc nD τ sig) → Buf (Elt Ideal) ℓ)

/-- Each window's block at each grid point. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![t.val / 8, t.val % 8, 0] :=
  (by decide +kernel : ∀ t : Fin grid0.N, _)

/-- What grid point `t` stages of the residual stream. -/
theorem h_at (c : Dev nD) (t : Fin cfg0.N) (r : Fin 1024) (b : Fin 8) (s : Fin 8192) (hb : b.val = t.val / 8)
    (hs : s.val = t.val % 8 * 1024 + r.val) (l : Fin 1024) :
    iblk m c 0 t (ix3 0 r l) = m ((c : Thread nD τ).loc main_arg0) (ix3 b s l) := by
  blk_point [iblk, V, idx t]

/-- What the host leaves for the first gain, -/
theorem v21_at (c : Dev nD) (l : Fin 1024) : V m c main_v21 (ix2 0 l) = m ((c : Thread nD τ).loc main_arg1) (ix2 0 l) := by
  unfold V
  simp only [hostOps0, hostOps0_1, hostOps0_2, hostOps0_3, hostOps0_4, List.flatten_cons, List.flatten_nil, List.append_nil, List.cons_append, List.nil_append]
  after_reads_at
/-- for the input weights, -/
theorem v24_at (c : Dev nD) (k : Fin 1024) (l : Fin 3072) : V m c main_v24 (ix2 k l) = m ((c : Thread nD τ).loc main_arg2) (ix3 0 k ⟨l.val, by omega⟩) := by
  unfold V
  simp only [hostOps0, hostOps0_1, hostOps0_2, hostOps0_3, hostOps0_4, List.flatten_cons, List.flatten_nil, List.append_nil, List.cons_append, List.nil_append]
  after_reads_at
/-- for the wide convolution's weights, -/
theorem v27_at (c : Dev nD) (j : Fin 31) (l : Fin 512) : V m c main_v27 (ix2 ⟨j.val, by omega⟩ l) = m ((c : Thread nD τ).loc main_arg3) (ix3 0 j l) := by
  unfold V
  simp only [hostOps0, hostOps0_1, hostOps0_2, hostOps0_3, hostOps0_4, List.flatten_cons, List.flatten_nil, List.append_nil, List.cons_append, List.nil_append]
  after_reads_at
/-- for the wide convolution's bias, -/
theorem v29_at (c : Dev nD) (l : Fin 512) : V m c main_v29 (ix2 0 l) = m ((c : Thread nD τ).loc main_arg4) (ix2 0 l) := by
  unfold V
  simp only [hostOps0, hostOps0_1, hostOps0_2, hostOps0_3, hostOps0_4, List.flatten_cons, List.flatten_nil, List.append_nil, List.cons_append, List.nil_append]
  after_reads_at
/-- for the layer norm's gain, -/
theorem v31_at (c : Dev nD) (l : Fin 512) : V m c main_v31 (ix2 0 l) = m ((c : Thread nD τ).loc main_arg5) (ix2 0 l) := by
  unfold V
  simp only [hostOps0, hostOps0_1, hostOps0_2, hostOps0_3, hostOps0_4, List.flatten_cons, List.flatten_nil, List.append_nil, List.cons_append, List.nil_append]
  after_reads_at
/-- for the layer norm's offset, -/
theorem v33_at (c : Dev nD) (l : Fin 512) : V m c main_v33 (ix2 0 l) = m ((c : Thread nD τ).loc main_arg6) (ix2 0 l) := by
  unfold V
  simp only [hostOps0, hostOps0_1, hostOps0_2, hostOps0_3, hostOps0_4, List.flatten_cons, List.flatten_nil, List.append_nil, List.cons_append, List.nil_append]
  after_reads_at
/-- for the narrow convolution's weights, -/
theorem v35_at (c : Dev nD) (j : Fin 4) (l : Fin 1024) : V m c main_v35 (ix2 ⟨j.val, by omega⟩ l) = m ((c : Thread nD τ).loc main_arg7) (ix3 0 j l) := by
  unfold V
  simp only [hostOps0, hostOps0_1, hostOps0_2, hostOps0_3, hostOps0_4, List.flatten_cons, List.flatten_nil, List.append_nil, List.cons_append, List.nil_append]
  after_reads_at
/-- for its bias, -/
theorem v37_at (c : Dev nD) (l : Fin 1024) : V m c main_v37 (ix2 0 l) = m ((c : Thread nD τ).loc main_arg8) (ix2 0 l) := by
  unfold V
  simp only [hostOps0, hostOps0_1, hostOps0_2, hostOps0_3, hostOps0_4, List.flatten_cons, List.flatten_nil, List.append_nil, List.cons_append, List.nil_append]
  after_reads_at
/-- for the heads' gain, -/
theorem v39_at (c : Dev nD) (l : Fin 512) : V m c main_v39 (ix2 0 l) = m ((c : Thread nD τ).loc main_arg11) (ix2 0 l) := by
  unfold V
  simp only [hostOps0, hostOps0_1, hostOps0_2, hostOps0_3, hostOps0_4, List.flatten_cons, List.flatten_nil, List.append_nil, List.cons_append, List.nil_append]
  after_reads_at
/-- for the output weights, -/
theorem v41_at (c : Dev nD) (k l : Fin 1024) : V m c main_v41 (ix2 k l) = m ((c : Thread nD τ).loc main_arg12) (ix3 0 k l) := by
  unfold V
  simp only [hostOps0, hostOps0_1, hostOps0_2, hostOps0_3, hostOps0_4, List.flatten_cons, List.flatten_nil, List.append_nil, List.cons_append, List.nil_append]
  after_reads_at
/-- for the last gain, -/
theorem v43_at (c : Dev nD) (l : Fin 1024) : V m c main_v43 (ix2 0 l) = m ((c : Thread nD τ).loc main_arg13) (ix2 0 l) := by
  unfold V
  simp only [hostOps0, hostOps0_1, hostOps0_2, hostOps0_3, hostOps0_4, List.flatten_cons, List.flatten_nil, List.append_nil, List.cons_append, List.nil_append]
  after_reads_at
/-- for the gates' biases, -/
theorem v19_at (c : Dev nD) (l : Fin 128) : V m c main_v19 (ix2 0 l)
    = if h : 8 ≤ l.val ∧ l.val < 8 + 4 then m ((c : Thread nD τ).loc main_arg10) (ix2 0 ⟨l.val - 8, by omega⟩)
      else if h : l.val < 4 then m ((c : Thread nD τ).loc main_arg9) (ix2 0 ⟨l.val, h⟩) else (0 : EReal) := by
  unfold V
  simp only [hostOps0, hostOps0_1, hostOps0_2, hostOps0_3, hostOps0_4, List.flatten_cons, List.flatten_nil, List.append_nil, List.cons_append, List.nil_append]
  after_reads_at
  refine (scatter_row _ _ _ 8 ?_ ?_ l).trans ?_
  · pointwise []
    after_reads_at
    decide
  · pointwise []
    after_reads_at
    decide
  · by_cases h8 : 8 ≤ l.val ∧ l.val < 8 + 4
    · rw [dif_pos h8, dif_pos h8]; rfl
    rw [dif_neg h8, dif_neg h8]
    refine (scatter_row _ _ _ 0 ?_ ?_ l).trans ?_
    · pointwise []
      after_reads_at
      decide
    · pointwise []
      after_reads_at
      decide
    · by_cases h0 : l.val < 4
      · rw [dif_pos (show 0 ≤ l.val ∧ l.val < 0 + 4 by omega), dif_pos h0]; rfl
      · rw [dif_neg (show ¬(0 ≤ l.val ∧ l.val < 0 + 4) by omega), dif_neg h0]
        pointwise []
/-- and for the gates' columns. -/
theorem v25_at (c : Dev nD) (k : Fin 1024) (l : Fin 128) : V m c main_v25 (ix2 k l)
    = if h : 8 ≤ l.val ∧ l.val < 8 + 4 then m ((c : Thread nD τ).loc main_arg2) (ix3 0 k ⟨3076 + (l.val - 8), by omega⟩)
      else if h : l.val < 4 then m ((c : Thread nD τ).loc main_arg2) (ix3 0 k ⟨3072 + l.val, by omega⟩) else (0 : EReal) := by
  unfold V
  simp only [hostOps0, hostOps0_1, hostOps0_2, hostOps0_3, hostOps0_4, List.flatten_cons, List.flatten_nil, List.append_nil, List.cons_append, List.nil_append]
  after_reads_at
  refine (scatter_cols _ _ _ 8 ?_ k l).trans ?_
  · rfl
  · by_cases h8 : 8 ≤ l.val ∧ l.val < 8 + 4
    · rw [dif_pos h8, dif_pos h8]
      pointwise []
    rw [dif_neg h8, dif_neg h8]
    refine (scatter_cols _ _ _ 0 ?_ k l).trans ?_
    · rfl
    · by_cases h0 : l.val < 4
      · rw [dif_pos (show 0 ≤ l.val ∧ l.val < 0 + 4 by omega), dif_pos h0]
        pointwise []
      · rw [dif_neg (show ¬(0 ≤ l.val ∧ l.val < 0 + 4) by omega), dif_neg h0]
        pointwise []
/-- What a grid point stages of a host array at one block is the host array. -/
theorem stage_at (c : Dev nD) (t : Fin cfg0.N) :
    (∀ i j, iblk m c 1 t (ix2 i j) = V m c main_v21 (ix2 i j)) ∧ (∀ i j, iblk m c 2 t (ix2 i j) = V m c main_v24 (ix2 i j))
    ∧ (∀ i j, iblk m c 3 t (ix2 i j) = V m c main_v25 (ix2 i j)) ∧ (∀ i j, iblk m c 4 t (ix2 i j) = V m c main_v27 (ix2 i j))
    ∧ (∀ i j, iblk m c 5 t (ix2 i j) = V m c main_v29 (ix2 i j)) ∧ (∀ i j, iblk m c 6 t (ix2 i j) = V m c main_v31 (ix2 i j))
    ∧ (∀ i j, iblk m c 7 t (ix2 i j) = V m c main_v33 (ix2 i j)) ∧ (∀ i j, iblk m c 8 t (ix2 i j) = V m c main_v35 (ix2 i j))
    ∧ (∀ i j, iblk m c 9 t (ix2 i j) = V m c main_v37 (ix2 i j)) ∧ (∀ i j, iblk m c 10 t (ix2 i j) = V m c main_v19 (ix2 i j))
    ∧ (∀ i j, iblk m c 11 t (ix2 i j) = V m c main_v39 (ix2 i j)) ∧ (∀ i j, iblk m c 12 t (ix2 i j) = V m c main_v41 (ix2 i j))
    ∧ (∀ i j, iblk m c 13 t (ix2 i j) = V m c main_v43 (ix2 i j)) := by
  unfold iblk
  generalize V m c = W
  refine ⟨?_, ?_, ?_, ?_, ?_, ?_, ?_, ?_, ?_, ?_, ?_, ?_, ?_⟩ <;> (intro i j; blk_point [idx t])

end Cert.MixerIdeal.Stage
-- ==== Proof.MixerValue.lean ====
/- The mixer's value: over exact reals the kernel's result array is its reference's. -/
module

public import proofs.«01_k».proof.Proof.MixerState
public import proofs.«01_k».proof.Proof.MixerHost
public import proofs.«01_k».proof.Proof.XattnValue
public import proofs.«01_k».proof.Proof.Gen.MixerIdeal.Value
public import proofs.«01_k».proof.Proof.Gen.MixerRefIdeal.Run
public import Idealize.ShloMosaic.Lib.Pipeline.ValueKit
public import Idealize.ShloMosaic.Lib.Claim
public import proofs.«01_k».proof.Proof.Gen.Pre_finite_gates
public import proofs.«01_k».proof.Defs

@[expose] public section

set_option maxRecDepth 16384

noncomputable section

open Idealize.ShloMosaic Idealize.ShloMosaic.TcCoe Idealize.SL.Sem
open Idealize.ShloMosaic.Pipeline (Dat)

namespace Cert.MixerIdeal.Stage

open Cert.MixerIdeal Cert.MixerIdeal.Gen
open Cert.Finite (IsReal)
open Cert.MixerRefIdeal.Read

/-- The precondition, read: the gain, the weights and the biases the recurrence runs through are real. -/
theorem pre_real (X0 : FVec Ideal S8x8192x1024 .f32) (X1 : FVec Ideal S1x1024 .f32) (X2 : FVec Ideal S1x1024x3080 .f32) (X3 : FVec Ideal S1x31x512 .f32) (X4 : FVec Ideal S1x512 .f32) (X5 : FVec Ideal S1x512 .f32) (X6 : FVec Ideal S1x512 .f32) (X7 : FVec Ideal S1x4x1024 .f32) (X8 : FVec Ideal S1x1024 .f32) (X9 : FVec Ideal S1x4 .f32) (X10 : FVec Ideal S1x4 .f32) (X11 : FVec Ideal S1x512 .f32) (X12 : FVec Ideal S1x1024x1024 .f32) (X13 : FVec Ideal S1x1024 .f32)
    (h : Cert.Pre_finite_gates.fn (F := Ideal) X0 X1 X2 X3 X4 X5 X6 X7 X8 X9 X10 X11 X12 X13 = (fun _ => 1#1)) : Reals X1 X2 X7 X8 X9 X10 := by
  have e := congrFun h ix0
  simp only [Cert.Pre_finite_gates.fn, Cert.Pre_finite_gates.fn_part1, andi, IntOp.andi_eq_one] at e
  obtain ⟨⟨⟨⟨⟨e1, e2⟩, e7⟩, e8⟩, e9⟩, e10⟩ := e
  exact ⟨Cert.XattnIdeal.Attn.real_of_cmp _ _ X1 e1, Cert.XattnIdeal.Attn.real_of_cmp _ _ X2 e2, Cert.XattnIdeal.Attn.real_of_cmp _ _ X7 e7,
    Cert.XattnIdeal.Attn.real_of_cmp _ _ X8 e8, Cert.XattnIdeal.Attn.real_of_cmp _ _ X9 e9, Cert.XattnIdeal.Attn.real_of_cmp _ _ X10 e10⟩

variable (m : (ℓ : Loc nD τ sig) → Buf (Elt Ideal) ℓ)

/-- The reference's result over the arguments. -/
abbrev REF (c : Dev nD) : FVec Ideal S8x8192x1024 .f32 :=
  val_main_v409 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What a grid point's body loads of its input blocks. -/
def tin (c : Dev nD) (t : Fin cfg0.N) : Ins Ideal := ins (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

set_option maxHeartbeats 1600000 in
/-- They are a sequence's rows and the weights. -/
theorem tin_src (c : Dev nD) (t : Fin cfg0.N) (b : Fin 8) (hb : b.val = t.val / 8) (hT : t.val % 8 * 1024 + 1024 ≤ 8192) :
    Src (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (tin m c t) b (t.val % 8 * 1024) hT :=
  have st := stage_at m c t
  {
  h r l := (whole_at (hs0_0 t) (iblk m c 0 t) (ix3 0 r l) (ix3 0 r l) fun a => by
    match a with
    | 0 => exact (Nat.zero_add _).symm
    | 1 => exact (Nat.zero_add _).symm
    | 2 => exact (Nat.zero_add _).symm).trans (h_at m c t r b ⟨t.val % 8 * 1024 + r.val, by omega⟩ hb rfl l)
  gpre l := (whole_at (hs0_1 t) (iblk m c 1 t) (ix2 0 l) (ix2 0 l) fun a => by
    match a with
    | 0 => exact (Nat.zero_add _).symm
    | 1 => exact (Nat.zero_add _).symm).trans ((st.1 _ _).trans (v21_at m c l))
  win k l := (whole_at (hs0_2 t) (iblk m c 2 t) (ix2 k l) (ix2 k l) fun a => by
    match a with
    | 0 => exact (Nat.zero_add _).symm
    | 1 => exact (Nat.zero_add _).symm).trans ((st.2.1 _ _).trans (v24_at m c k l))
  wgate k l := (whole_at (hs0_3 t) (iblk m c 3 t) (ix2 k l) (ix2 k l) fun a => by
    match a with
    | 0 => exact (Nat.zero_add _).symm
    | 1 => exact (Nat.zero_add _).symm).trans ((st.2.2.1 _ _).trans (v25_at m c k l))
  wc n j l := (whole_at (hs0_4 t) (iblk m c 4 t) (ix2 0 l) (ix2 ⟨j.val, by omega⟩ ⟨128 * n.val + l.val, by omega⟩) fun a => by
    match a with
    | 0 => rfl
    | 1 => rfl).trans ((st.2.2.2.1 _ _).trans (v27_at m c j _))
  bc n l := (whole_at (hs0_5 t) (iblk m c 5 t) (ix2 0 l) (ix2 0 ⟨128 * n.val + l.val, by omega⟩) fun a => by
    match a with
    | 0 => exact (Nat.zero_add _).symm
    | 1 => rfl).trans ((st.2.2.2.2.1 _ _).trans (v29_at m c _))
  lng l := (whole_at (hs0_6 t) (iblk m c 6 t) (ix2 0 l) (ix2 0 l) fun a => by
    match a with
    | 0 => exact (Nat.zero_add _).symm
    | 1 => exact (Nat.zero_add _).symm).trans ((st.2.2.2.2.2.1 _ _).trans (v31_at m c l))
  lnb l := (whole_at (hs0_7 t) (iblk m c 7 t) (ix2 0 l) (ix2 0 l) fun a => by
    match a with
    | 0 => exact (Nat.zero_add _).symm
    | 1 => exact (Nat.zero_add _).symm).trans ((st.2.2.2.2.2.2.1 _ _).trans (v33_at m c l))
  wq n j l := (whole_at (hs0_8 t) (iblk m c 8 t) (ix2 0 l) (ix2 ⟨j.val, by omega⟩ ⟨128 * n.val + l.val, by omega⟩) fun a => by
    match a with
    | 0 => rfl
    | 1 => rfl).trans ((st.2.2.2.2.2.2.2.1 _ _).trans (v35_at m c j _))
  bq n l := (whole_at (hs0_9 t) (iblk m c 9 t) (ix2 0 l) (ix2 0 ⟨128 * n.val + l.val, by omega⟩) fun a => by
    match a with
    | 0 => exact (Nat.zero_add _).symm
    | 1 => rfl).trans ((st.2.2.2.2.2.2.2.2.1 _ _).trans (v37_at m c _))
  gb l := (whole_at (hs0_10 t) (iblk m c 10 t) (ix2 0 l) (ix2 0 l) fun a => by
    match a with
    | 0 => exact (Nat.zero_add _).symm
    | 1 => exact (Nat.zero_add _).symm).trans ((st.2.2.2.2.2.2.2.2.2.1 _ _).trans (v19_at m c l))
  gn n l := (whole_at (hs0_11 t) (iblk m c 11 t) (ix2 0 l) (ix2 0 ⟨128 * n.val + l.val, by omega⟩) fun a => by
    match a with
    | 0 => exact (Nat.zero_add _).symm
    | 1 => rfl).trans ((st.2.2.2.2.2.2.2.2.2.2.1 _ _).trans (v39_at m c _))
  wout k l := (whole_at (hs0_12 t) (iblk m c 12 t) (ix2 k l) (ix2 k l) fun a => by
    match a with
    | 0 => exact (Nat.zero_add _).symm
    | 1 => exact (Nat.zero_add _).symm).trans ((st.2.2.2.2.2.2.2.2.2.2.2.1 _ _).trans (v41_at m c k l))
  gpost l := (whole_at (hs0_13 t) (iblk m c 13 t) (ix2 0 l) (ix2 0 l) fun a => by
    match a with
    | 0 => exact (Nat.zero_add _).symm
    | 1 => exact (Nat.zero_add _).symm).trans ((st.2.2.2.2.2.2.2.2.2.2.2.2 _ _).trans (v43_at m c l))
  }

/-- A grid point leaves the reference's rows in its result block, and the tokens it has run in the scratch. -/
structure Good (c : Dev nD) (t : Fin cfg0.N) (b : Fin 8) : Prop where
  out : ∀ (r l : Fin 1024), (outsAt0 m c t.val t.isLt).1 (ix3 0 r l) = REF m c (ix3 b ⟨t.val % 8 * 1024 + r.val, by omega⟩ l)
  left : Left (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) b (t.val % 8 * 1024 + 1024) (outsAt0 m c t.val t.isLt).2.1 (outsAt0 m c t.val t.isLt).2.2.1
    (outsAt0 m c t.val t.isLt).2.2.2.1 (outsAt0 m c t.val t.isLt).2.2.2.2

variable (c : Dev nD) (P : Reals (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)))
include P

/-- A sequence's first grid point. -/
theorem good_A (t : Fin cfg0.N) (b : Fin 8) (hb : b.val = t.val / 8) (h0 : t.val % 8 = 0) : Good m c t b := by
  have S := tin_src m c t b hb (by omega)
  let R : Rds Ideal := (rdsA scM0_0 scM0_1 scM0_2 scM0_3)
  have K := S.carryA scM0_0 scM0_1 scM0_2 scM0_3 (by omega)
  have e := outsAt0_A m c t h0
  have eU : (outsAt0 m c t.val t.isLt).2.1 = View.canon (piecesU (tin m c t) R 4 (Nat.le_refl _)) := by
    rw [e]; dsimp only; unfold sout0_A_0; rw [View.read_writes_junk_eq_canon, runU_A]; rfl
  have eQ : (outsAt0 m c t.val t.isLt).2.2.1 = View.canon (piecesQ (tin m c t) R 8 (Nat.le_refl _)) := by
    rw [e]; dsimp only; unfold sout0_A_1; rw [View.read_writes_junk_eq_canon, runQ_A]; rfl
  have eC : (outsAt0 m c t.val t.isLt).2.2.2.1 = View.canon (piecesC (tin m c t) R 8 (Nat.le_refl _)) := by
    rw [e]; dsimp only; unfold sout0_A_2; rw [View.read_writes_junk_eq_canon, runC_A]; rfl
  have eM : (outsAt0 m c t.val t.isLt).2.2.2.2 = View.canon (piecesM (tin m c t) R 8 (Nat.le_refl _)) := by
    rw [e]; dsimp only; unfold sout0_A_3; rw [View.read_writes_junk_eq_canon, runM_A]; rfl
  have eX : ∀ y, (outsAt0 m c t.val t.isLt).1 y = outBlk (tin m c t) (scM0_4.view.readCov (piecesX (tin m c t) R 8 (Nat.le_refl _)) (Rect.unit (s := S1024x1024) ![0, 0] S1024x1024.size inb_S1024x1024_S1024x1024_0_0).toLoadRect) y := fun y => by
    rw [e]; dsimp only; unfold out0_A_14; rw [View.read_writes_junk_eq_canon, runX_A]
    exact canon_finds _ _ _ _ _ y y fun a => by
      match a with
      | 0 => exact (Nat.zero_add _).symm
      | 1 => exact (Nat.zero_add _).symm
      | 2 => exact (Nat.zero_add _).symm
  refine ⟨fun r l => (eX _).trans (S.block P K scM0_4.view r l), ?_⟩
  rw [eU, eQ, eC, eM]
  exact S.left P K

/-- A later grid point. -/
theorem good_B (t : Fin cfg0.N) (b : Fin 8) (hb : b.val = t.val / 8) (h0 : ¬t.val % 8 = 0)
    (hL : Left (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) b (t.val % 8 * 1024) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) : Good m c t b := by
  have S := tin_src m c t b hb (by omega)
  let R : Rds Ideal := (rdsB scM0_0 (Memref.isWhole_whole _) scM0_1 (Memref.isWhole_whole _) scM0_2 (Memref.isWhole_whole _) scM0_3 (Memref.isWhole_whole _) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2)
  have K := S.carryB scM0_0 (Memref.isWhole_whole _) scM0_1 (Memref.isWhole_whole _) scM0_2 (Memref.isWhole_whole _) scM0_3 (Memref.isWhole_whole _) hL
  have e := outsAt0_B m c t h0
  have eU : (outsAt0 m c t.val t.isLt).2.1 = View.canon (piecesU (tin m c t) R 4 (Nat.le_refl _)) := by
    rw [e]; dsimp only; unfold sout0_B_0; rw [View.read_writes_junk_eq_canon, runU_B]; rfl
  have eQ : (outsAt0 m c t.val t.isLt).2.2.1 = View.canon (piecesQ (tin m c t) R 8 (Nat.le_refl _)) := by
    rw [e]; dsimp only; unfold sout0_B_1; rw [View.read_writes_junk_eq_canon, runQ_B]; rfl
  have eC : (outsAt0 m c t.val t.isLt).2.2.2.1 = View.canon (piecesC (tin m c t) R 8 (Nat.le_refl _)) := by
    rw [e]; dsimp only; unfold sout0_B_2; rw [View.read_writes_junk_eq_canon, runC_B]; rfl
  have eM : (outsAt0 m c t.val t.isLt).2.2.2.2 = View.canon (piecesM (tin m c t) R 8 (Nat.le_refl _)) := by
    rw [e]; dsimp only; unfold sout0_B_3; rw [View.read_writes_junk_eq_canon, runM_B]; rfl
  have eX : ∀ y, (outsAt0 m c t.val t.isLt).1 y = outBlk (tin m c t) (scM0_4.view.readCov (piecesX (tin m c t) R 8 (Nat.le_refl _)) (Rect.unit (s := S1024x1024) ![0, 0] S1024x1024.size inb_S1024x1024_S1024x1024_0_0).toLoadRect) y := fun y => by
    rw [e]; dsimp only; unfold out0_B_14; rw [View.read_writes_junk_eq_canon, runX_B]
    exact canon_finds _ _ _ _ _ y y fun a => by
      match a with
      | 0 => exact (Nat.zero_add _).symm
      | 1 => exact (Nat.zero_add _).symm
      | 2 => exact (Nat.zero_add _).symm
  refine ⟨fun r l => (eX _).trans (S.block P K scM0_4.view r l), ?_⟩
  rw [eU, eQ, eC, eM]
  exact S.left P K

/-- Every grid point. -/
theorem good (n : ℕ) (hn : n < cfg0.N) (b : Fin 8) (hb : b.val = n / 8) : Good m c ⟨n, hn⟩ b := by
  induction n with
  | zero => exact good_A m c P ⟨0, hn⟩ b hb rfl
  | succ n ih =>
    by_cases h0 : (n + 1) % 8 = 0
    · exact good_A m c P ⟨n + 1, hn⟩ b hb h0
    · have g := (ih (by omega) (by omega)).left
      refine good_B m c P ⟨n + 1, hn⟩ b hb h0 ?_
      have e : n % 8 * 1024 + 1024 = (n + 1) % 8 * 1024 := by omega
      exact e ▸ g

omit P in
/-- The result array after the run is the reference's term of the arguments. -/
theorem final (hp : Cert.Pre_MixerIdeal_finite_gates m) : (dats m 0 c).arrAt 14 (cfgs 0).N = REF m c := by
  have P := pre_real _ _ _ _ _ _ _ _ _ _ _ _ _ _ (hp c)
  refine (dats m 0 c).arrAt_eq_of_covers 14 _ (by decide +kernel) fun t _ y => ?_
  blk_simp; rw [after0_14]
  have ht : t.val < 64 := t.isLt
  have hr : (y 1).val < 1024 := (y 1).isLt
  have hy : (y 0).val = 0 := by have : (y 0).val < 1 := (y 0).isLt; omega
  refine (congrArg _ ((eq_ix3 y).trans (congrArg (fun i => ix3 i (y 1) (y 2)) (Fin.ext hy : y 0 = (0 : Fin 1))))).trans ?_
  refine ((good m c P t.val t.isLt ⟨t.val / 8, by omega⟩ rfl).out (y 1) (y 2)).trans ?_
  refine congrArg (REF m c) ?_
  blk_ext [idx t]

set_option maxHeartbeats 1600000 in
omit P in
/-- The idealized kernel and the idealized reference of the mixer end with the same array, where the gain, the weights and
    the biases the recurrence runs through are finite. -/
theorem algebraic : Cert.algebraic_MixerIdeal_MixerRefIdeal_pre_finite_gates := by
  pair_intro
  · run_from Cert.MixerIdeal.Gen.run_main m g & Cert.MixerIdeal.Gen.unchanged m g
  · refine (θ_run _ _ _).mono (fun r h c => ⟨(h c).1.trans ?_, (h c).2⟩) (Cert.MixerRefIdeal.Value.run m' g')
    obtain ⟨h0, h1, h2, h3, h4, h5, h6, h7, h8, h9, h10, h11, h12, h13⟩ := hagree c
    have e : val_main_v409 (F := Ideal)
        (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg1)) (m' ((c : Thread Cert.MixerRefIdeal.nD Cert.MixerRefIdeal.τ).loc Cert.MixerRefIdeal.main_arg2)) (m' ((c : Thread Cert.MixerRefIdeal.nD Cert.MixerRefIdeal.τ).loc Cert.MixerRefIdeal.main_arg3)) (m' ((c : Thread Cert.MixerRefIdeal.nD Cert.MixerRefIdeal.τ).loc Cert.MixerRefIdeal.main_arg4))
        (m' ((c : Thread Cert.MixerRefIdeal.nD Cert.MixerRefIdeal.τ).loc Cert.MixerRefIdeal.main_arg5)) (m' ((c : Thread Cert.MixerRefIdeal.nD Cert.MixerRefIdeal.τ).loc Cert.MixerRefIdeal.main_arg6)) (m' ((c : Thread Cert.MixerRefIdeal.nD Cert.MixerRefIdeal.τ).loc Cert.MixerRefIdeal.main_arg7)) (m' ((c : Thread Cert.MixerRefIdeal.nD Cert.MixerRefIdeal.τ).loc Cert.MixerRefIdeal.main_arg8)) (m' ((c : Thread Cert.MixerRefIdeal.nD Cert.MixerRefIdeal.τ).loc Cert.MixerRefIdeal.main_arg9))
        (m' ((c : Thread Cert.MixerRefIdeal.nD Cert.MixerRefIdeal.τ).loc Cert.MixerRefIdeal.main_arg10)) (m' ((c : Thread Cert.MixerRefIdeal.nD Cert.MixerRefIdeal.τ).loc Cert.MixerRefIdeal.main_arg11)) (m' ((c : Thread Cert.MixerRefIdeal.nD Cert.MixerRefIdeal.τ).loc Cert.MixerRefIdeal.main_arg12)) (m' ((c : Thread Cert.MixerRefIdeal.nD Cert.MixerRefIdeal.τ).loc Cert.MixerRefIdeal.main_arg13)) = REF m c := by
      rw [REF, h0, h1, h2, h3, h4, h5, h6, h7, h8, h9, h10, h11, h12, h13]
    rw [final m c hpre]
    exact (Cert.MixerRefIdeal.Read.val_main_v409_eq (StableHlo.launchContents m' c)).trans e

end Cert.MixerIdeal.Stage

end
-- ==== Proof.lean ====
module

public import proofs.«01_k».proof.Defs
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Gen.Pre_finite_inputs
public import proofs.«01_k».proof.Proof.Gen.MixerRefIdeal
public import proofs.«01_k».proof.Proof.Gen.MixerRefIdeal.Run
public import proofs.«01_k».proof.Proof.Gen.MixerRefIdeal.Read
public import proofs.«01_k».proof.Proof.Gen.Pre_finite_gates
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnRefIdeal
public import proofs.«01_k».proof.Proof.Gen.Pre_finite_scores
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.XattnIdeal.Value
public import proofs.«01_k».proof.Proof.Gen.FfnIdeal.Value
public import proofs.«01_k».proof.Proof.Gen.MemkvIdeal.Value
public import proofs.«01_k».proof.Proof.Gen.MixerIdeal.Value
public import proofs.«01_k».proof.Proof.Gen.XattnRefIdeal.Run
public import proofs.«01_k».proof.Proof.Gen.FfnRefIdeal.Run
public import proofs.«01_k».proof.Proof.Gen.MemkvRefIdeal.Run
public import proofs.«01_k».proof.Proof.Gen.XattnRefIdeal.Read
public import proofs.«01_k».proof.Proof.Gen.FfnRefIdeal.Read
public import proofs.«01_k».proof.Proof.Gen.MemkvRefIdeal.Read
public import proofs.«01_k».proof.Proof.MemkvValue
public import proofs.«01_k».proof.Proof.FfnValue
public import proofs.«01_k».proof.Proof.XattnValue
public import proofs.«01_k».proof.Proof.TailRef
public import proofs.«01_k».proof.Proof.TailValue
public import proofs.«01_k».proof.Proof.MixerValue
public import Idealize.ShloMosaic.Lib.Claim
public import Idealize.ShloMosaic.Adequacy
public import Idealize.ShloMosaic.Init

@[expose] public section

noncomputable section

namespace Cert.Proof

open Idealize.ShloMosaic Idealize.SL.Sem Cert.Xattn

/-- The idealized reference of the cross attention ends, with its arguments unchanged. -/
theorem xattnRef_frame : Cert.quiescent_XattnRefIdeal := by
  intro m g _
  exact (θ_run Cert.XattnRefIdeal.defs _ _).mono
    (fun r h => ⟨fun c => (h c).2, Idealize.ShloMosaic.sem_eq_zero_of_no_sems (by decide) r.2⟩)
    (Cert.XattnRefIdeal.Value.run m g)

/-- The idealized reference of the feed-forward half step ends, with its arguments unchanged. -/
theorem ffnRef_frame : Cert.quiescent_FfnRefIdeal := by
  intro m g _
  exact (θ_run Cert.FfnRefIdeal.defs _ _).mono
    (fun r h => ⟨fun c => (h c).2, Idealize.ShloMosaic.sem_eq_zero_of_no_sems (by decide) r.2⟩)
    (Cert.FfnRefIdeal.Value.run m g)

/-- The idealized reference of the memory's keys and values ends, with its arguments unchanged. -/
theorem memkvRef_frame : Cert.quiescent_MemkvRefIdeal := by
  intro m g _
  exact (θ_run Cert.MemkvRefIdeal.defs _ _).mono
    (fun r h => ⟨fun c => (h c).2.2, Idealize.ShloMosaic.sem_eq_zero_of_no_sems (by decide) r.2⟩)
    (Cert.MemkvRefIdeal.Value.run m g)

/-- The idealized reference of the layer's tail ends, with its arguments unchanged. -/
theorem tailRef_frame : Cert.quiescent_TailRefIdeal := by
  intro m g _
  exact (θ_run Cert.TailRefIdeal.defs _ _).mono
    (fun r h => ⟨fun c => (h c).2, Idealize.ShloMosaic.sem_eq_zero_of_no_sems (by decide) r.2⟩)
    (Cert.TailRefIdeal.Value.run m g)

/-- The idealized reference of the mixer ends, with its arguments unchanged. -/
theorem mixerRef_frame : Cert.quiescent_MixerRefIdeal := by
  intro m g _
  exact (θ_run Cert.MixerRefIdeal.defs _ _).mono
    (fun r h => ⟨fun c => (h c).2, Idealize.ShloMosaic.sem_eq_zero_of_no_sems (by decide) r.2⟩)
    (Cert.MixerRefIdeal.Value.run m g)

/-- Every claim of the certificate. -/
theorem claim : Cert.Claim :=
  ⟨Cert.Tail.Gen.facts, Cert.TailIdeal.Gen.facts, Cert.TailRefIdeal.Gen.facts,
    Cert.Xattn.Gen.facts, Cert.XattnIdeal.Gen.facts, Cert.XattnRefIdeal.Gen.facts, Cert.Ffn.Gen.facts,
    Cert.FfnIdeal.Gen.facts, Cert.FfnRefIdeal.Gen.facts, Cert.Memkv.Gen.facts, Cert.MemkvIdeal.Gen.facts,
    Cert.MemkvRefIdeal.Gen.facts, Cert.Mixer.Gen.facts, Cert.MixerIdeal.Gen.facts, Cert.MixerRefIdeal.Gen.facts,
    Cert.Pre_finite_inputs.Gen.facts, Cert.Pre_finite_scores.Gen.facts, Cert.Pre_finite_gates.Gen.facts,
    fun m ρ _ => Cert.Tail.Gen.frame m ρ, fun m ρ _ => Cert.TailIdeal.Gen.frame m ρ,
    fun m ρ _ => Cert.TailIdeal.Gen.frame m ρ, tailRef_frame, fun m ρ _ => tailRef_frame m ρ trivial,
    fun m ρ _ => Cert.Xattn.Gen.frame m ρ, fun m ρ _ => Cert.XattnIdeal.Gen.frame m ρ,
    fun m ρ _ => Cert.XattnIdeal.Gen.frame m ρ, xattnRef_frame, fun m ρ _ => xattnRef_frame m ρ trivial,
    fun m ρ _ => Cert.Ffn.Gen.frame m ρ, fun m ρ _ => Cert.FfnIdeal.Gen.frame m ρ, ffnRef_frame,
    fun m ρ _ => Cert.Memkv.Gen.frame m ρ, fun m ρ _ => Cert.MemkvIdeal.Gen.frame m ρ, memkvRef_frame,
    fun m ρ _ => Cert.Mixer.Gen.frame m ρ, fun m ρ _ => Cert.MixerIdeal.Gen.frame m ρ,
    fun m ρ _ => Cert.MixerIdeal.Gen.frame m ρ, mixerRef_frame, fun m ρ _ => mixerRef_frame m ρ trivial,
    trivial, Cert.TailIdeal.Tail.algebraic, trivial, Cert.XattnIdeal.Attn.algebraic, trivial, Cert.FfnIdeal.Half.algebraic, trivial,
    Cert.MemkvIdeal.Mem.algebraic, trivial, Cert.MixerIdeal.Stage.algebraic⟩

end Cert.Proof

end
